-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Kernel7Ideal_finite7 [hPre_finite7 : Cert.Pre_finite7.Facts] (m : (ℓ : Loc Cert.Kernel7Ideal.nD Cert.Kernel7Ideal.τ Cert.Kernel7Ideal.sig) → Buf (Elt Ideal) ℓ) : Prop :=
  ∀ c : Dev Cert.Kernel7Ideal.nD,
    (Cert.Pre_finite7.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4))) = (fun _ => 1#1)

def Pre_Reference7Ideal (m : (ℓ : Loc Cert.Reference7Ideal.nD Cert.Reference7Ideal.τ Cert.Reference7Ideal.sig) → Buf (Elt Ideal) ℓ) : Prop :=
  True

def Pre_Reference7Ideal_finite7 [hPre_finite7 : Cert.Pre_finite7.Facts] (m : (ℓ : Loc Cert.Reference7Ideal.nD Cert.Reference7Ideal.τ Cert.Reference7Ideal.sig) → Buf (Elt Ideal) ℓ) : Prop :=
  ∀ c : Dev Cert.Reference7Ideal.nD,
    (Cert.Pre_finite7.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6)
      ∧ r.2.mem ((c.tc : Thread Cert.Kernel6.nD Cert.Kernel6.τ).loc Cert.Kernel6.main_arg7) = m ((c.tc : Thread Cert.Kernel6.nD Cert.Kernel6.τ).loc Cert.Kernel6.main_arg7)
      ∧ r.2.mem ((c.tc : Thread Cert.Kernel6.nD Cert.Kernel6.τ).loc Cert.Kernel6.main_arg8) = m ((c.tc : Thread Cert.Kernel6.nD Cert.Kernel6.τ).loc Cert.Kernel6.main_arg8)
      ∧ r.2.mem ((c.tc : Thread Cert.Kernel6.nD Cert.Kernel6.τ).loc Cert.Kernel6.main_arg9) = m ((c.tc : Thread Cert.Kernel6.nD Cert.Kernel6.τ).loc Cert.Kernel6.main_arg9)
      ∧ r.2.mem ((c.tc : Thread Cert.Kernel6.nD Cert.Kernel6.τ).loc Cert.Kernel6.main_arg10) = m ((c.tc : Thread Cert.Kernel6.nD Cert.Kernel6.τ).loc Cert.Kernel6.main_arg10))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
      ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
      ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9)
      ∧ r.2.mem ((c.tc : Thread Cert.Kernel6Ideal.nD Cert.Kernel6Ideal.τ).loc Cert.Kernel6Ideal.main_arg10) = m ((c.tc : Thread Cert.Kernel6Ideal.nD Cert.Kernel6Ideal.τ).loc Cert.Kernel6Ideal.main_arg10))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7)
      ∧ r.2.mem ((c.tc : Thread Cert.Reference6Ideal.nD Cert.Reference6Ideal.τ).loc Cert.Reference6Ideal.main_arg8) = m ((c.tc : Thread Cert.Reference6Ideal.nD Cert.Reference6Ideal.τ).loc Cert.Reference6Ideal.main_arg8)
      ∧ r.2.mem ((c.tc : Thread Cert.Reference6Ideal.nD Cert.Reference6Ideal.τ).loc Cert.Reference6Ideal.main_arg9) = m ((c.tc : Thread Cert.Reference6Ideal.nD Cert.Reference6Ideal.τ).loc Cert.Reference6Ideal.main_arg9)
      ∧ r.2.mem ((c.tc : Thread Cert.Reference6Ideal.nD Cert.Reference6Ideal.τ).loc Cert.Reference6Ideal.main_arg10) = m ((c.tc : Thread Cert.Reference6Ideal.nD Cert.Reference6Ideal.τ).loc Cert.Reference6Ideal.main_arg10))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ r.2.sem = fun _ => 0)

def quiescent_Kernel7Ideal_pre_finite7 [hKernel7Ideal : Cert.Kernel7Ideal.Facts] [hPre_finite7 : Cert.Pre_finite7.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal_finite7 m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4))
      ∧ r.2.sem = fun _ => 0)

def quiescent_Reference7Ideal_pre_finite7 [hReference7Ideal : Cert.Reference7Ideal.Facts] [hPre_finite7 : Cert.Pre_finite7.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal_finite7 m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v53)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v53) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v110) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v20)) (v1 : (c : Dev Cert.Kernel2Ideal.nD) → Buf (Elt Ideal) ((c.tc : Thread Cert.Kernel2Ideal.nD Cert.Kernel2Ideal.τ).loc Cert.Kernel2Ideal.main_v22)) (v2 : (c : Dev Cert.Kernel2Ideal.nD) → Buf (Elt Ideal) ((c.tc : Thread Cert.Kernel2Ideal.nD Cert.Kernel2Ideal.τ).loc Cert.Kernel2Ideal.main_v24)) (v3 : (c : Dev Cert.Kernel2Ideal.nD) → Buf (Elt Ideal) ((c.tc : Thread Cert.Kernel2Ideal.nD Cert.Kernel2Ideal.τ).loc Cert.Kernel2Ideal.main_v17_0)) (v4 : (c : Dev Cert.Kernel2Ideal.nD) → Buf (Elt Ideal) ((c.tc : Thread Cert.Kernel2Ideal.nD Cert.Kernel2Ideal.τ).loc Cert.Kernel2Ideal.main_v17_1)) (v5 : (c : Dev Cert.Kernel2Ideal.nD) → Buf (Elt Ideal) ((c.tc : Thread Cert.Kernel2Ideal.nD Cert.Kernel2Ideal.τ).loc Cert.Kernel2Ideal.main_v25)) (v6 : (c : Dev Cert.Kernel2Ideal.nD) → Buf (Elt Ideal) ((c.tc : Thread Cert.Kernel2Ideal.nD Cert.Kernel2Ideal.τ).loc Cert.Kernel2Ideal.main_v17_3)) (v7 : (c : Dev Cert.Kernel2Ideal.nD) → Buf (Elt Ideal) ((c.tc : Thread Cert.Kernel2Ideal.nD Cert.Kernel2Ideal.τ).loc Cert.Kernel2Ideal.main_v17_4)) (v8 : (c : Dev Cert.Kernel2Ideal.nD) → Buf (Elt Ideal) ((c.tc : Thread Cert.Kernel2Ideal.nD Cert.Kernel2Ideal.τ).loc Cert.Kernel2Ideal.main_v17_5)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v20) = v0 c
          ∧ r.2.mem ((c.tc : Thread Cert.Kernel2Ideal.nD Cert.Kernel2Ideal.τ).loc Cert.Kernel2Ideal.main_v22) = v1 c
          ∧ r.2.mem ((c.tc : Thread Cert.Kernel2Ideal.nD Cert.Kernel2Ideal.τ).loc Cert.Kernel2Ideal.main_v24) = v2 c
          ∧ r.2.mem ((c.tc : Thread Cert.Kernel2Ideal.nD Cert.Kernel2Ideal.τ).loc Cert.Kernel2Ideal.main_v17_0) = v3 c
          ∧ r.2.mem ((c.tc : Thread Cert.Kernel2Ideal.nD Cert.Kernel2Ideal.τ).loc Cert.Kernel2Ideal.main_v17_1) = v4 c
          ∧ r.2.mem ((c.tc : Thread Cert.Kernel2Ideal.nD Cert.Kernel2Ideal.τ).loc Cert.Kernel2Ideal.main_v25) = v5 c
          ∧ r.2.mem ((c.tc : Thread Cert.Kernel2Ideal.nD Cert.Kernel2Ideal.τ).loc Cert.Kernel2Ideal.main_v17_3) = v6 c
          ∧ r.2.mem ((c.tc : Thread Cert.Kernel2Ideal.nD Cert.Kernel2Ideal.τ).loc Cert.Kernel2Ideal.main_v17_4) = v7 c
          ∧ r.2.mem ((c.tc : Thread Cert.Kernel2Ideal.nD Cert.Kernel2Ideal.τ).loc Cert.Kernel2Ideal.main_v17_5) = v8 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v44) = v0 c
          ∧ r.2.mem ((c.tc : Thread Cert.Reference2Ideal.nD Cert.Reference2Ideal.τ).loc Cert.Reference2Ideal.main_v45) = v1 c
          ∧ r.2.mem ((c.tc : Thread Cert.Reference2Ideal.nD Cert.Reference2Ideal.τ).loc Cert.Reference2Ideal.main_v48) = v2 c
          ∧ r.2.mem ((c.tc : Thread Cert.Reference2Ideal.nD Cert.Reference2Ideal.τ).loc Cert.Reference2Ideal.main_v50) = v3 c
          ∧ r.2.mem ((c.tc : Thread Cert.Reference2Ideal.nD Cert.Reference2Ideal.τ).loc Cert.Reference2Ideal.main_v51) = v4 c
          ∧ r.2.mem ((c.tc : Thread Cert.Reference2Ideal.nD Cert.Reference2Ideal.τ).loc Cert.Reference2Ideal.main_v53) = v5 c
          ∧ r.2.mem ((c.tc : Thread Cert.Reference2Ideal.nD Cert.Reference2Ideal.τ).loc Cert.Reference2Ideal.main_v54) = v6 c
          ∧ r.2.mem ((c.tc : Thread Cert.Reference2Ideal.nD Cert.Reference2Ideal.τ).loc Cert.Reference2Ideal.main_v55) = v7 c
          ∧ r.2.mem ((c.tc : Thread Cert.Reference2Ideal.nD Cert.Reference2Ideal.τ).loc Cert.Reference2Ideal.main_v56) = v8 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)) →
    ∃ (v0 : (c : Dev Cert.Kernel3Ideal.nD) → Buf (Elt Ideal) ((c.tc : Thread Cert.Kernel3Ideal.nD Cert.Kernel3Ideal.τ).loc Cert.Kernel3Ideal.main_v8_0)) (v1 : (c : Dev Cert.Kernel3Ideal.nD) → Buf (Elt Ideal) ((c.tc : Thread Cert.Kernel3Ideal.nD Cert.Kernel3Ideal.τ).loc Cert.Kernel3Ideal.main_v8_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v8_0) = v0 c
          ∧ r.2.mem ((c.tc : Thread Cert.Kernel3Ideal.nD Cert.Kernel3Ideal.τ).loc Cert.Kernel3Ideal.main_v8_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
          ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v70) = v0 c
          ∧ r.2.mem ((c.tc : Thread Cert.Reference3Ideal.nD Cert.Reference3Ideal.τ).loc Cert.Reference3Ideal.main_v71) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9)
          ∧ r.2.mem ((c.tc : Thread Cert.Reference3Ideal.nD Cert.Reference3Ideal.τ).loc Cert.Reference3Ideal.main_arg10) = m' ((c.tc : Thread Cert.Reference3Ideal.nD Cert.Reference3Ideal.τ).loc Cert.Reference3Ideal.main_arg10))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)) →
    ∃ (v0 : (c : Dev Cert.Kernel4Ideal.nD) → Buf (Elt Ideal) ((c.tc : Thread Cert.Kernel4Ideal.nD Cert.Kernel4Ideal.τ).loc Cert.Kernel4Ideal.main_v23)) (v1 : (c : Dev Cert.Kernel4Ideal.nD) → Buf (Elt Ideal) ((c.tc : Thread Cert.Kernel4Ideal.nD Cert.Kernel4Ideal.τ).loc Cert.Kernel4Ideal.main_v25)) (v2 : (c : Dev Cert.Kernel4Ideal.nD) → Buf (Elt Ideal) ((c.tc : Thread Cert.Kernel4Ideal.nD Cert.Kernel4Ideal.τ).loc Cert.Kernel4Ideal.main_v28)) (v3 : (c : Dev Cert.Kernel4Ideal.nD) → Buf (Elt Ideal) ((c.tc : Thread Cert.Kernel4Ideal.nD Cert.Kernel4Ideal.τ).loc Cert.Kernel4Ideal.main_v17_0)) (v4 : (c : Dev Cert.Kernel4Ideal.nD) → Buf (Elt Ideal) ((c.tc : Thread Cert.Kernel4Ideal.nD Cert.Kernel4Ideal.τ).loc Cert.Kernel4Ideal.main_v17_1)) (v5 : (c : Dev Cert.Kernel4Ideal.nD) → Buf (Elt Ideal) ((c.tc : Thread Cert.Kernel4Ideal.nD Cert.Kernel4Ideal.τ).loc Cert.Kernel4Ideal.main_v29)) (v6 : (c : Dev Cert.Kernel4Ideal.nD) → Buf (Elt Ideal) ((c.tc : Thread Cert.Kernel4Ideal.nD Cert.Kernel4Ideal.τ).loc Cert.Kernel4Ideal.main_v17_3)) (v7 : (c : Dev Cert.Kernel4Ideal.nD) → Buf (Elt Ideal) ((c.tc : Thread Cert.Kernel4Ideal.nD Cert.Kernel4Ideal.τ).loc Cert.Kernel4Ideal.main_v17_4)) (v8 : (c : Dev Cert.Kernel4Ideal.nD) → Buf (Elt Ideal) ((c.tc : Thread Cert.Kernel4Ideal.nD Cert.Kernel4Ideal.τ).loc Cert.Kernel4Ideal.main_v17_5)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v23) = v0 c
          ∧ r.2.mem ((c.tc : Thread Cert.Kernel4Ideal.nD Cert.Kernel4Ideal.τ).loc Cert.Kernel4Ideal.main_v25) = v1 c
          ∧ r.2.mem ((c.tc : Thread Cert.Kernel4Ideal.nD Cert.Kernel4Ideal.τ).loc Cert.Kernel4Ideal.main_v28) = v2 c
          ∧ r.2.mem ((c.tc : Thread Cert.Kernel4Ideal.nD Cert.Kernel4Ideal.τ).loc Cert.Kernel4Ideal.main_v17_0) = v3 c
          ∧ r.2.mem ((c.tc : Thread Cert.Kernel4Ideal.nD Cert.Kernel4Ideal.τ).loc Cert.Kernel4Ideal.main_v17_1) = v4 c
          ∧ r.2.mem ((c.tc : Thread Cert.Kernel4Ideal.nD Cert.Kernel4Ideal.τ).loc Cert.Kernel4Ideal.main_v29) = v5 c
          ∧ r.2.mem ((c.tc : Thread Cert.Kernel4Ideal.nD Cert.Kernel4Ideal.τ).loc Cert.Kernel4Ideal.main_v17_3) = v6 c
          ∧ r.2.mem ((c.tc : Thread Cert.Kernel4Ideal.nD Cert.Kernel4Ideal.τ).loc Cert.Kernel4Ideal.main_v17_4) = v7 c
          ∧ r.2.mem ((c.tc : Thread Cert.Kernel4Ideal.nD Cert.Kernel4Ideal.τ).loc Cert.Kernel4Ideal.main_v17_5) = v8 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v44) = v0 c
          ∧ r.2.mem ((c.tc : Thread Cert.Reference4Ideal.nD Cert.Reference4Ideal.τ).loc Cert.Reference4Ideal.main_v45) = v1 c
          ∧ r.2.mem ((c.tc : Thread Cert.Reference4Ideal.nD Cert.Reference4Ideal.τ).loc Cert.Reference4Ideal.main_v47) = v2 c
          ∧ r.2.mem ((c.tc : Thread Cert.Reference4Ideal.nD Cert.Reference4Ideal.τ).loc Cert.Reference4Ideal.main_v49) = v3 c
          ∧ r.2.mem ((c.tc : Thread Cert.Reference4Ideal.nD Cert.Reference4Ideal.τ).loc Cert.Reference4Ideal.main_v50) = v4 c
          ∧ r.2.mem ((c.tc : Thread Cert.Reference4Ideal.nD Cert.Reference4Ideal.τ).loc Cert.Reference4Ideal.main_v52) = v5 c
          ∧ r.2.mem ((c.tc : Thread Cert.Reference4Ideal.nD Cert.Reference4Ideal.τ).loc Cert.Reference4Ideal.main_v53) = v6 c
          ∧ r.2.mem ((c.tc : Thread Cert.Reference4Ideal.nD Cert.Reference4Ideal.τ).loc Cert.Reference4Ideal.main_v54) = v7 c
          ∧ r.2.mem ((c.tc : Thread Cert.Reference4Ideal.nD Cert.Reference4Ideal.τ).loc Cert.Reference4Ideal.main_v55) = v8 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v3)) (v1 : (c : Dev Cert.Kernel5Ideal.nD) → Buf (Elt Ideal) ((c.tc : Thread Cert.Kernel5Ideal.nD Cert.Kernel5Ideal.τ).loc Cert.Kernel5Ideal.main_v4)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v3) = v0 c
          ∧ r.2.mem ((c.tc : Thread Cert.Kernel5Ideal.nD Cert.Kernel5Ideal.τ).loc Cert.Kernel5Ideal.main_v4) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v4) = v0 c
          ∧ r.2.mem ((c.tc : Thread Cert.Reference5Ideal.nD Cert.Reference5Ideal.τ).loc Cert.Reference5Ideal.main_v9) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)
      ∧ m' ((c.tc : Thread Cert.Reference6Ideal.nD Cert.Reference6Ideal.τ).loc Cert.Reference6Ideal.main_arg7) = m ((c.tc : Thread Cert.Kernel6Ideal.nD Cert.Kernel6Ideal.τ).loc Cert.Kernel6Ideal.main_arg7)
      ∧ m' ((c.tc : Thread Cert.Reference6Ideal.nD Cert.Reference6Ideal.τ).loc Cert.Reference6Ideal.main_arg8) = m ((c.tc : Thread Cert.Kernel6Ideal.nD Cert.Kernel6Ideal.τ).loc Cert.Kernel6Ideal.main_arg8)
      ∧ m' ((c.tc : Thread Cert.Reference6Ideal.nD Cert.Reference6Ideal.τ).loc Cert.Reference6Ideal.main_arg9) = m ((c.tc : Thread Cert.Kernel6Ideal.nD Cert.Kernel6Ideal.τ).loc Cert.Kernel6Ideal.main_arg9)
      ∧ m' ((c.tc : Thread Cert.Reference6Ideal.nD Cert.Reference6Ideal.τ).loc Cert.Reference6Ideal.main_arg10) = m ((c.tc : Thread Cert.Kernel6Ideal.nD Cert.Kernel6Ideal.τ).loc Cert.Kernel6Ideal.main_arg10)) →
    ∃ (v0 : (c : Dev Cert.Kernel6Ideal.nD) → Buf (Elt Ideal) ((c.tc : Thread Cert.Kernel6Ideal.nD Cert.Kernel6Ideal.τ).loc Cert.Kernel6Ideal.main_v8_0)) (v1 : (c : Dev Cert.Kernel6Ideal.nD) → Buf (Elt Ideal) ((c.tc : Thread Cert.Kernel6Ideal.nD Cert.Kernel6Ideal.τ).loc Cert.Kernel6Ideal.main_v8_1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v8_0) = v0 c
          ∧ r.2.mem ((c.tc : Thread Cert.Kernel6Ideal.nD Cert.Kernel6Ideal.τ).loc Cert.Kernel6Ideal.main_v8_1) = v1 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
          ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
          ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
          ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9)
          ∧ r.2.mem ((c.tc : Thread Cert.Kernel6Ideal.nD Cert.Kernel6Ideal.τ).loc Cert.Kernel6Ideal.main_arg10) = m ((c.tc : Thread Cert.Kernel6Ideal.nD Cert.Kernel6Ideal.τ).loc Cert.Kernel6Ideal.main_arg10))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v67) = v0 c
          ∧ r.2.mem ((c.tc : Thread Cert.Reference6Ideal.nD Cert.Reference6Ideal.τ).loc Cert.Reference6Ideal.main_v68) = v1 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6)
          ∧ r.2.mem ((c.tc : Thread Cert.Reference6Ideal.nD Cert.Reference6Ideal.τ).loc Cert.Reference6Ideal.main_arg7) = m' ((c.tc : Thread Cert.Reference6Ideal.nD Cert.Reference6Ideal.τ).loc Cert.Reference6Ideal.main_arg7)
          ∧ r.2.mem ((c.tc : Thread Cert.Reference6Ideal.nD Cert.Reference6Ideal.τ).loc Cert.Reference6Ideal.main_arg8) = m' ((c.tc : Thread Cert.Reference6Ideal.nD Cert.Reference6Ideal.τ).loc Cert.Reference6Ideal.main_arg8)
          ∧ r.2.mem ((c.tc : Thread Cert.Reference6Ideal.nD Cert.Reference6Ideal.τ).loc Cert.Reference6Ideal.main_arg9) = m' ((c.tc : Thread Cert.Reference6Ideal.nD Cert.Reference6Ideal.τ).loc Cert.Reference6Ideal.main_arg9)
          ∧ r.2.mem ((c.tc : Thread Cert.Reference6Ideal.nD Cert.Reference6Ideal.τ).loc Cert.Reference6Ideal.main_arg10) = m' ((c.tc : Thread Cert.Reference6Ideal.nD Cert.Reference6Ideal.τ).loc Cert.Reference6Ideal.main_arg10))

def preserves_Kernel7_Kernel7Ideal : Prop :=
  True

def algebraic_Kernel7Ideal_Reference7Ideal_pre_finite7 [hKernel7Ideal : Cert.Kernel7Ideal.Facts] [hReference7Ideal : Cert.Reference7Ideal.Facts] [hPre_finite7 : Cert.Pre_finite7.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal_finite7 m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)) →
    ∃ (v0 : (c : Dev Cert.Kernel7Ideal.nD) → Buf (Elt Ideal) ((c.tc : Thread Cert.Kernel7Ideal.nD Cert.Kernel7Ideal.τ).loc Cert.Kernel7Ideal.main_v45)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v45) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v91) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hPre_finite7 : Cert.Pre_finite7.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Kernel7Ideal_pre_finite7 (hKernel7Ideal := hKernel7Ideal) (hPre_finite7 := hPre_finite7)
    ∧ quiescent_Reference7Ideal (hReference7Ideal := hReference7Ideal)
    ∧ quiescent_Reference7Ideal_pre_finite7 (hReference7Ideal := hReference7Ideal) (hPre_finite7 := hPre_finite7)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal_pre_finite7 (hKernel7Ideal := hKernel7Ideal) (hReference7Ideal := hReference7Ideal) (hPre_finite7 := hPre_finite7)
-- ==== Pre_finite7.lean ====
abbrev S128x768 : Shape := ⟨2, ![128, 768]⟩
abbrev S128x128x2x64 : Shape := ⟨4, ![128, 128, 2, 64]⟩
abbrev S8 : Shape := ⟨1, ![8]⟩
abbrev S32x8 : Shape := ⟨2, ![32, 8]⟩
abbrev S128x640 : Shape := ⟨2, ![128, 640]⟩
abbrev S128x127x2x64 : Shape := ⟨4, ![128, 127, 2, 64]⟩
abbrev S_ : Shape := ⟨0, ![]⟩
abbrev S81920 : Shape := ⟨1, ![81920]⟩
abbrev S2080768 : Shape := ⟨1, ![2080768]⟩
abbrev S256 : Shape := ⟨1, ![256]⟩
abbrev S2162952 : Shape := ⟨1, ![2162952]⟩

class Facts : Prop where
  slices_S128x768_S128x640_0_0 : S128x768.Slices ![0, 0] S128x640
  slices_S128x128x2x64_S128x127x2x64_0_1_0_0 : S128x128x2x64.Slices ![0, 1, 0, 0] S128x127x2x64
  bcast_S_S128x640 : S_.BroadcastsInDim S128x640 (![] : Fin 0 → Fin S128x640.rank)
  shapeCasts_S128x640_S81920 : S128x640.ShapeCasts S81920
  bcast_S_S128x127x2x64 : S_.BroadcastsInDim S128x127x2x64 (![] : Fin 0 → Fin S128x127x2x64.rank)
  shapeCasts_S128x127x2x64_S2080768 : S128x127x2x64.ShapeCasts S2080768
  bcast_S_S8 : S_.BroadcastsInDim S8 (![] : Fin 0 → Fin S8.rank)
  bcast_S_S32x8 : S_.BroadcastsInDim S32x8 (![] : Fin 0 → Fin S32x8.rank)
  shapeCasts_S32x8_S256 : S32x8.ShapeCasts S256
  concatenates_S81920_S2080768_S8_S256_S2162952_d0 : Shape.Concatenates [S81920, S2080768, S8, S256] S2162952 0

variable [Facts]

def fn {F : FTy → Type} [FloatOps F] (main_arg0 : FVec F S128x768 .f32) (main_arg1 : FVec F S128x128x2x64 .f32) (main_arg2 : FVec F S128x128x2x64 .f32) (main_arg3 : FVec F S8 .f32) (main_arg4 : FVec F S32x8 .f32) : IVec S2162952 1 :=
  let main_v0 : FVec F S128x640 .f32 := (extractStridedSlice S128x640 ![0, 0] · slices_S128x768_S128x640_0_0) main_arg0
  let main_v1 : FVec F S128x127x2x64 .f32 := (extractStridedSlice S128x127x2x64 ![0, 1, 0, 0] · slices_S128x128x2x64_S128x127x2x64_0_1_0_0) main_arg1
  let main_v2 : FVec F S128x640 .f32 := Host.absf main_v0
  let main_cst : FVec F S_ .f32 := constant S_ .f32 0x7F800000#32
  let main_v3 : FVec F S128x640 .f32 := broadcastInDim S128x640 ![] bcast_S_S128x640 main_cst
  let main_v4 : IVec S128x640 1 := cmpf .olt main_v2 main_v3
  let main_v5 : IVec S81920 1 := shapeCast S81920 main_v4 shapeCasts_S128x640_S81920
  let main_v6 : FVec F S128x127x2x64 .f32 := Host.absf main_v1
  let main_cst_0 : FVec F S_ .f32 := constant S_ .f32 0x7F800000#32
  let main_v7 : FVec F S128x127x2x64 .f32 := broadcastInDim S128x127x2x64 ![] bcast_S_S128x127x2x64 main_cst_0
  let main_v8 : IVec S128x127x2x64 1 := cmpf .olt main_v6 main_v7
  let main_v9 : IVec S2080768 1 := shapeCast S2080768 main_v8 shapeCasts_S128x127x2x64_S2080768
  let main_v10 : FVec F S8 .f32 := Host.absf main_arg3
  let main_cst_1 : FVec F S_ .f32 := constant S_ .f32 0x7F800000#32
  let main_v11 : FVec F S8 .f32 := broadcastInDim S8 ![] bcast_S_S8 main_cst_1
  let main_v12 : IVec S8 1 := cmpf .olt main_v10 main_v11
  let main_v13 : FVec F S32x8 .f32 := Host.absf main_arg4
  let main_cst_2 : FVec F S_ .f32 := constant S_ .f32 0x7F800000#32
  let main_v14 : FVec F S32x8 .f32 := broadcastInDim S32x8 ![] bcast_S_S32x8 main_cst_2
  let main_v15 : IVec S32x8 1 := cmpf .olt main_v13 main_v14
  let main_v16 : IVec S256 1 := shapeCast S256 main_v15 shapeCasts_S32x8_S256
  let main_v17 : IVec S2162952 1 := concatenate S2162952 0 [⟨S81920, main_v5⟩, ⟨S2080768, main_v9⟩, ⟨S8, main_v12⟩, ⟨S256, main_v16⟩] concatenates_S81920_S2080768_S8_S256_S2162952_d0
  main_v17
-- ==== Kernel.lean ====
abbrev S32768x768 : Shape := ⟨2, ![32768, 768]⟩
abbrev S8 : Shape := ⟨1, ![8]⟩
abbrev S32x8 : Shape := ⟨2, ![32, 8]⟩
abbrev S128 : Shape := ⟨1, ![128]⟩
abbrev S128x1 : Shape := ⟨2, ![128, 1]⟩
abbrev S256 : Shape := ⟨1, ![256]⟩
abbrev S1x256 : Shape := ⟨2, ![1, 256]⟩
abbrev S_ : Shape := ⟨0, ![]⟩
abbrev S128x256 : Shape := ⟨2, ![128, 256]⟩
abbrev S128x256x1 : Shape := ⟨3, ![128, 256, 1]⟩
abbrev S128x256x8 : Shape := ⟨3, ![128, 256, 8]⟩
abbrev S8x128x256 : Shape := ⟨3, ![8, 128, 256]⟩
abbrev S1x128x256 : Shape := ⟨3, ![1, 128, 256]⟩
abbrev S1x8x128x256 : Shape := ⟨4, ![1, 8, 128, 256]⟩
abbrev S2x8x128x256 : Shape := ⟨4, ![2, 8, 128, 256]⟩
abbrev S32768x512 : Shape := ⟨2, ![32768, 512]⟩
abbrev S128x512 : Shape := ⟨2, ![128, 512]⟩
abbrev S128x128 : Shape := ⟨2, ![128, 128]⟩
abbrev S256x128 : Shape := ⟨2, ![256, 128]⟩
abbrev S128x64 : Shape := ⟨2, ![128, 64]⟩
abbrev S256x64 : Shape := ⟨2, ![256, 64]⟩
abbrev S1x1x128x256 : Shape := ⟨4, ![1, 1, 128, 256]⟩
abbrev S1 : Shape := ⟨1, ![1]⟩

abbrev nBuf : Space → Nat
  | .hbm => 79
  | .vmem => 14
  | .smem => 1
  | _ => 0

abbrev bufTy : (tb : Table) → Fin (tcTables nBuf tb) → BufTy
  | .hbm, ⟨0, _⟩ => ⟨S32768x768, .f32⟩
  | .hbm, ⟨1, _⟩ => ⟨S8, .f32⟩
  | .hbm, ⟨2, _⟩ => ⟨S32x8, .f32⟩
  | .hbm, ⟨3, _⟩ => ⟨S128, .i32⟩
  | .hbm, ⟨4, _⟩ => ⟨S128x1, .i32⟩
  | .hbm, ⟨5, _⟩ => ⟨S256, .i32⟩
  | .hbm, ⟨6, _⟩ => ⟨S1x256, .i32⟩
  | .hbm, ⟨7, _⟩ => ⟨S_, .i32⟩
  | .hbm, ⟨8, _⟩ => ⟨S128x1, .i32⟩
  | .hbm, ⟨9, _⟩ => ⟨S128x1, .i32⟩
  | .hbm, ⟨10, _⟩ => ⟨S128x256, .i32⟩
  | .hbm, ⟨11, _⟩ => ⟨S128x256, .i32⟩
  | .hbm, ⟨12, _⟩ => ⟨S128x256, .i32⟩
  | .hbm, ⟨13, _⟩ => ⟨S_, .i32⟩
  | .hbm, ⟨14, _⟩ => ⟨S128x256, .i32⟩
  | .hbm, ⟨15, _⟩ => ⟨S128x256, .i1⟩
  | .hbm, ⟨16, _⟩ => ⟨S_, .i32⟩
  | .hbm, ⟨17, _⟩ => ⟨S128x256, .i32⟩
  | .hbm, ⟨18, _⟩ => ⟨S128x256, .i1⟩
  | .hbm, ⟨19, _⟩ => ⟨S128x256, .i1⟩
  | .hbm, ⟨20, _⟩ => ⟨S_, .i32⟩
  | .hbm, ⟨21, _⟩ => ⟨S128x256, .i32⟩
  | .hbm, ⟨22, _⟩ => ⟨S128x256, .i32⟩
  | .hbm, ⟨23, _⟩ => ⟨S_, .i32⟩
  | .hbm, ⟨24, _⟩ => ⟨S128x256, .i32⟩
  | .hbm, ⟨25, _⟩ => ⟨S128x256, .i32⟩
  | .hbm, ⟨26, _⟩ => ⟨S128x256, .f32⟩
  | .hbm, ⟨27, _⟩ => ⟨S_, .f32⟩
  | .hbm, ⟨28, _⟩ => ⟨S128x256, .f32⟩
  | .hbm, ⟨29, _⟩ => ⟨S128x256, .f32⟩
  | .hbm, ⟨30, _⟩ => ⟨S128x256, .f32⟩
  | .hbm, ⟨31, _⟩ => ⟨S_, .f32⟩
  | .hbm, ⟨32, _⟩ => ⟨S128x256, .f32⟩
  | .hbm, ⟨33, _⟩ => ⟨S128x256, .f32⟩
  | .hbm, ⟨34, _⟩ => ⟨S_, .f32⟩
  | .hbm, ⟨35, _⟩ => ⟨S128x256, .f32⟩
  | .hbm, ⟨36, _⟩ => ⟨S128x256, .f32⟩
  | .hbm, ⟨37, _⟩ => ⟨S128x256, .i32⟩
  | .hbm, ⟨38, _⟩ => ⟨S_, .i32⟩
  | .hbm, ⟨39, _⟩ => ⟨S128x256, .i32⟩
  | .hbm, ⟨40, _⟩ => ⟨S128x256, .i32⟩
  | .hbm, ⟨41, _⟩ => ⟨S_, .i32⟩
  | .hbm, ⟨42, _⟩ => ⟨S128x256, .i32⟩
  | .hbm, ⟨43, _⟩ => ⟨S128x256, .i1⟩
  | .hbm, ⟨44, _⟩ => ⟨S_, .i32⟩
  | .hbm, ⟨45, _⟩ => ⟨S128x256, .i32⟩
  | .hbm, ⟨46, _⟩ => ⟨S128x256, .i32⟩
  | .hbm, ⟨47, _⟩ => ⟨S128x256, .i32⟩
  | .hbm, ⟨48, _⟩ => ⟨S_, .i32⟩
  | .hbm, ⟨49, _⟩ => ⟨S128x256, .i32⟩
  | .hbm, ⟨50, _⟩ => ⟨S128x256, .i1⟩
  | .hbm, ⟨51, _⟩ => ⟨S_, .i32⟩
  | .hbm, ⟨52, _⟩ => ⟨S128x256, .i32⟩
  | .hbm, ⟨53, _⟩ => ⟨S128x256, .i32⟩
  | .hbm, ⟨54, _⟩ => ⟨S128x256, .i32⟩
  | .hbm, ⟨55, _⟩ => ⟨S128x256x1, .i32⟩
  | .hbm, ⟨56, _⟩ => ⟨S128x256x8, .f32⟩
  | .hbm, ⟨57, _⟩ => ⟨S8x128x256, .f32⟩
  | .hbm, ⟨58, _⟩ => ⟨S1x128x256, .i1⟩
  | .hbm, ⟨59, _⟩ => ⟨S_, .f32⟩
  | .hbm, ⟨60, _⟩ => ⟨S_, .f32⟩
  | .hbm, ⟨61, _⟩ => ⟨S8x128x256, .i1⟩
  | .hbm, ⟨62, _⟩ => ⟨S8x128x256, .f32⟩
  | .hbm, ⟨63, _⟩ => ⟨S8x128x256, .f32⟩
  | .hbm, ⟨64, _⟩ => ⟨S_, .i32⟩
  | .hbm, ⟨65, _⟩ => ⟨S1x256, .i32⟩
  | .hbm, ⟨66, _⟩ => ⟨S1x256, .i1⟩
  | .hbm, ⟨67, _⟩ => ⟨S128x256, .i1⟩
  | .hbm, ⟨68, _⟩ => ⟨S128x256, .i1⟩
  | .hbm, ⟨69, _⟩ => ⟨S1x128x256, .i1⟩
  | .hbm, ⟨70, _⟩ => ⟨S_, .f32⟩
  | .hbm, ⟨71, _⟩ => ⟨S_, .f32⟩
  | .hbm, ⟨72, _⟩ => ⟨S8x128x256, .i1⟩
  | .hbm, ⟨73, _⟩ => ⟨S8x128x256, .f32⟩
  | .hbm, ⟨74, _⟩ => ⟨S8x128x256, .f32⟩
  | .hbm, ⟨75, _⟩ => ⟨S1x8x128x256, .f32⟩
  | .hbm, ⟨76, _⟩ => ⟨S1x8x128x256, .f32⟩
  | .hbm, ⟨77, _⟩ => ⟨S2x8x128x256, .f32⟩
  | .hbm, ⟨78, _⟩ => ⟨S32768x512, .f32⟩
  | .local _ .vmem, ⟨0, _⟩ => ⟨S128x512, .f32⟩
  | .local _ .vmem, ⟨1, _⟩ => ⟨S128x512, .f32⟩
  | .local _ .vmem, ⟨2, _⟩ => ⟨S128x128, .f32⟩
  | .local _ .vmem, ⟨3, _⟩ => ⟨S128x128, .f32⟩
  | .local _ .vmem, ⟨4, _⟩ => ⟨S128x128, .f32⟩
  | .local _ .vmem, ⟨5, _⟩ => ⟨S128x128, .f32⟩
  | .local _ .vmem, ⟨6, _⟩ => ⟨S128x128, .f32⟩
  | .local _ .vmem, ⟨7, _⟩ => ⟨S128x128, .f32⟩
  | .local _ .vmem, ⟨8, _⟩ => ⟨S128x128, .f32⟩
  | .local _ .vmem, ⟨9, _⟩ => ⟨S128x128, .f32⟩
  | .local _ .vmem, ⟨10, _⟩ => ⟨S1x8x128x256, .f32⟩
  | .local _ .vmem, ⟨11, _⟩ => ⟨S1x8x128x256, .f32⟩
  | .local _ .vmem, ⟨12, _⟩ => ⟨S128x512, .f32⟩
  | .local _ .vmem, ⟨13, _⟩ => ⟨S128x512, .f32⟩
  | .local _ .smem, ⟨0, _⟩ => ⟨S8, .f32⟩
  | _, _ => ⟨S32768x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .smem, ⟨0, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_c : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_c_0 : Ref sig .tc := ⟨.hbm, 13, rfl⟩
abbrev main_v9 : Ref sig .tc := ⟨.hbm, 14, rfl⟩
abbrev main_v10 : Ref sig .tc := ⟨.hbm, 15, rfl⟩
abbrev main_c_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_c_2 : Ref sig .tc := ⟨.hbm, 20, rfl⟩
abbrev main_v14 : Ref sig .tc := ⟨.hbm, 21, rfl⟩
abbrev main_v15 : Ref sig .tc := ⟨.hbm, 22, rfl⟩
abbrev main_c_3 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_4 : Ref sig .tc := ⟨.hbm, 31, rfl⟩
abbrev main_v22 : Ref sig .tc := ⟨.hbm, 32, rfl⟩
abbrev main_v23 : Ref sig .tc := ⟨.hbm, 33, rfl⟩
abbrev main_cst_5 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_c_6 : Ref sig .tc := ⟨.hbm, 38, rfl⟩
abbrev main_v27 : Ref sig .tc := ⟨.hbm, 39, rfl⟩
abbrev main_v28 : Ref sig .tc := ⟨.hbm, 40, rfl⟩
abbrev main_c_7 : Ref sig .tc := ⟨.hbm, 41, rfl⟩
abbrev main_v29 : Ref sig .tc := ⟨.hbm, 42, rfl⟩
abbrev main_v30 : Ref sig .tc := ⟨.hbm, 43, rfl⟩
abbrev main_c_8 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_c_9 : Ref sig .tc := ⟨.hbm, 48, rfl⟩
abbrev main_v34 : Ref sig .tc := ⟨.hbm, 49, rfl⟩
abbrev main_v35 : Ref sig .tc := ⟨.hbm, 50, rfl⟩
abbrev main_c_10 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_cst_11 : Ref sig .tc := ⟨.hbm, 59, rfl⟩
abbrev main_call1_v0 : Ref sig .tc := ⟨.hbm, 60, rfl⟩
abbrev main_call1_v1 : Ref sig .tc := ⟨.hbm, 61, rfl⟩
abbrev main_call1_v2 : Ref sig .tc := ⟨.hbm, 62, rfl⟩
abbrev main_v43 : Ref sig .tc := ⟨.hbm, 63, rfl⟩
abbrev main_c_12 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_cst_13 : Ref sig .tc := ⟨.hbm, 70, rfl⟩
abbrev main_call2_v0 : Ref sig .tc := ⟨.hbm, 71, rfl⟩
abbrev main_call2_v1 : Ref sig .tc := ⟨.hbm, 72, rfl⟩
abbrev main_call2_v2 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨2, ![8, 32], ![false, false]⟩

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let c1_i32 : BitVec 32 := 1#32
  let v1 : BitVec 32 := Scalar.subi arg1 c1_i32
  let c0_i32 : BitVec 32 := 0#32
  let v2 : BitVec 32 := Scalar.maxsi v1 c0_i32
  let v3 : BitVec 32 := Scalar.addi v0 v2
  let c4_i32 : BitVec 32 := 4#32
  let c0_i32_0 : BitVec 32 := 0#32
  ![v3.toNat, c4_i32.toNat]

def cc0_transform_3 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c4_i32 : BitVec 32 := 4#32
  let c0_i32 : BitVec 32 := 0#32
  ![v1.toNat, c4_i32.toNat]

def cc0_transform_4 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let c1_i32 : BitVec 32 := 1#32
  let v1 : BitVec 32 := Scalar.subi arg1 c1_i32
  let c0_i32 : BitVec 32 := 0#32
  let v2 : BitVec 32 := Scalar.maxsi v1 c0_i32
  let v3 : BitVec 32 := Scalar.addi v0 v2
  let c5_i32 : BitVec 32 := 5#32
  let c0_i32_0 : BitVec 32 := 0#32
  ![v3.toNat, c5_i32.toNat]

def cc0_transform_5 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c5_i32 : BitVec 32 := 5#32
  let c0_i32 : BitVec 32 := 0#32
  ![v1.toNat, c5_i32.toNat]

def cc0_transform_6 (i : grid0.Coords) : Fin 4 → Nat :=
  let arg0 : BitVec 32 := BitVec.ofNat 32 (i 0).val
  let arg1 : BitVec 32 := BitVec.ofNat 32 (i 1).val
  let c1_i32 : BitVec 32 := 1#32
  let v0 : BitVec 32 := Scalar.minsi arg1 c1_i32
  let c0_i32 : BitVec 32 := 0#32
  let c0_i32_0 : BitVec 32 := 0#32
  let c0_i32_1 : BitVec 32 := 0#32
  let c0_i32_2 : BitVec 32 := 0#32
  ![v0.toNat, c0_i32.toNat, c0_i32_0.toNat, c0_i32_1.toNat]

def cc0_transform_7 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

abbrev stage0_0 : Fin 1 → Memref sig .tc .smem S8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S128x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S128x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x8x128x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S128x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== ReferenceIdeal.lean ====
abbrev S32768x768 : Shape := ⟨2, ![32768, 768]⟩
abbrev S8 : Shape := ⟨1, ![8]⟩
abbrev S32x8 : Shape := ⟨2, ![32, 8]⟩
abbrev S8x4096x768 : Shape := ⟨3, ![8, 4096, 768]⟩
abbrev S8x4096x512 : Shape := ⟨3, ![8, 4096, 512]⟩
abbrev S8x4096x2x4x64 : Shape := ⟨5, ![8, 4096, 2, 4, 64]⟩
abbrev S8x4096x128 : Shape := ⟨3, ![8, 4096, 128]⟩
abbrev S8x4096x2x64 : Shape := ⟨4, ![8, 4096, 2, 64]⟩
abbrev S8x32x128x2x4x64 : Shape := ⟨6, ![8, 32, 128, 2, 4, 64]⟩
abbrev S32 : Shape := ⟨1, ![32]⟩
abbrev S32x1 : Shape := ⟨2, ![32, 1]⟩
abbrev S_ : Shape := ⟨0, ![]⟩
abbrev S128 : Shape := ⟨1, ![128]⟩
abbrev S1x128 : Shape := ⟨2, ![1, 128]⟩
abbrev S32x128 : Shape := ⟨2, ![32, 128]⟩
abbrev S256 : Shape := ⟨1, ![256]⟩
abbrev S1x256 : Shape := ⟨2, ![1, 256]⟩
abbrev S32x256 : Shape := ⟨2, ![32, 256]⟩
abbrev S8x128x2x64 : Shape := ⟨4, ![8, 128, 2, 64]⟩
abbrev S8x4224x2x64 : Shape := ⟨4, ![8, 4224, 2, 64]⟩
abbrev S8x32x128x2x64 : Shape := ⟨5, ![8, 32, 128, 2, 64]⟩
abbrev S8x32x256x2x64 : Shape := ⟨5, ![8, 32, 256, 2, 64]⟩
abbrev S32x128x1 : Shape := ⟨3, ![32, 128, 1]⟩
abbrev S32x1x256 : Shape := ⟨3, ![32, 1, 256]⟩
abbrev S32x128x256 : Shape := ⟨3, ![32, 128, 256]⟩
abbrev S32x128x256x1 : Shape := ⟨4, ![32, 128, 256, 1]⟩
abbrev S32x128x256x8 : Shape := ⟨4, ![32, 128, 256, 8]⟩
abbrev S32x128x256x2x4 : Shape := ⟨5, ![32, 128, 256, 2, 4]⟩
abbrev S32x2x4x128x256 : Shape := ⟨5, ![32, 2, 4, 128, 256]⟩
abbrev S8x32x2x256x128x4 : Shape := ⟨6, ![8, 32, 2, 256, 128, 4]⟩
abbrev S8x32x2x4x128x256 : Shape := ⟨6, ![8, 32, 2, 4, 128, 256]⟩
abbrev S1x32x1x1x128x256 : Shape := ⟨6, ![1, 32, 1, 1, 128, 256]⟩
abbrev S1x32x2x4x128x256 : Shape := ⟨6, ![1, 32, 2, 4, 128, 256]⟩
abbrev S2x4 : Shape := ⟨2, ![2, 4]⟩
abbrev S1x1x2x4x1x1 : Shape := ⟨6, ![1, 1, 2, 4, 1, 1]⟩
abbrev S8x32x2x4x128 : Shape := ⟨5, ![8, 32, 2, 4, 128]⟩
abbrev S8x32x2x4x128x1 : Shape := ⟨6, ![8, 32, 2, 4, 128, 1]⟩
abbrev S8x32x2x64x4x128 : Shape := ⟨6, ![8, 32, 2, 64, 4, 128]⟩
abbrev S32768x512 : Shape := ⟨2, ![32768, 512]⟩

abbrev nBuf : Space → Nat
  | .hbm => 139
  | .vmem => 0
  | .smem => 0
  | _ => 0

abbrev hbmTy0_0 (i : Nat) : BufTy := match i % 128 with
  | 0 => ⟨S32768x768, .f32⟩
  | 1 => ⟨S8, .f32⟩
  | 2 => ⟨S32x8, .f32⟩
  | 3 => ⟨S8x4096x768, .f32⟩
  | 4 => ⟨S8x4096x512, .f32⟩
  | 5 => ⟨S8x4096x2x4x64, .f32⟩
  | 6 => ⟨S8x4096x128, .f32⟩
  | 7 => ⟨S8x4096x2x64, .f32⟩
  | 8 => ⟨S8x4096x128, .f32⟩
  | 9 => ⟨S8x4096x2x64, .f32⟩
  | 10 => ⟨S8x32x128x2x4x64, .f32⟩
  | 11 => ⟨S32, .i32⟩
  | 12 => ⟨S32x1, .i32⟩
  | 13 => ⟨S_, .i32⟩
  | 14 => ⟨S32x1, .i32⟩
  | 15 => ⟨S32x1, .i32⟩
  | 16 => ⟨S128, .i32⟩
  | 17 => ⟨S1x128, .i32⟩
  | 18 => ⟨S32x128, .i32⟩
  | 19 => ⟨S32x128, .i32⟩
  | 20 => ⟨S32x128, .i32⟩
  | 21 => ⟨S_, .i32⟩
  | 22 => ⟨S32x1, .i32⟩
  | 23 => ⟨S32x1, .i32⟩
  | 24 => ⟨S_, .i32⟩
  | 25 => ⟨S32x1, .i32⟩
  | 26 => ⟨S32x1, .i32⟩
  | 27 => ⟨S256, .i32⟩
  | 28 => ⟨S1x256, .i32⟩
  | 29 => ⟨S32x256, .i32⟩
  | 30 => ⟨S32x256, .i32⟩
  | 31 => ⟨S32x256, .i32⟩
  | 32 => ⟨S_, .f32⟩
  | 33 => ⟨S8x128x2x64, .f32⟩
  | 34 => ⟨S8x4224x2x64, .f32⟩
  | 35 => ⟨S8x4096x2x64, .f32⟩
  | 36 => ⟨S8x32x128x2x64, .f32⟩
  | 37 => ⟨S8x32x128x2x64, .f32⟩
  | 38 => ⟨S8x32x256x2x64, .f32⟩
  | 39 => ⟨S_, .f32⟩
  | 40 => ⟨S8x128x2x64, .f32⟩
  | 41 => ⟨S8x4224x2x64, .f32⟩
  | 42 => ⟨S8x4096x2x64, .f32⟩
  | 43 => ⟨S8x32x128x2x64, .f32⟩
  | 44 => ⟨S8x32x128x2x64, .f32⟩
  | 45 => ⟨S8x32x256x2x64, .f32⟩
  | 46 => ⟨S32x128x1, .i32⟩
  | 47 => ⟨S32x1x256, .i32⟩
  | 48 => ⟨S32x128x256, .i32⟩
  | 49 => ⟨S32x128x256, .i32⟩
  | 50 => ⟨S32x128x256, .i32⟩
  | 51 => ⟨S_, .i32⟩
  | 52 => ⟨S32x128x256, .i32⟩
  | 53 => ⟨S32x128x256, .i1⟩
  | 54 => ⟨S_, .i32⟩
  | 55 => ⟨S32x128x256, .i32⟩
  | 56 => ⟨S32x128x256, .i1⟩
  | 57 => ⟨S32x128x256, .i1⟩
  | 58 => ⟨S32x1x256, .i32⟩
  | 59 => ⟨S_, .i32⟩
  | 60 => ⟨S32x1x256, .i32⟩
  | 61 => ⟨S32x1x256, .i1⟩
  | 62 => ⟨S32x128x256, .i1⟩
  | 63 => ⟨S32x128x256, .i1⟩
  | 64 => ⟨S_, .i32⟩
  | 65 => ⟨S32x128x256, .i32⟩
  | 66 => ⟨S32x128x256, .i32⟩
  | 67 => ⟨S_, .i32⟩
  | 68 => ⟨S32x128x256, .i32⟩
  | 69 => ⟨S32x128x256, .i32⟩
  | 70 => ⟨S32x128x256, .f32⟩
  | 71 => ⟨S_, .f32⟩
  | 72 => ⟨S32x128x256, .f32⟩
  | 73 => ⟨S32x128x256, .f32⟩
  | 74 => ⟨S32x128x256, .f32⟩
  | 75 => ⟨S_, .f32⟩
  | 76 => ⟨S32x128x256, .f32⟩
  | 77 => ⟨S32x128x256, .f32⟩
  | 78 => ⟨S_, .f32⟩
  | 79 => ⟨S32x128x256, .f32⟩
  | 80 => ⟨S32x128x256, .f32⟩
  | 81 => ⟨S32x128x256, .i32⟩
  | 82 => ⟨S_, .i32⟩
  | 83 => ⟨S32x128x256, .i32⟩
  | 84 => ⟨S32x128x256, .i32⟩
  | 85 => ⟨S_, .i32⟩
  | 86 => ⟨S32x128x256, .i32⟩
  | 87 => ⟨S32x128x256, .i1⟩
  | 88 => ⟨S_, .i32⟩
  | 89 => ⟨S32x128x256, .i32⟩
  | 90 => ⟨S32x128x256, .i32⟩
  | 91 => ⟨S32x128x256, .i32⟩
  | 92 => ⟨S_, .i32⟩
  | 93 => ⟨S32x128x256, .i32⟩
  | 94 => ⟨S32x128x256, .i1⟩
  | 95 => ⟨S_, .i32⟩
  | 96 => ⟨S32x128x256, .i32⟩
  | 97 => ⟨S32x128x256, .i32⟩
  | 98 => ⟨S32x128x256, .i32⟩
  | 99 => ⟨S32x128x256x1, .i32⟩
  | 100 => ⟨S32x128x256x8, .f32⟩
  | 101 => ⟨S32x128x256x2x4, .f32⟩
  | 102 => ⟨S32x2x4x128x256, .f32⟩
  | 103 => ⟨S8x32x2x256x128x4, .f32⟩
  | 104 => ⟨S8x32x2x4x128x256, .f32⟩
  | 105 => ⟨S_, .f32⟩
  | 106 => ⟨S8x32x2x4x128x256, .f32⟩
  | 107 => ⟨S8x32x2x4x128x256, .f32⟩
  | 108 => ⟨S1x32x1x1x128x256, .i1⟩
  | 109 => ⟨S1x32x2x4x128x256, .f32⟩
  | 110 => ⟨S8x32x2x4x128x256, .f32⟩
  | 111 => ⟨S8x32x2x4x128x256, .f32⟩
  | 112 => ⟨S_, .f32⟩
  | 113 => ⟨S_, .f32⟩
  | 114 => ⟨S8x32x2x4x128x256, .i1⟩
  | 115 => ⟨S8x32x2x4x128x256, .f32⟩
  | 116 => ⟨S8x32x2x4x128x256, .f32⟩
  | 117 => ⟨S2x4, .f32⟩
  | 118 => ⟨S1x1x2x4x1x1, .f32⟩
  | 119 => ⟨S_, .f32⟩
  | 120 => ⟨S8x32x2x4x128, .f32⟩
  | 121 => ⟨S8x32x2x4x128x1, .f32⟩
  | 122 => ⟨S8x32x2x4x128x1, .f32⟩
  | 123 => ⟨S8x32x2x4x128x1, .f32⟩
  | 124 => ⟨S8x32x2x4x128x256, .f32⟩
  | 125 => ⟨S8x32x2x4x128x256, .f32⟩
  | 126 => ⟨S8x32x2x4x128x256, .f32⟩
  | 127 => ⟨S_, .f32⟩
  | _ => ⟨S32768x768, .f32⟩

abbrev hbmTy0_1 (i : Nat) : BufTy := match i % 128 with
  | 0 => ⟨S8x32x2x4x128, .f32⟩
  | 1 => ⟨S8x32x2x4x128x1, .f32⟩
  | 2 => ⟨S8x32x2x4x128x1, .f32⟩
  | 3 => ⟨S8x32x2x4x128x1, .f32⟩
  | 4 => ⟨S8x32x2x4x128x1, .f32⟩
  | 5 => ⟨S8x32x2x4x128x1, .f32⟩
  | 6 => ⟨S8x32x2x4x128x256, .f32⟩
  | 7 => ⟨S8x32x2x4x128x256, .f32⟩
  | 8 => ⟨S8x32x2x64x4x128, .f32⟩
  | 9 => ⟨S8x32x128x2x4x64, .f32⟩
  | 10 => ⟨S32768x512, .f32⟩
  | _ => ⟨S32768x768, .f32⟩

abbrev hbmTy (i : Nat) : BufTy := match i / 128 with
  | 0 => hbmTy0_0 i
  | 1 => hbmTy0_1 i
  | _ => ⟨S32768x768, .f32⟩

abbrev bufTy : (tb : Table) → Fin (tcTables nBuf tb) → BufTy
  | .hbm, ⟨i, _⟩ => hbmTy i
  | _, _ => ⟨S32768x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_c : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_c_0 : Ref sig .tc := ⟨.hbm, 21, rfl⟩
abbrev main_v17 : Ref sig .tc := ⟨.hbm, 22, rfl⟩
abbrev main_v18 : Ref sig .tc := ⟨.hbm, 23, rfl⟩
abbrev main_c_1 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_cst : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_cst_2 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_c_3 : Ref sig .tc := ⟨.hbm, 51, rfl⟩
abbrev main_v43 : Ref sig .tc := ⟨.hbm, 52, rfl⟩
abbrev main_v44 : Ref sig .tc := ⟨.hbm, 53, rfl⟩
abbrev main_c_4 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_c_5 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_c_6 : Ref sig .tc := ⟨.hbm, 64, rfl⟩
abbrev main_v53 : Ref sig .tc := ⟨.hbm, 65, rfl⟩
abbrev main_v54 : Ref sig .tc := ⟨.hbm, 66, rfl⟩
abbrev main_c_7 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_cst_8 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_cst_9 : Ref sig .tc := ⟨.hbm, 75, rfl⟩
abbrev main_v61 : Ref sig .tc := ⟨.hbm, 76, rfl⟩
abbrev main_v62 : Ref sig .tc := ⟨.hbm, 77, rfl⟩
abbrev main_cst_10 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_c_11 : Ref sig .tc := ⟨.hbm, 82, rfl⟩
abbrev main_v66 : Ref sig .tc := ⟨.hbm, 83, rfl⟩
abbrev main_v67 : Ref sig .tc := ⟨.hbm, 84, rfl⟩
abbrev main_c_12 : Ref sig .tc := ⟨.hbm, 85, rfl⟩
abbrev main_v68 : Ref sig .tc := ⟨.hbm, 86, rfl⟩
abbrev main_v69 : Ref sig .tc := ⟨.hbm, 87, rfl⟩
abbrev main_c_13 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_c_14 : Ref sig .tc := ⟨.hbm, 92, rfl⟩
abbrev main_v73 : Ref sig .tc := ⟨.hbm, 93, rfl⟩
abbrev main_v74 : Ref sig .tc := ⟨.hbm, 94, rfl⟩
abbrev main_c_15 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_cst_16 : Ref sig .tc := ⟨.hbm, 105, rfl⟩
abbrev main_v84 : Ref sig .tc := ⟨.hbm, 106, rfl⟩
abbrev main_v85 : Ref sig .tc := ⟨.hbm, 107, rfl⟩
abbrev main_v86 : Ref sig .tc := ⟨.hbm, 108, rfl⟩
abbrev main_v87 : Ref sig .tc := ⟨.hbm, 109, rfl⟩
abbrev main_v88 : Ref sig .tc := ⟨.hbm, 110, rfl⟩
abbrev main_v89 : Ref sig .tc := ⟨.hbm, 111, rfl⟩
abbrev main_cst_17 : Ref sig .tc := ⟨.hbm, 112, rfl⟩
abbrev main_call1_v0 : Ref sig .tc := ⟨.hbm, 113, rfl⟩
abbrev main_call1_v1 : Ref sig .tc := ⟨.hbm, 114, rfl⟩
abbrev main_call1_v2 : Ref sig .tc := ⟨.hbm, 115, rfl⟩
abbrev main_v90 : Ref sig .tc := ⟨.hbm, 116, rfl⟩
abbrev main_v91 : Ref sig .tc := ⟨.hbm, 117, rfl⟩
abbrev main_v92 : Ref sig .tc := ⟨.hbm, 118, rfl⟩
abbrev main_cst_18 : Ref sig .tc := ⟨.hbm, 119, rfl⟩
abbrev main_v93 : Ref sig .tc := ⟨.hbm, 120, rfl⟩
abbrev main_v94 : Ref sig .tc := ⟨.hbm, 121, rfl⟩
abbrev main_v95 : Ref sig .tc := ⟨.hbm, 122, rfl⟩
abbrev main_v96 : Ref sig .tc := ⟨.hbm, 123, rfl⟩
abbrev main_v97 : Ref sig .tc := ⟨.hbm, 124, rfl⟩
abbrev main_v98 : Ref sig .tc := ⟨.hbm, 125, rfl⟩
abbrev main_v99 : Ref sig .tc := ⟨.hbm, 126, rfl⟩
abbrev main_cst_19 : Ref sig .tc := ⟨.hbm, 127, rfl⟩
abbrev main_v100 : Ref sig .tc := ⟨.hbm, 128, rfl⟩
abbrev main_v101 : Ref sig .tc := ⟨.hbm, 129, rfl⟩
abbrev main_v102 : Ref sig .tc := ⟨.hbm, 130, rfl⟩
abbrev main_v103 : Ref sig .tc := ⟨.hbm, 131, rfl⟩
abbrev main_v104 : Ref sig .tc := ⟨.hbm, 132, rfl⟩
abbrev main_v105 : Ref sig .tc := ⟨.hbm, 133, rfl⟩
abbrev main_v106 : Ref sig .tc := ⟨.hbm, 134, rfl⟩
abbrev main_v107 : Ref sig .tc := ⟨.hbm, 135, rfl⟩
abbrev main_v108 : Ref sig .tc := ⟨.hbm, 136, rfl⟩
abbrev main_v109 : Ref sig .tc := ⟨.hbm, 137, rfl⟩
abbrev main_v110 : Ref sig .tc := ⟨.hbm, 138, rfl⟩

abbrev nD : Nat := 1
abbrev τ : Topo := Topo.v7x

variable {F : FTy → Type} [FloatOps F]
-- ==== Kernel2.lean ====
abbrev S8x4096x1024 : Shape := ⟨3, ![8, 4096, 1024]⟩
abbrev S136x6144 : Shape := ⟨2, ![136, 6144]⟩
abbrev S1024 : Shape := ⟨1, ![1024]⟩
abbrev S1024x4872 : Shape := ⟨2, ![1024, 4872]⟩
abbrev S8x6144 : Shape := ⟨2, ![8, 6144]⟩
abbrev S8x1x6144 : Shape := ⟨3, ![8, 1, 6144]⟩
abbrev S1024x768 : Shape := ⟨2, ![1024, 768]⟩
abbrev S1024x1536 : Shape := ⟨2, ![1024, 1536]⟩
abbrev S1024x8 : Shape := ⟨2, ![1024, 8]⟩
abbrev S1024x512 : Shape := ⟨2, ![1024, 512]⟩
abbrev S1024x1024 : Shape := ⟨2, ![1024, 1024]⟩
abbrev S_ : Shape := ⟨0, ![]⟩
abbrev S1024x128 : Shape := ⟨2, ![1024, 128]⟩
abbrev S32768x1024 : Shape := ⟨2, ![32768, 1024]⟩
abbrev S1x1024 : Shape := ⟨2, ![1, 1024]⟩
abbrev S32768x768 : Shape := ⟨2, ![32768, 768]⟩
abbrev S32768x1536 : Shape := ⟨2, ![32768, 1536]⟩
abbrev S32768x128 : Shape := ⟨2, ![32768, 128]⟩
abbrev S32768x512 : Shape := ⟨2, ![32768, 512]⟩
abbrev S256x1024 : Shape := ⟨2, ![256, 1024]⟩
abbrev S1x1x1024 : Shape := ⟨3, ![1, 1, 1024]⟩
abbrev S256x768 : Shape := ⟨2, ![256, 768]⟩
abbrev S256x1536 : Shape := ⟨2, ![256, 1536]⟩
abbrev S256x128 : Shape := ⟨2, ![256, 128]⟩
abbrev S256x512 : Shape := ⟨2, ![256, 512]⟩
abbrev S256 : Shape := ⟨1, ![256]⟩
abbrev S256x1 : Shape := ⟨2, ![256, 1]⟩
abbrev S8x4096x768 : Shape := ⟨3, ![8, 4096, 768]⟩
abbrev S8x128x128 : Shape := ⟨3, ![8, 128, 128]⟩
abbrev S8x128x2x64 : Shape := ⟨4, ![8, 128, 2, 64]⟩
abbrev S8x4096x1536 : Shape := ⟨3, ![8, 4096, 1536]⟩
abbrev S8x3x1536 : Shape := ⟨3, ![8, 3, 1536]⟩
abbrev S32768x8 : Shape := ⟨2, ![32768, 8]⟩

abbrev nBuf : Space → Nat
  | .hbm => 37
  | .vmem => 25
  | .smem => 0
  | _ => 0

abbrev bufTy : (tb : Table) → Fin (tcTables nBuf tb) → BufTy
  | .hbm, ⟨0, _⟩ => ⟨S8x4096x1024, .f32⟩
  | .hbm, ⟨1, _⟩ => ⟨S136x6144, .f32⟩
  | .hbm, ⟨2, _⟩ => ⟨S1024, .f32⟩
  | .hbm, ⟨3, _⟩ => ⟨S1024x4872, .f32⟩
  | .hbm, ⟨4, _⟩ => ⟨S8x6144, .f32⟩
  | .hbm, ⟨5, _⟩ => ⟨S8x1x6144, .f32⟩
  | .hbm, ⟨6, _⟩ => ⟨S1024x768, .f32⟩
  | .hbm, ⟨7, _⟩ => ⟨S1024x1536, .f32⟩
  | .hbm, ⟨8, _⟩ => ⟨S1024x8, .f32⟩
  | .hbm, ⟨9, _⟩ => ⟨S1024x512, .f32⟩
  | .hbm, ⟨10, _⟩ => ⟨S1024x1024, .f32⟩
  | .hbm, ⟨11, _⟩ => ⟨S1024x1024, .f32⟩
  | .hbm, ⟨12, _⟩ => ⟨S_, .i32⟩
  | .hbm, ⟨13, _⟩ => ⟨S_, .f32⟩
  | .hbm, ⟨14, _⟩ => ⟨S1024x128, .f32⟩
  | .hbm, ⟨15, _⟩ => ⟨S1024x768, .bf16⟩
  | .hbm, ⟨16, _⟩ => ⟨S1024x1536, .bf16⟩
  | .hbm, ⟨17, _⟩ => ⟨S1024x128, .bf16⟩
  | .hbm, ⟨18, _⟩ => ⟨S1024x512, .bf16⟩
  | .hbm, ⟨19, _⟩ => ⟨S1024x1024, .bf16⟩
  | .hbm, ⟨20, _⟩ => ⟨S1024x1024, .bf16⟩
  | .hbm, ⟨21, _⟩ => ⟨S32768x1024, .f32⟩
  | .hbm, ⟨22, _⟩ => ⟨S1x1024, .f32⟩
  | .hbm, ⟨23, _⟩ => ⟨S32768x768, .f32⟩
  | .hbm, ⟨24, _⟩ => ⟨S32768x1536, .f32⟩
  | .hbm, ⟨25, _⟩ => ⟨S32768x128, .f32⟩
  | .hbm, ⟨26, _⟩ => ⟨S32768x512, .f32⟩
  | .hbm, ⟨27, _⟩ => ⟨S32768x1024, .f32⟩
  | .hbm, ⟨28, _⟩ => ⟨S32768x1024, .f32⟩
  | .hbm, ⟨29, _⟩ => ⟨S8x4096x768, .f32⟩
  | .hbm, ⟨30, _⟩ => ⟨S8x128x128, .f32⟩
  | .hbm, ⟨31, _⟩ => ⟨S8x128x2x64, .f32⟩
  | .hbm, ⟨32, _⟩ => ⟨S8x128x128, .f32⟩
  | .hbm, ⟨33, _⟩ => ⟨S8x128x2x64, .f32⟩
  | .hbm, ⟨34, _⟩ => ⟨S8x4096x1536, .f32⟩
  | .hbm, ⟨35, _⟩ => ⟨S8x3x1536, .f32⟩
  | .hbm, ⟨36, _⟩ => ⟨S32768x8, .f32⟩
  | .local _ .vmem, ⟨0, _⟩ => ⟨S256x1024, .f32⟩
  | .local _ .vmem, ⟨1, _⟩ => ⟨S256x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1024, .f32⟩
  | .local _ .vmem, ⟨7, _⟩ => ⟨S1024x768, .bf16⟩
  | .local _ .vmem, ⟨8, _⟩ => ⟨S1024x1536, .bf16⟩
  | .local _ .vmem, ⟨9, _⟩ => ⟨S1024x128, .bf16⟩
  | .local _ .vmem, ⟨10, _⟩ => ⟨S1024x512, .bf16⟩
  | .local _ .vmem, ⟨11, _⟩ => ⟨S1024x1024, .bf16⟩
  | .local _ .vmem, ⟨12, _⟩ => ⟨S1024x1024, .bf16⟩
  | .local _ .vmem, ⟨13, _⟩ => ⟨S256x768, .f32⟩
  | .local _ .vmem, ⟨14, _⟩ => ⟨S256x768, .f32⟩
  | .local _ .vmem, ⟨15, _⟩ => ⟨S256x1536, .f32⟩
  | .local _ .vmem, ⟨16, _⟩ => ⟨S256x1536, .f32⟩
  | .local _ .vmem, ⟨17, _⟩ => ⟨S256x128, .f32⟩
  | .local _ .vmem, ⟨18, _⟩ => ⟨S256x128, .f32⟩
  | .local _ .vmem, ⟨19, _⟩ => ⟨S256x512, .f32⟩
  | .local _ .vmem, ⟨20, _⟩ => ⟨S256x512, .f32⟩
  | .local _ .vmem, ⟨21, _⟩ => ⟨S256x1024, .f32⟩
  | .local _ .vmem, ⟨22, _⟩ => ⟨S256x1024, .f32⟩
  | .local _ .vmem, ⟨23, _⟩ => ⟨S256x1024, .f32⟩
  | .local _ .vmem, ⟨24, _⟩ => ⟨S256x1024, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_c : Ref sig .tc := ⟨.hbm, 12, rfl⟩
abbrev main_call0_v0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17_0 : Ref sig .tc := ⟨.hbm, 23, rfl⟩
abbrev main_v17_1 : Ref sig .tc := ⟨.hbm, 24, rfl⟩
abbrev main_v17_2 : Ref sig .tc := ⟨.hbm, 25, rfl⟩
abbrev main_v17_3 : Ref sig .tc := ⟨.hbm, 26, rfl⟩
abbrev main_v17_4 : Ref sig .tc := ⟨.hbm, 27, rfl⟩
abbrev main_v17_5 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc0_stg14_0 : Ref sig .tc := ⟨.vmem, 21, rfl⟩
abbrev cc0_stg14_1 : Ref sig .tc := ⟨.vmem, 22, rfl⟩
abbrev cc0_stg15_0 : Ref sig .tc := ⟨.vmem, 23, rfl⟩
abbrev cc0_stg15_1 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem10_1 : DmaSem sig := 14
abbrev cc0_sem11_0 : DmaSem sig := 15
abbrev cc0_sem11_1 : DmaSem sig := 16
abbrev cc0_sem12_0 : DmaSem sig := 17
abbrev cc0_sem12_1 : DmaSem sig := 18
abbrev cc0_sem13_0 : DmaSem sig := 19
abbrev cc0_sem13_1 : DmaSem sig := 20
abbrev cc0_sem14_0 : DmaSem sig := 21
abbrev cc0_sem14_1 : DmaSem sig := 22
abbrev cc0_sem15_0 : DmaSem sig := 23
abbrev cc0_sem15_1 : DmaSem sig := 24

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c1_i32_5 : BitVec 32 := 1#32
  let c0_i32_6 : BitVec 32 := 0#32
  ![v16.toNat, c0_i32_4.toNat, c1_i32_5.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x768 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1536 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S256x768 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1536 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== Reference2Ideal.lean ====
abbrev S8x4096x1024 : Shape := ⟨3, ![8, 4096, 1024]⟩
abbrev S136x6144 : Shape := ⟨2, ![136, 6144]⟩
abbrev S1024 : Shape := ⟨1, ![1024]⟩
abbrev S1024x4872 : Shape := ⟨2, ![1024, 4872]⟩
abbrev S8x6144 : Shape := ⟨2, ![8, 6144]⟩
abbrev S8x1024 : Shape := ⟨2, ![8, 1024]⟩
abbrev S8x1x1024 : Shape := ⟨3, ![8, 1, 1024]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S8x4096x4872 : Shape := ⟨3, ![8, 4096, 4872]⟩
abbrev S8x4096x512 : Shape := ⟨3, ![8, 4096, 512]⟩
abbrev S8x4096x128 : Shape := ⟨3, ![8, 4096, 128]⟩
abbrev S8x4096x1536 : Shape := ⟨3, ![8, 4096, 1536]⟩
abbrev S8x4096x4 : Shape := ⟨3, ![8, 4096, 4]⟩
abbrev S8x4096x2x64 : Shape := ⟨4, ![8, 4096, 2, 64]⟩
abbrev S8x128x2x64 : Shape := ⟨4, ![8, 128, 2, 64]⟩
abbrev S8x3x1536 : Shape := ⟨3, ![8, 3, 1536]⟩
abbrev S8x4099x1536 : Shape := ⟨3, ![8, 4099, 1536]⟩
abbrev S8x4096x768 : Shape := ⟨3, ![8, 4096, 768]⟩
abbrev S32768x768 : Shape := ⟨2, ![32768, 768]⟩
abbrev S32768x1536 : Shape := ⟨2, ![32768, 1536]⟩
abbrev S8x4096x8 : Shape := ⟨3, ![8, 4096, 8]⟩
abbrev S32768x8 : Shape := ⟨2, ![32768, 8]⟩
abbrev S32768x512 : Shape := ⟨2, ![32768, 512]⟩
abbrev S32768x1024 : Shape := ⟨2, ![32768, 1024]⟩

abbrev nBuf : Space → Nat
  | .hbm => 66
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S136x6144, .f32⟩
  | .hbm, ⟨2, _⟩ => ⟨S1024, .f32⟩
  | .hbm, ⟨3, _⟩ => ⟨S1024x4872, .f32⟩
  | .hbm, ⟨4, _⟩ => ⟨S8x6144, .f32⟩
  | .hbm, ⟨5, _⟩ => ⟨S8x1024, .f32⟩
  | .hbm, ⟨6, _⟩ => ⟨S8x1024, .f32⟩
  | .hbm, ⟨7, _⟩ => ⟨S8x1024, .f32⟩
  | .hbm, ⟨8, _⟩ => ⟨S8x1024, .f32⟩
  | .hbm, ⟨9, _⟩ => ⟨S8x1024, .f32⟩
  | .hbm, ⟨10, _⟩ => ⟨S8x1024, .f32⟩
  | .hbm, ⟨11, _⟩ => ⟨S8x1x1024, .f32⟩
  | .hbm, ⟨12, _⟩ => ⟨S8x1x1024, .f32⟩
  | .hbm, ⟨13, _⟩ => ⟨S8x1x1024, .f32⟩
  | .hbm, ⟨14, _⟩ => ⟨S8x1x1024, .f32⟩
  | .hbm, ⟨15, _⟩ => ⟨S8x1x1024, .f32⟩
  | .hbm, ⟨16, _⟩ => ⟨S8x1x1024, .f32⟩
  | .hbm, ⟨17, _⟩ => ⟨S8x4096x1024, .f32⟩
  | .hbm, ⟨18, _⟩ => ⟨S_, .f32⟩
  | .hbm, ⟨19, _⟩ => ⟨S8x4096, .f32⟩
  | .hbm, ⟨20, _⟩ => ⟨S8x4096x1, .f32⟩
  | .hbm, ⟨21, _⟩ => ⟨S_, .f32⟩
  | .hbm, ⟨22, _⟩ => ⟨S8x4096x1, .f32⟩
  | .hbm, ⟨23, _⟩ => ⟨S8x4096x1, .f32⟩
  | .hbm, ⟨24, _⟩ => ⟨S_, .f32⟩
  | .hbm, ⟨25, _⟩ => ⟨S8x4096x1, .f32⟩
  | .hbm, ⟨26, _⟩ => ⟨S8x4096x1, .f32⟩
  | .hbm, ⟨27, _⟩ => ⟨S8x4096x1, .f32⟩
  | .hbm, ⟨28, _⟩ => ⟨S8x4096x1024, .f32⟩
  | .hbm, ⟨29, _⟩ => ⟨S8x4096x1024, .f32⟩
  | .hbm, ⟨30, _⟩ => ⟨S1x1x1024, .f32⟩
  | .hbm, ⟨31, _⟩ => ⟨S8x4096x1024, .f32⟩
  | .hbm, ⟨32, _⟩ => ⟨S8x4096x1024, .f32⟩
  | .hbm, ⟨33, _⟩ => ⟨S_, .f32⟩
  | .hbm, ⟨34, _⟩ => ⟨S8x1x1024, .f32⟩
  | .hbm, ⟨35, _⟩ => ⟨S8x1x1024, .f32⟩
  | .hbm, ⟨36, _⟩ => ⟨S8x4096x1024, .f32⟩
  | .hbm, ⟨37, _⟩ => ⟨S8x4096x1024, .f32⟩
  | .hbm, ⟨38, _⟩ => ⟨S8x4096x1024, .f32⟩
  | .hbm, ⟨39, _⟩ => ⟨S8x4096x1024, .f32⟩
  | .hbm, ⟨40, _⟩ => ⟨S8x4096x4872, .f32⟩
  | .hbm, ⟨41, _⟩ => ⟨S8x4096x512, .f32⟩
  | .hbm, ⟨42, _⟩ => ⟨S8x4096x128, .f32⟩
  | .hbm, ⟨43, _⟩ => ⟨S8x4096x128, .f32⟩
  | .hbm, ⟨44, _⟩ => ⟨S8x4096x1536, .f32⟩
  | .hbm, ⟨45, _⟩ => ⟨S8x4096x4, .f32⟩
  | .hbm, ⟨46, _⟩ => ⟨S8x4096x4, .f32⟩
  | .hbm, ⟨47, _⟩ => ⟨S8x4096x512, .f32⟩
  | .hbm, ⟨48, _⟩ => ⟨S8x4096x1024, .f32⟩
  | .hbm, ⟨49, _⟩ => ⟨S8x4096x1024, .f32⟩
  | .hbm, ⟨50, _⟩ => ⟨S8x4096x2x64, .f32⟩
  | .hbm, ⟨51, _⟩ => ⟨S8x4096x2x64, .f32⟩
  | .hbm, ⟨52, _⟩ => ⟨S8x128x2x64, .f32⟩
  | .hbm, ⟨53, _⟩ => ⟨S8x128x2x64, .f32⟩
  | .hbm, ⟨54, _⟩ => ⟨S_, .f32⟩
  | .hbm, ⟨55, _⟩ => ⟨S8x3x1536, .f32⟩
  | .hbm, ⟨56, _⟩ => ⟨S8x4099x1536, .f32⟩
  | .hbm, ⟨57, _⟩ => ⟨S8x3x1536, .f32⟩
  | .hbm, ⟨58, _⟩ => ⟨S8x4096x768, .f32⟩
  | .hbm, ⟨59, _⟩ => ⟨S32768x768, .f32⟩
  | .hbm, ⟨60, _⟩ => ⟨S32768x1536, .f32⟩
  | .hbm, ⟨61, _⟩ => ⟨S8x4096x8, .f32⟩
  | .hbm, ⟨62, _⟩ => ⟨S32768x8, .f32⟩
  | .hbm, ⟨63, _⟩ => ⟨S32768x512, .f32⟩
  | .hbm, ⟨64, _⟩ => ⟨S32768x1024, .f32⟩
  | .hbm, ⟨65, _⟩ => ⟨S32768x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_cst : Ref sig .tc := ⟨.hbm, 18, rfl⟩
abbrev main_v14 : Ref sig .tc := ⟨.hbm, 19, rfl⟩
abbrev main_v15 : Ref sig .tc := ⟨.hbm, 20, rfl⟩
abbrev main_cst_0 : Ref sig .tc := ⟨.hbm, 21, rfl⟩
abbrev main_v16 : Ref sig .tc := ⟨.hbm, 22, rfl⟩
abbrev main_v17 : Ref sig .tc := ⟨.hbm, 23, rfl⟩
abbrev main_cst_1 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_cst_2 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_cst_3 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩

abbrev nD : Nat := 1
abbrev τ : Topo := Topo.v7x

variable {F : FTy → Type} [FloatOps F]
-- ==== Kernel3.lean ====
abbrev S8x4096x1024 : Shape := ⟨3, ![8, 4096, 1024]⟩
abbrev S32768x512 : Shape := ⟨2, ![32768, 512]⟩
abbrev S32768x1024 : Shape := ⟨2, ![32768, 1024]⟩
abbrev S136x6144 : Shape := ⟨2, ![136, 6144]⟩
abbrev S1024 : Shape := ⟨1, ![1024]⟩
abbrev S512x1024 : Shape := ⟨2, ![512, 1024]⟩
abbrev S1024x1024 : Shape := ⟨2, ![1024, 1024]⟩
abbrev S8x6144 : Shape := ⟨2, ![8, 6144]⟩
abbrev S8x1x6144 : Shape := ⟨3, ![8, 1, 6144]⟩
abbrev S1x1024 : Shape := ⟨2, ![1, 1024]⟩
abbrev S256x1024 : Shape := ⟨2, ![256, 1024]⟩
abbrev S256x512 : Shape := ⟨2, ![256, 512]⟩
abbrev S1x1x1024 : Shape := ⟨3, ![1, 1, 1024]⟩
abbrev S256 : Shape := ⟨1, ![256]⟩
abbrev S256x1 : Shape := ⟨2, ![256, 1]⟩

abbrev nBuf : Space → Nat
  | .hbm => 21
  | .vmem => 25
  | .smem => 0
  | _ => 0

abbrev bufTy : (tb : Table) → Fin (tcTables nBuf tb) → BufTy
  | .hbm, ⟨0, _⟩ => ⟨S8x4096x1024, .f32⟩
  | .hbm, ⟨1, _⟩ => ⟨S32768x512, .f32⟩
  | .hbm, ⟨2, _⟩ => ⟨S32768x512, .f32⟩
  | .hbm, ⟨3, _⟩ => ⟨S32768x1024, .f32⟩
  | .hbm, ⟨4, _⟩ => ⟨S32768x1024, .f32⟩
  | .hbm, ⟨5, _⟩ => ⟨S136x6144, .f32⟩
  | .hbm, ⟨6, _⟩ => ⟨S1024, .f32⟩
  | .hbm, ⟨7, _⟩ => ⟨S1024, .f32⟩
  | .hbm, ⟨8, _⟩ => ⟨S512x1024, .f32⟩
  | .hbm, ⟨9, _⟩ => ⟨S512x1024, .f32⟩
  | .hbm, ⟨10, _⟩ => ⟨S1024x1024, .f32⟩
  | .hbm, ⟨11, _⟩ => ⟨S8x6144, .f32⟩
  | .hbm, ⟨12, _⟩ => ⟨S8x1x6144, .f32⟩
  | .hbm, ⟨13, _⟩ => ⟨S32768x1024, .f32⟩
  | .hbm, ⟨14, _⟩ => ⟨S1x1024, .f32⟩
  | .hbm, ⟨15, _⟩ => ⟨S1x1024, .f32⟩
  | .hbm, ⟨16, _⟩ => ⟨S512x1024, .bf16⟩
  | .hbm, ⟨17, _⟩ => ⟨S512x1024, .bf16⟩
  | .hbm, ⟨18, _⟩ => ⟨S1024x1024, .bf16⟩
  | .hbm, ⟨19, _⟩ => ⟨S32768x1024, .f32⟩
  | .hbm, ⟨20, _⟩ => ⟨S32768x1024, .f32⟩
  | .local _ .vmem, ⟨0, _⟩ => ⟨S256x1024, .f32⟩
  | .local _ .vmem, ⟨1, _⟩ => ⟨S256x1024, .f32⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S1x1x1024, .f32⟩
  | .local _ .vmem, ⟨11, _⟩ => ⟨S1x1x1024, .f32⟩
  | .local _ .vmem, ⟨12, _⟩ => ⟨S1x1x1024, .f32⟩
  | .local _ .vmem, ⟨13, _⟩ => ⟨S1x1x1024, .f32⟩
  | .local _ .vmem, ⟨14, _⟩ => ⟨S1x1x1024, .f32⟩
  | .local _ .vmem, ⟨15, _⟩ => ⟨S1x1x1024, .f32⟩
  | .local _ .vmem, ⟨16, _⟩ => ⟨S1x1024, .f32⟩
  | .local _ .vmem, ⟨17, _⟩ => ⟨S1x1024, .f32⟩
  | .local _ .vmem, ⟨18, _⟩ => ⟨S512x1024, .bf16⟩
  | .local _ .vmem, ⟨19, _⟩ => ⟨S512x1024, .bf16⟩
  | .local _ .vmem, ⟨20, _⟩ => ⟨S1024x1024, .bf16⟩
  | .local _ .vmem, ⟨21, _⟩ => ⟨S256x1024, .f32⟩
  | .local _ .vmem, ⟨22, _⟩ => ⟨S256x1024, .f32⟩
  | .local _ .vmem, ⟨23, _⟩ => ⟨S256x1024, .f32⟩
  | .local _ .vmem, ⟨24, _⟩ => ⟨S256x1024, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8_0 : Ref sig .tc := ⟨.hbm, 19, rfl⟩
abbrev main_v8_1 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem11_0 : DmaSem sig := 19
abbrev cc0_sem12_0 : DmaSem sig := 20
abbrev cc0_sem13_0 : DmaSem sig := 21
abbrev cc0_sem13_1 : DmaSem sig := 22
abbrev cc0_sem14_0 : DmaSem sig := 23
abbrev cc0_sem14_1 : DmaSem sig := 24

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c2_i32 : BitVec 32 := 2#32
  let c0_i32_5 : BitVec 32 := 0#32
  ![v16.toNat, c0_i32_4.toNat, c2_i32.toNat]

def cc0_transform_6 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c3_i32 : BitVec 32 := 3#32
  let c0_i32_5 : BitVec 32 := 0#32
  ![v16.toNat, c0_i32_4.toNat, c3_i32.toNat]

def cc0_transform_7 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c4_i32 : BitVec 32 := 4#32
  let c0_i32_5 : BitVec 32 := 0#32
  ![v16.toNat, c0_i32_4.toNat, c4_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x1x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S512x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S512x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1024x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S256x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== Reference3Ideal.lean ====
abbrev S8x4096x1024 : Shape := ⟨3, ![8, 4096, 1024]⟩
abbrev S32768x512 : Shape := ⟨2, ![32768, 512]⟩
abbrev S32768x1024 : Shape := ⟨2, ![32768, 1024]⟩
abbrev S136x6144 : Shape := ⟨2, ![136, 6144]⟩
abbrev S1024 : Shape := ⟨1, ![1024]⟩
abbrev S512x1024 : Shape := ⟨2, ![512, 1024]⟩
abbrev S1024x1024 : Shape := ⟨2, ![1024, 1024]⟩
abbrev S8x6144 : Shape := ⟨2, ![8, 6144]⟩
abbrev S8x1024 : Shape := ⟨2, ![8, 1024]⟩
abbrev S8x1x1024 : Shape := ⟨3, ![8, 1, 1024]⟩
abbrev S8x4096x512 : Shape := ⟨3, ![8, 4096, 512]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩

abbrev nBuf : Space → Nat
  | .hbm => 94
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S32768x512, .f32⟩
  | .hbm, ⟨2, _⟩ => ⟨S32768x512, .f32⟩
  | .hbm, ⟨3, _⟩ => ⟨S32768x1024, .f32⟩
  | .hbm, ⟨4, _⟩ => ⟨S32768x1024, .f32⟩
  | .hbm, ⟨5, _⟩ => ⟨S136x6144, .f32⟩
  | .hbm, ⟨6, _⟩ => ⟨S1024, .f32⟩
  | .hbm, ⟨7, _⟩ => ⟨S1024, .f32⟩
  | .hbm, ⟨8, _⟩ => ⟨S512x1024, .f32⟩
  | .hbm, ⟨9, _⟩ => ⟨S512x1024, .f32⟩
  | .hbm, ⟨10, _⟩ => ⟨S1024x1024, .f32⟩
  | .hbm, ⟨11, _⟩ => ⟨S8x6144, .f32⟩
  | .hbm, ⟨12, _⟩ => ⟨S8x1024, .f32⟩
  | .hbm, ⟨13, _⟩ => ⟨S8x1024, .f32⟩
  | .hbm, ⟨14, _⟩ => ⟨S8x1024, .f32⟩
  | .hbm, ⟨15, _⟩ => ⟨S8x1024, .f32⟩
  | .hbm, ⟨16, _⟩ => ⟨S8x1024, .f32⟩
  | .hbm, ⟨17, _⟩ => ⟨S8x1024, .f32⟩
  | .hbm, ⟨18, _⟩ => ⟨S8x1x1024, .f32⟩
  | .hbm, ⟨19, _⟩ => ⟨S8x1x1024, .f32⟩
  | .hbm, ⟨20, _⟩ => ⟨S8x1x1024, .f32⟩
  | .hbm, ⟨21, _⟩ => ⟨S8x1x1024, .f32⟩
  | .hbm, ⟨22, _⟩ => ⟨S8x1x1024, .f32⟩
  | .hbm, ⟨23, _⟩ => ⟨S8x1x1024, .f32⟩
  | .hbm, ⟨24, _⟩ => ⟨S8x4096x512, .f32⟩
  | .hbm, ⟨25, _⟩ => ⟨S8x4096x512, .f32⟩
  | .hbm, ⟨26, _⟩ => ⟨S8x4096x1024, .f32⟩
  | .hbm, ⟨27, _⟩ => ⟨S8x4096x1024, .f32⟩
  | .hbm, ⟨28, _⟩ => ⟨S8x4096x1024, .f32⟩
  | .hbm, ⟨29, _⟩ => ⟨S8x4096x1024, .f32⟩
  | .hbm, ⟨30, _⟩ => ⟨S_, .f32⟩
  | .hbm, ⟨31, _⟩ => ⟨S8x4096x1024, .f32⟩
  | .hbm, ⟨32, _⟩ => ⟨S8x4096x1024, .f32⟩
  | .hbm, ⟨33, _⟩ => ⟨S_, .f32⟩
  | .hbm, ⟨34, _⟩ => ⟨S8x4096x1024, .f32⟩
  | .hbm, ⟨35, _⟩ => ⟨S8x4096x1024, .f32⟩
  | .hbm, ⟨36, _⟩ => ⟨S8x4096x1024, .f32⟩
  | .hbm, ⟨37, _⟩ => ⟨S8x4096x1024, .f32⟩
  | .hbm, ⟨38, _⟩ => ⟨S8x4096x1024, .f32⟩
  | .hbm, ⟨39, _⟩ => ⟨S8x4096x1024, .f32⟩
  | .hbm, ⟨40, _⟩ => ⟨S_, .f32⟩
  | .hbm, ⟨41, _⟩ => ⟨S8x4096x1024, .f32⟩
  | .hbm, ⟨42, _⟩ => ⟨S8x4096x1024, .f32⟩
  | .hbm, ⟨43, _⟩ => ⟨S_, .f32⟩
  | .hbm, ⟨44, _⟩ => ⟨S8x4096x1024, .f32⟩
  | .hbm, ⟨45, _⟩ => ⟨S8x4096x1024, .f32⟩
  | .hbm, ⟨46, _⟩ => ⟨S8x4096x1024, .f32⟩
  | .hbm, ⟨47, _⟩ => ⟨S8x4096x1024, .f32⟩
  | .hbm, ⟨48, _⟩ => ⟨S8x4096x1024, .f32⟩
  | .hbm, ⟨49, _⟩ => ⟨S8x4096x1024, .f32⟩
  | .hbm, ⟨50, _⟩ => ⟨S8x4096x1024, .f32⟩
  | .hbm, ⟨51, _⟩ => ⟨S_, .f32⟩
  | .hbm, ⟨52, _⟩ => ⟨S8x4096, .f32⟩
  | .hbm, ⟨53, _⟩ => ⟨S8x4096x1, .f32⟩
  | .hbm, ⟨54, _⟩ => ⟨S_, .f32⟩
  | .hbm, ⟨55, _⟩ => ⟨S8x4096x1, .f32⟩
  | .hbm, ⟨56, _⟩ => ⟨S8x4096x1, .f32⟩
  | .hbm, ⟨57, _⟩ => ⟨S_, .f32⟩
  | .hbm, ⟨58, _⟩ => ⟨S8x4096x1, .f32⟩
  | .hbm, ⟨59, _⟩ => ⟨S8x4096x1, .f32⟩
  | .hbm, ⟨60, _⟩ => ⟨S8x4096x1, .f32⟩
  | .hbm, ⟨61, _⟩ => ⟨S8x4096x1024, .f32⟩
  | .hbm, ⟨62, _⟩ => ⟨S8x4096x1024, .f32⟩
  | .hbm, ⟨63, _⟩ => ⟨S1x1x1024, .f32⟩
  | .hbm, ⟨64, _⟩ => ⟨S8x4096x1024, .f32⟩
  | .hbm, ⟨65, _⟩ => ⟨S8x4096x1024, .f32⟩
  | .hbm, ⟨66, _⟩ => ⟨S8x4096x1024, .f32⟩
  | .hbm, ⟨67, _⟩ => ⟨S8x4096x1024, .f32⟩
  | .hbm, ⟨68, _⟩ => ⟨S8x4096x1024, .f32⟩
  | .hbm, ⟨69, _⟩ => ⟨S8x4096x1024, .f32⟩
  | .hbm, ⟨70, _⟩ => ⟨S_, .f32⟩
  | .hbm, ⟨71, _⟩ => ⟨S8x4096, .f32⟩
  | .hbm, ⟨72, _⟩ => ⟨S8x4096x1, .f32⟩
  | .hbm, ⟨73, _⟩ => ⟨S_, .f32⟩
  | .hbm, ⟨74, _⟩ => ⟨S8x4096x1, .f32⟩
  | .hbm, ⟨75, _⟩ => ⟨S8x4096x1, .f32⟩
  | .hbm, ⟨76, _⟩ => ⟨S_, .f32⟩
  | .hbm, ⟨77, _⟩ => ⟨S8x4096x1, .f32⟩
  | .hbm, ⟨78, _⟩ => ⟨S8x4096x1, .f32⟩
  | .hbm, ⟨79, _⟩ => ⟨S8x4096x1, .f32⟩
  | .hbm, ⟨80, _⟩ => ⟨S8x4096x1024, .f32⟩
  | .hbm, ⟨81, _⟩ => ⟨S8x4096x1024, .f32⟩
  | .hbm, ⟨82, _⟩ => ⟨S1x1x1024, .f32⟩
  | .hbm, ⟨83, _⟩ => ⟨S8x4096x1024, .f32⟩
  | .hbm, ⟨84, _⟩ => ⟨S8x4096x1024, .f32⟩
  | .hbm, ⟨85, _⟩ => ⟨S_, .f32⟩
  | .hbm, ⟨86, _⟩ => ⟨S8x1x1024, .f32⟩
  | .hbm, ⟨87, _⟩ => ⟨S8x1x1024, .f32⟩
  | .hbm, ⟨88, _⟩ => ⟨S8x4096x1024, .f32⟩
  | .hbm, ⟨89, _⟩ => ⟨S8x4096x1024, .f32⟩
  | .hbm, ⟨90, _⟩ => ⟨S8x4096x1024, .f32⟩
  | .hbm, ⟨91, _⟩ => ⟨S8x4096x1024, .f32⟩
  | .hbm, ⟨92, _⟩ => ⟨S32768x1024, .f32⟩
  | .hbm, ⟨93, _⟩ => ⟨S32768x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst : Ref sig .tc := ⟨.hbm, 30, rfl⟩
abbrev main_v19 : Ref sig .tc := ⟨.hbm, 31, rfl⟩
abbrev main_v20 : Ref sig .tc := ⟨.hbm, 32, rfl⟩
abbrev main_cst_0 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_1 : Ref sig .tc := ⟨.hbm, 40, rfl⟩
abbrev main_v27 : Ref sig .tc := ⟨.hbm, 41, rfl⟩
abbrev main_v28 : Ref sig .tc := ⟨.hbm, 42, rfl⟩
abbrev main_cst_2 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_cst_3 : Ref sig .tc := ⟨.hbm, 51, rfl⟩
abbrev main_v36 : Ref sig .tc := ⟨.hbm, 52, rfl⟩
abbrev main_v37 : Ref sig .tc := ⟨.hbm, 53, rfl⟩
abbrev main_cst_4 : Ref sig .tc := ⟨.hbm, 54, rfl⟩
abbrev main_v38 : Ref sig .tc := ⟨.hbm, 55, rfl⟩
abbrev main_v39 : Ref sig .tc := ⟨.hbm, 56, rfl⟩
abbrev main_cst_5 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_cst_6 : Ref sig .tc := ⟨.hbm, 70, rfl⟩
abbrev main_v52 : Ref sig .tc := ⟨.hbm, 71, rfl⟩
abbrev main_v53 : Ref sig .tc := ⟨.hbm, 72, rfl⟩
abbrev main_cst_7 : Ref sig .tc := ⟨.hbm, 73, rfl⟩
abbrev main_v54 : Ref sig .tc := ⟨.hbm, 74, rfl⟩
abbrev main_v55 : Ref sig .tc := ⟨.hbm, 75, rfl⟩
abbrev main_cst_8 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_cst_9 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩

abbrev nD : Nat := 1
abbrev τ : Topo := Topo.v7x

variable {F : FTy → Type} [FloatOps F]
-- ==== Kernel4.lean ====
abbrev S128x1x1024 : Shape := ⟨3, ![128, 1, 1024]⟩
abbrev S136x6144 : Shape := ⟨2, ![136, 6144]⟩
abbrev S1024 : Shape := ⟨1, ![1024]⟩
abbrev S1024x4872 : Shape := ⟨2, ![1024, 4872]⟩
abbrev S128x128x2x64 : Shape := ⟨4, ![128, 128, 2, 64]⟩
abbrev S128x3x1536 : Shape := ⟨3, ![128, 3, 1536]⟩
abbrev S128x6144 : Shape := ⟨2, ![128, 6144]⟩
abbrev S1x128x6144 : Shape := ⟨3, ![1, 128, 6144]⟩
abbrev S1024x768 : Shape := ⟨2, ![1024, 768]⟩
abbrev S1024x1536 : Shape := ⟨2, ![1024, 1536]⟩
abbrev S1024x8 : Shape := ⟨2, ![1024, 8]⟩
abbrev S1024x512 : Shape := ⟨2, ![1024, 512]⟩
abbrev S1024x1024 : Shape := ⟨2, ![1024, 1024]⟩
abbrev S_ : Shape := ⟨0, ![]⟩
abbrev S1024x128 : Shape := ⟨2, ![1024, 128]⟩
abbrev S128x1024 : Shape := ⟨2, ![128, 1024]⟩
abbrev S1x1024 : Shape := ⟨2, ![1, 1024]⟩
abbrev S128x768 : Shape := ⟨2, ![128, 768]⟩
abbrev S128x1536 : Shape := ⟨2, ![128, 1536]⟩
abbrev S128x128 : Shape := ⟨2, ![128, 128]⟩
abbrev S128x512 : Shape := ⟨2, ![128, 512]⟩
abbrev S1x128x1024 : Shape := ⟨3, ![1, 128, 1024]⟩
abbrev S128 : Shape := ⟨1, ![128]⟩
abbrev S128x1 : Shape := ⟨2, ![128, 1]⟩
abbrev S128x1x2x64 : Shape := ⟨4, ![128, 1, 2, 64]⟩
abbrev S128x127x2x64 : Shape := ⟨4, ![128, 127, 2, 64]⟩
abbrev S128x2x1536 : Shape := ⟨3, ![128, 2, 1536]⟩
abbrev S128x1x1536 : Shape := ⟨3, ![128, 1, 1536]⟩
abbrev S128x8 : Shape := ⟨2, ![128, 8]⟩

abbrev nBuf : Space → Nat
  | .hbm => 44
  | .vmem => 16
  | .smem => 0
  | _ => 0

abbrev bufTy : (tb : Table) → Fin (tcTables nBuf tb) → BufTy
  | .hbm, ⟨0, _⟩ => ⟨S128x1x1024, .f32⟩
  | .hbm, ⟨1, _⟩ => ⟨S136x6144, .f32⟩
  | .hbm, ⟨2, _⟩ => ⟨S1024, .f32⟩
  | .hbm, ⟨3, _⟩ => ⟨S1024x4872, .f32⟩
  | .hbm, ⟨4, _⟩ => ⟨S128x128x2x64, .f32⟩
  | .hbm, ⟨5, _⟩ => ⟨S128x128x2x64, .f32⟩
  | .hbm, ⟨6, _⟩ => ⟨S128x3x1536, .f32⟩
  | .hbm, ⟨7, _⟩ => ⟨S128x6144, .f32⟩
  | .hbm, ⟨8, _⟩ => ⟨S1x128x6144, .f32⟩
  | .hbm, ⟨9, _⟩ => ⟨S1024x768, .f32⟩
  | .hbm, ⟨10, _⟩ => ⟨S1024x1536, .f32⟩
  | .hbm, ⟨11, _⟩ => ⟨S1024x8, .f32⟩
  | .hbm, ⟨12, _⟩ => ⟨S1024x512, .f32⟩
  | .hbm, ⟨13, _⟩ => ⟨S1024x1024, .f32⟩
  | .hbm, ⟨14, _⟩ => ⟨S1024x1024, .f32⟩
  | .hbm, ⟨15, _⟩ => ⟨S_, .i32⟩
  | .hbm, ⟨16, _⟩ => ⟨S_, .f32⟩
  | .hbm, ⟨17, _⟩ => ⟨S1024x128, .f32⟩
  | .hbm, ⟨18, _⟩ => ⟨S1024x768, .bf16⟩
  | .hbm, ⟨19, _⟩ => ⟨S1024x1536, .bf16⟩
  | .hbm, ⟨20, _⟩ => ⟨S1024x128, .bf16⟩
  | .hbm, ⟨21, _⟩ => ⟨S1024x512, .bf16⟩
  | .hbm, ⟨22, _⟩ => ⟨S1024x1024, .bf16⟩
  | .hbm, ⟨23, _⟩ => ⟨S1024x1024, .bf16⟩
  | .hbm, ⟨24, _⟩ => ⟨S128x1024, .f32⟩
  | .hbm, ⟨25, _⟩ => ⟨S1x1024, .f32⟩
  | .hbm, ⟨26, _⟩ => ⟨S128x768, .f32⟩
  | .hbm, ⟨27, _⟩ => ⟨S128x1536, .f32⟩
  | .hbm, ⟨28, _⟩ => ⟨S128x128, .f32⟩
  | .hbm, ⟨29, _⟩ => ⟨S128x512, .f32⟩
  | .hbm, ⟨30, _⟩ => ⟨S128x1024, .f32⟩
  | .hbm, ⟨31, _⟩ => ⟨S128x1024, .f32⟩
  | .hbm, ⟨32, _⟩ => ⟨S128x128, .f32⟩
  | .hbm, ⟨33, _⟩ => ⟨S128x1x2x64, .f32⟩
  | .hbm, ⟨34, _⟩ => ⟨S128x128, .f32⟩
  | .hbm, ⟨35, _⟩ => ⟨S128x1x2x64, .f32⟩
  | .hbm, ⟨36, _⟩ => ⟨S128x127x2x64, .f32⟩
  | .hbm, ⟨37, _⟩ => ⟨S128x128x2x64, .f32⟩
  | .hbm, ⟨38, _⟩ => ⟨S128x127x2x64, .f32⟩
  | .hbm, ⟨39, _⟩ => ⟨S128x128x2x64, .f32⟩
  | .hbm, ⟨40, _⟩ => ⟨S128x2x1536, .f32⟩
  | .hbm, ⟨41, _⟩ => ⟨S128x1x1536, .f32⟩
  | .hbm, ⟨42, _⟩ => ⟨S128x3x1536, .f32⟩
  | .hbm, ⟨43, _⟩ => ⟨S128x8, .f32⟩
  | .local _ .vmem, ⟨0, _⟩ => ⟨S128x1024, .f32⟩
  | .local _ .vmem, ⟨1, _⟩ => ⟨S1x128x1024, .f32⟩
  | .local _ .vmem, ⟨2, _⟩ => ⟨S1x128x1024, .f32⟩
  | .local _ .vmem, ⟨3, _⟩ => ⟨S1x1024, .f32⟩
  | .local _ .vmem, ⟨4, _⟩ => ⟨S1024x768, .bf16⟩
  | .local _ .vmem, ⟨5, _⟩ => ⟨S1024x1536, .bf16⟩
  | .local _ .vmem, ⟨6, _⟩ => ⟨S1024x128, .bf16⟩
  | .local _ .vmem, ⟨7, _⟩ => ⟨S1024x512, .bf16⟩
  | .local _ .vmem, ⟨8, _⟩ => ⟨S1024x1024, .bf16⟩
  | .local _ .vmem, ⟨9, _⟩ => ⟨S1024x1024, .bf16⟩
  | .local _ .vmem, ⟨10, _⟩ => ⟨S128x768, .f32⟩
  | .local _ .vmem, ⟨11, _⟩ => ⟨S128x1536, .f32⟩
  | .local _ .vmem, ⟨12, _⟩ => ⟨S128x128, .f32⟩
  | .local _ .vmem, ⟨13, _⟩ => ⟨S128x512, .f32⟩
  | .local _ .vmem, ⟨14, _⟩ => ⟨S128x1024, .f32⟩
  | .local _ .vmem, ⟨15, _⟩ => ⟨S128x1024, .f32⟩
  | _, _ => ⟨S128x1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_c : Ref sig .tc := ⟨.hbm, 15, rfl⟩
abbrev main_call0_v0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17_0 : Ref sig .tc := ⟨.hbm, 26, rfl⟩
abbrev main_v17_1 : Ref sig .tc := ⟨.hbm, 27, rfl⟩
abbrev main_v17_2 : Ref sig .tc := ⟨.hbm, 28, rfl⟩
abbrev main_v17_3 : Ref sig .tc := ⟨.hbm, 29, rfl⟩
abbrev main_v17_4 : Ref sig .tc := ⟨.hbm, 30, rfl⟩
abbrev main_v17_5 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let c0_i32_6 : BitVec 32 := 0#32
  let c0_i32_7 : BitVec 32 := 0#32
  ![v16.toNat, c0_i32_5.toNat, c0_i32_6.toNat]

def cc0_transform_2 (i : grid0.Coords) : Fin 3 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let c1_i32_6 : BitVec 32 := 1#32
  let c0_i32_7 : BitVec 32 := 0#32
  ![v16.toNat, c0_i32_5.toNat, c1_i32_6.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x768 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1536 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128x768 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![true]

abbrev stage0_11 : Fin 1 → Memref sig .tc .vmem S128x1536 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![true]

abbrev stage0_12 : Fin 1 → Memref sig .tc .vmem S128x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![true]

abbrev stage0_13 : Fin 1 → Memref sig .tc .vmem S128x512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![true]

abbrev stage0_14 : Fin 1 → Memref sig .tc .vmem S128x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![true]

abbrev stage0_15 : Fin 1 → Memref sig .tc .vmem S128x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![true]
-- ==== Reference4Ideal.lean ====
abbrev S128x1x1024 : Shape := ⟨3, ![128, 1, 1024]⟩
abbrev S136x6144 : Shape := ⟨2, ![136, 6144]⟩
abbrev S1024 : Shape := ⟨1, ![1024]⟩
abbrev S1024x4872 : Shape := ⟨2, ![1024, 4872]⟩
abbrev S128x128x2x64 : Shape := ⟨4, ![128, 128, 2, 64]⟩
abbrev S128x3x1536 : Shape := ⟨3, ![128, 3, 1536]⟩
abbrev S128x6144 : Shape := ⟨2, ![128, 6144]⟩
abbrev S128x1024 : Shape := ⟨2, ![128, 1024]⟩
abbrev S_ : Shape := ⟨0, ![]⟩
abbrev S128x1 : Shape := ⟨2, ![128, 1]⟩
abbrev S128x1x1 : Shape := ⟨3, ![128, 1, 1]⟩
abbrev S1x1x1024 : Shape := ⟨3, ![1, 1, 1024]⟩
abbrev S128x1x4872 : Shape := ⟨3, ![128, 1, 4872]⟩
abbrev S128x1x512 : Shape := ⟨3, ![128, 1, 512]⟩
abbrev S128x1x128 : Shape := ⟨3, ![128, 1, 128]⟩
abbrev S128x1x1536 : Shape := ⟨3, ![128, 1, 1536]⟩
abbrev S128x1x4 : Shape := ⟨3, ![128, 1, 4]⟩
abbrev S128x1x2x64 : Shape := ⟨4, ![128, 1, 2, 64]⟩
abbrev S128x129x2x64 : Shape := ⟨4, ![128, 129, 2, 64]⟩
abbrev S128x4x1536 : Shape := ⟨3, ![128, 4, 1536]⟩
abbrev S128x1x768 : Shape := ⟨3, ![128, 1, 768]⟩
abbrev S128x768 : Shape := ⟨2, ![128, 768]⟩
abbrev S128x1536 : Shape := ⟨2, ![128, 1536]⟩
abbrev S128x1x8 : Shape := ⟨3, ![128, 1, 8]⟩
abbrev S128x8 : Shape := ⟨2, ![128, 8]⟩
abbrev S128x512 : Shape := ⟨2, ![128, 512]⟩

abbrev nBuf : Space → Nat
  | .hbm => 67
  | .vmem => 0
  | .smem => 0
  | _ => 0

abbrev bufTy : (tb : Table) → Fin (tcTables nBuf tb) → BufTy
  | .hbm, ⟨0, _⟩ => ⟨S128x1x1024, .f32⟩
  | .hbm, ⟨1, _⟩ => ⟨S136x6144, .f32⟩
  | .hbm, ⟨2, _⟩ => ⟨S1024, .f32⟩
  | .hbm, ⟨3, _⟩ => ⟨S1024x4872, .f32⟩
  | .hbm, ⟨4, _⟩ => ⟨S128x128x2x64, .f32⟩
  | .hbm, ⟨5, _⟩ => ⟨S128x128x2x64, .f32⟩
  | .hbm, ⟨6, _⟩ => ⟨S128x3x1536, .f32⟩
  | .hbm, ⟨7, _⟩ => ⟨S128x6144, .f32⟩
  | .hbm, ⟨8, _⟩ => ⟨S128x1024, .f32⟩
  | .hbm, ⟨9, _⟩ => ⟨S128x1024, .f32⟩
  | .hbm, ⟨10, _⟩ => ⟨S128x1024, .f32⟩
  | .hbm, ⟨11, _⟩ => ⟨S128x1024, .f32⟩
  | .hbm, ⟨12, _⟩ => ⟨S128x1024, .f32⟩
  | .hbm, ⟨13, _⟩ => ⟨S128x1024, .f32⟩
  | .hbm, ⟨14, _⟩ => ⟨S128x1x1024, .f32⟩
  | .hbm, ⟨15, _⟩ => ⟨S128x1x1024, .f32⟩
  | .hbm, ⟨16, _⟩ => ⟨S128x1x1024, .f32⟩
  | .hbm, ⟨17, _⟩ => ⟨S128x1x1024, .f32⟩
  | .hbm, ⟨18, _⟩ => ⟨S128x1x1024, .f32⟩
  | .hbm, ⟨19, _⟩ => ⟨S128x1x1024, .f32⟩
  | .hbm, ⟨20, _⟩ => ⟨S128x1x1024, .f32⟩
  | .hbm, ⟨21, _⟩ => ⟨S_, .f32⟩
  | .hbm, ⟨22, _⟩ => ⟨S128x1, .f32⟩
  | .hbm, ⟨23, _⟩ => ⟨S128x1x1, .f32⟩
  | .hbm, ⟨24, _⟩ => ⟨S_, .f32⟩
  | .hbm, ⟨25, _⟩ => ⟨S128x1x1, .f32⟩
  | .hbm, ⟨26, _⟩ => ⟨S128x1x1, .f32⟩
  | .hbm, ⟨27, _⟩ => ⟨S_, .f32⟩
  | .hbm, ⟨28, _⟩ => ⟨S128x1x1, .f32⟩
  | .hbm, ⟨29, _⟩ => ⟨S128x1x1, .f32⟩
  | .hbm, ⟨30, _⟩ => ⟨S128x1x1, .f32⟩
  | .hbm, ⟨31, _⟩ => ⟨S128x1x1024, .f32⟩
  | .hbm, ⟨32, _⟩ => ⟨S128x1x1024, .f32⟩
  | .hbm, ⟨33, _⟩ => ⟨S1x1x1024, .f32⟩
  | .hbm, ⟨34, _⟩ => ⟨S128x1x1024, .f32⟩
  | .hbm, ⟨35, _⟩ => ⟨S128x1x1024, .f32⟩
  | .hbm, ⟨36, _⟩ => ⟨S_, .f32⟩
  | .hbm, ⟨37, _⟩ => ⟨S128x1x1024, .f32⟩
  | .hbm, ⟨38, _⟩ => ⟨S128x1x1024, .f32⟩
  | .hbm, ⟨39, _⟩ => ⟨S128x1x1024, .f32⟩
  | .hbm, ⟨40, _⟩ => ⟨S128x1x1024, .f32⟩
  | .hbm, ⟨41, _⟩ => ⟨S128x1x4872, .f32⟩
  | .hbm, ⟨42, _⟩ => ⟨S128x1x512, .f32⟩
  | .hbm, ⟨43, _⟩ => ⟨S128x1x128, .f32⟩
  | .hbm, ⟨44, _⟩ => ⟨S128x1x128, .f32⟩
  | .hbm, ⟨45, _⟩ => ⟨S128x1x1536, .f32⟩
  | .hbm, ⟨46, _⟩ => ⟨S128x1x4, .f32⟩
  | .hbm, ⟨47, _⟩ => ⟨S128x1x4, .f32⟩
  | .hbm, ⟨48, _⟩ => ⟨S128x1x512, .f32⟩
  | .hbm, ⟨49, _⟩ => ⟨S128x1x1024, .f32⟩
  | .hbm, ⟨50, _⟩ => ⟨S128x1x1024, .f32⟩
  | .hbm, ⟨51, _⟩ => ⟨S128x1x2x64, .f32⟩
  | .hbm, ⟨52, _⟩ => ⟨S128x1x2x64, .f32⟩
  | .hbm, ⟨53, _⟩ => ⟨S128x129x2x64, .f32⟩
  | .hbm, ⟨54, _⟩ => ⟨S128x129x2x64, .f32⟩
  | .hbm, ⟨55, _⟩ => ⟨S128x128x2x64, .f32⟩
  | .hbm, ⟨56, _⟩ => ⟨S128x128x2x64, .f32⟩
  | .hbm, ⟨57, _⟩ => ⟨S128x4x1536, .f32⟩
  | .hbm, ⟨58, _⟩ => ⟨S128x3x1536, .f32⟩
  | .hbm, ⟨59, _⟩ => ⟨S128x1x768, .f32⟩
  | .hbm, ⟨60, _⟩ => ⟨S128x768, .f32⟩
  | .hbm, ⟨61, _⟩ => ⟨S128x1536, .f32⟩
  | .hbm, ⟨62, _⟩ => ⟨S128x1x8, .f32⟩
  | .hbm, ⟨63, _⟩ => ⟨S128x8, .f32⟩
  | .hbm, ⟨64, _⟩ => ⟨S128x512, .f32⟩
  | .hbm, ⟨65, _⟩ => ⟨S128x1024, .f32⟩
  | .hbm, ⟨66, _⟩ => ⟨S128x1024, .f32⟩
  | _, _ => ⟨S128x1x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst : Ref sig .tc := ⟨.hbm, 21, rfl⟩
abbrev main_v14 : Ref sig .tc := ⟨.hbm, 22, rfl⟩
abbrev main_v15 : Ref sig .tc := ⟨.hbm, 23, rfl⟩
abbrev main_cst_0 : Ref sig .tc := ⟨.hbm, 24, rfl⟩
abbrev main_v16 : Ref sig .tc := ⟨.hbm, 25, rfl⟩
abbrev main_v17 : Ref sig .tc := ⟨.hbm, 26, rfl⟩
abbrev main_cst_1 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_2 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩

abbrev nD : Nat := 1
abbrev τ : Topo := Topo.v7x

variable {F : FTy → Type} [FloatOps F]
-- ==== Kernel5.lean ====
abbrev S8x1024 : Shape := ⟨2, ![8, 1024]⟩
abbrev S128x1024 : Shape := ⟨2, ![128, 1024]⟩
abbrev S1024x6144 : Shape := ⟨2, ![1024, 6144]⟩
abbrev S6144 : Shape := ⟨1, ![6144]⟩
abbrev S136x1024 : Shape := ⟨2, ![136, 1024]⟩
abbrev S1x6144 : Shape := ⟨2, ![1, 6144]⟩
abbrev S136x6144 : Shape := ⟨2, ![136, 6144]⟩
abbrev S1024x512 : Shape := ⟨2, ![1024, 512]⟩
abbrev S1x512 : Shape := ⟨2, ![1, 512]⟩
abbrev S136x512 : Shape := ⟨2, ![136, 512]⟩
abbrev S8x6144 : Shape := ⟨2, ![8, 6144]⟩
abbrev S128x6144 : Shape := ⟨2, ![128, 6144]⟩

abbrev nBuf : Space → Nat
  | .hbm => 9
  | .vmem => 7
  | .smem => 0
  | _ => 0

abbrev bufTy : (tb : Table) → Fin (tcTables nBuf tb) → BufTy
  | .hbm, ⟨0, _⟩ => ⟨S8x1024, .f32⟩
  | .hbm, ⟨1, _⟩ => ⟨S128x1024, .f32⟩
  | .hbm, ⟨2, _⟩ => ⟨S1024x6144, .f32⟩
  | .hbm, ⟨3, _⟩ => ⟨S6144, .f32⟩
  | .hbm, ⟨4, _⟩ => ⟨S136x1024, .f32⟩
  | .hbm, ⟨5, _⟩ => ⟨S1x6144, .f32⟩
  | .hbm, ⟨6, _⟩ => ⟨S136x6144, .f32⟩
  | .hbm, ⟨7, _⟩ => ⟨S8x6144, .f32⟩
  | .hbm, ⟨8, _⟩ => ⟨S128x6144, .f32⟩
  | .local _ .vmem, ⟨0, _⟩ => ⟨S136x1024, .f32⟩
  | .local _ .vmem, ⟨1, _⟩ => ⟨S1024x512, .f32⟩
  | .local _ .vmem, ⟨2, _⟩ => ⟨S1024x512, .f32⟩
  | .local _ .vmem, ⟨3, _⟩ => ⟨S1x512, .f32⟩
  | .local _ .vmem, ⟨4, _⟩ => ⟨S1x512, .f32⟩
  | .local _ .vmem, ⟨5, _⟩ => ⟨S136x512, .f32⟩
  | .local _ .vmem, ⟨6, _⟩ => ⟨S136x512, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![12], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S136x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S136x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference5Ideal.lean ====
abbrev S8x1024 : Shape := ⟨2, ![8, 1024]⟩
abbrev S128x1024 : Shape := ⟨2, ![128, 1024]⟩
abbrev S1024x6144 : Shape := ⟨2, ![1024, 6144]⟩
abbrev S6144 : Shape := ⟨1, ![6144]⟩
abbrev S_ : Shape := ⟨0, ![]⟩
abbrev S8x6144 : Shape := ⟨2, ![8, 6144]⟩
abbrev S1x6144 : Shape := ⟨2, ![1, 6144]⟩
abbrev S128x6144 : Shape := ⟨2, ![128, 6144]⟩

abbrev nBuf : Space → Nat
  | .hbm => 30
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S128x1024, .f32⟩
  | .hbm, ⟨2, _⟩ => ⟨S1024x6144, .f32⟩
  | .hbm, ⟨3, _⟩ => ⟨S6144, .f32⟩
  | .hbm, ⟨4, _⟩ => ⟨S8x1024, .f32⟩
  | .hbm, ⟨5, _⟩ => ⟨S8x1024, .f32⟩
  | .hbm, ⟨6, _⟩ => ⟨S_, .f32⟩
  | .hbm, ⟨7, _⟩ => ⟨S8x1024, .f32⟩
  | .hbm, ⟨8, _⟩ => ⟨S8x1024, .f32⟩
  | .hbm, ⟨9, _⟩ => ⟨S_, .f32⟩
  | .hbm, ⟨10, _⟩ => ⟨S8x1024, .f32⟩
  | .hbm, ⟨11, _⟩ => ⟨S8x1024, .f32⟩
  | .hbm, ⟨12, _⟩ => ⟨S8x1024, .f32⟩
  | .hbm, ⟨13, _⟩ => ⟨S8x6144, .f32⟩
  | .hbm, ⟨14, _⟩ => ⟨S1x6144, .f32⟩
  | .hbm, ⟨15, _⟩ => ⟨S8x6144, .f32⟩
  | .hbm, ⟨16, _⟩ => ⟨S8x6144, .f32⟩
  | .hbm, ⟨17, _⟩ => ⟨S128x1024, .f32⟩
  | .hbm, ⟨18, _⟩ => ⟨S128x1024, .f32⟩
  | .hbm, ⟨19, _⟩ => ⟨S_, .f32⟩
  | .hbm, ⟨20, _⟩ => ⟨S128x1024, .f32⟩
  | .hbm, ⟨21, _⟩ => ⟨S128x1024, .f32⟩
  | .hbm, ⟨22, _⟩ => ⟨S_, .f32⟩
  | .hbm, ⟨23, _⟩ => ⟨S128x1024, .f32⟩
  | .hbm, ⟨24, _⟩ => ⟨S128x1024, .f32⟩
  | .hbm, ⟨25, _⟩ => ⟨S128x1024, .f32⟩
  | .hbm, ⟨26, _⟩ => ⟨S128x6144, .f32⟩
  | .hbm, ⟨27, _⟩ => ⟨S1x6144, .f32⟩
  | .hbm, ⟨28, _⟩ => ⟨S128x6144, .f32⟩
  | .hbm, ⟨29, _⟩ => ⟨S128x6144, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_call0_v5 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_call1_v0 : Ref sig .tc := ⟨.hbm, 17, rfl⟩
abbrev main_call1_v1 : Ref sig .tc := ⟨.hbm, 18, rfl⟩
abbrev main_call1_cst : Ref sig .tc := ⟨.hbm, 19, rfl⟩
abbrev main_call1_v2 : Ref sig .tc := ⟨.hbm, 20, rfl⟩
abbrev main_call1_v3 : Ref sig .tc := ⟨.hbm, 21, rfl⟩
abbrev main_call1_cst_0 : Ref sig .tc := ⟨.hbm, 22, rfl⟩
abbrev main_call1_v4 : Ref sig .tc := ⟨.hbm, 23, rfl⟩
abbrev main_call1_v5 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩

abbrev nD : Nat := 1
abbrev τ : Topo := Topo.v7x

variable {F : FTy → Type} [FloatOps F]
-- ==== Kernel6.lean ====
abbrev S128x1x1024 : Shape := ⟨3, ![128, 1, 1024]⟩
abbrev S128x512 : Shape := ⟨2, ![128, 512]⟩
abbrev S128x1024 : Shape := ⟨2, ![128, 1024]⟩
abbrev S136x6144 : Shape := ⟨2, ![136, 6144]⟩
abbrev S1024 : Shape := ⟨1, ![1024]⟩
abbrev S512x1024 : Shape := ⟨2, ![512, 1024]⟩
abbrev S1024x1024 : Shape := ⟨2, ![1024, 1024]⟩
abbrev S128x6144 : Shape := ⟨2, ![128, 6144]⟩
abbrev S1x128x6144 : Shape := ⟨3, ![1, 128, 6144]⟩
abbrev S1x1024 : Shape := ⟨2, ![1, 1024]⟩
abbrev S1x128x1024 : Shape := ⟨3, ![1, 128, 1024]⟩
abbrev S128 : Shape := ⟨1, ![128]⟩
abbrev S128x1 : Shape := ⟨2, ![128, 1]⟩

abbrev nBuf : Space → Nat
  | .hbm => 21
  | .vmem => 15
  | .smem => 0
  | _ => 0

abbrev bufTy : (tb : Table) → Fin (tcTables nBuf tb) → BufTy
  | .hbm, ⟨0, _⟩ => ⟨S128x1x1024, .f32⟩
  | .hbm, ⟨1, _⟩ => ⟨S128x512, .f32⟩
  | .hbm, ⟨2, _⟩ => ⟨S128x512, .f32⟩
  | .hbm, ⟨3, _⟩ => ⟨S128x1024, .f32⟩
  | .hbm, ⟨4, _⟩ => ⟨S128x1024, .f32⟩
  | .hbm, ⟨5, _⟩ => ⟨S136x6144, .f32⟩
  | .hbm, ⟨6, _⟩ => ⟨S1024, .f32⟩
  | .hbm, ⟨7, _⟩ => ⟨S1024, .f32⟩
  | .hbm, ⟨8, _⟩ => ⟨S512x1024, .f32⟩
  | .hbm, ⟨9, _⟩ => ⟨S512x1024, .f32⟩
  | .hbm, ⟨10, _⟩ => ⟨S1024x1024, .f32⟩
  | .hbm, ⟨11, _⟩ => ⟨S128x6144, .f32⟩
  | .hbm, ⟨12, _⟩ => ⟨S1x128x6144, .f32⟩
  | .hbm, ⟨13, _⟩ => ⟨S128x1024, .f32⟩
  | .hbm, ⟨14, _⟩ => ⟨S1x1024, .f32⟩
  | .hbm, ⟨15, _⟩ => ⟨S1x1024, .f32⟩
  | .hbm, ⟨16, _⟩ => ⟨S512x1024, .bf16⟩
  | .hbm, ⟨17, _⟩ => ⟨S512x1024, .bf16⟩
  | .hbm, ⟨18, _⟩ => ⟨S1024x1024, .bf16⟩
  | .hbm, ⟨19, _⟩ => ⟨S128x1024, .f32⟩
  | .hbm, ⟨20, _⟩ => ⟨S128x1024, .f32⟩
  | .local _ .vmem, ⟨0, _⟩ => ⟨S128x1024, .f32⟩
  | .local _ .vmem, ⟨1, _⟩ => ⟨S128x512, .f32⟩
  | .local _ .vmem, ⟨2, _⟩ => ⟨S128x512, .f32⟩
  | .local _ .vmem, ⟨3, _⟩ => ⟨S128x1024, .f32⟩
  | .local _ .vmem, ⟨4, _⟩ => ⟨S128x1024, .f32⟩
  | .local _ .vmem, ⟨5, _⟩ => ⟨S1x128x1024, .f32⟩
  | .local _ .vmem, ⟨6, _⟩ => ⟨S1x128x1024, .f32⟩
  | .local _ .vmem, ⟨7, _⟩ => ⟨S1x128x1024, .f32⟩
  | .local _ .vmem, ⟨8, _⟩ => ⟨S1x1024, .f32⟩
  | .local _ .vmem, ⟨9, _⟩ => ⟨S1x1024, .f32⟩
  | .local _ .vmem, ⟨10, _⟩ => ⟨S512x1024, .bf16⟩
  | .local _ .vmem, ⟨11, _⟩ => ⟨S512x1024, .bf16⟩
  | .local _ .vmem, ⟨12, _⟩ => ⟨S1024x1024, .bf16⟩
  | .local _ .vmem, ⟨13, _⟩ => ⟨S128x1024, .f32⟩
  | .local _ .vmem, ⟨14, _⟩ => ⟨S128x1024, .f32⟩
  | _, _ => ⟨S128x1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8_0 : Ref sig .tc := ⟨.hbm, 19, rfl⟩
abbrev main_v8_1 : Ref sig .tc := ⟨.hbm, 20, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let c2_i32 : BitVec 32 := 2#32
  let c0_i32_6 : BitVec 32 := 0#32
  ![v16.toNat, c0_i32_5.toNat, c2_i32.toNat]

def cc0_transform_6 (i : grid0.Coords) : Fin 3 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let c3_i32 : BitVec 32 := 3#32
  let c0_i32_6 : BitVec 32 := 0#32
  ![v16.toNat, c0_i32_5.toNat, c3_i32.toNat]

def cc0_transform_7 (i : grid0.Coords) : Fin 3 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let c4_i32 : BitVec 32 := 4#32
  let c0_i32_6 : BitVec 32 := 0#32
  ![v16.toNat, c0_i32_5.toNat, c4_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S128x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x128x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S512x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S512x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1024x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S128x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![true]

abbrev stage0_14 : Fin 1 → Memref sig .tc .vmem S128x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![true]
-- ==== Reference6Ideal.lean ====
abbrev S128x1x1024 : Shape := ⟨3, ![128, 1, 1024]⟩
abbrev S128x512 : Shape := ⟨2, ![128, 512]⟩
abbrev S128x1024 : Shape := ⟨2, ![128, 1024]⟩
abbrev S136x6144 : Shape := ⟨2, ![136, 6144]⟩
abbrev S1024 : Shape := ⟨1, ![1024]⟩
abbrev S512x1024 : Shape := ⟨2, ![512, 1024]⟩
abbrev S1024x1024 : Shape := ⟨2, ![1024, 1024]⟩
abbrev S128x6144 : Shape := ⟨2, ![128, 6144]⟩
abbrev S128x1x512 : Shape := ⟨3, ![128, 1, 512]⟩
abbrev S_ : Shape := ⟨0, ![]⟩
abbrev S128x1 : Shape := ⟨2, ![128, 1]⟩
abbrev S128x1x1 : Shape := ⟨3, ![128, 1, 1]⟩
abbrev S1x1x1024 : Shape := ⟨3, ![1, 1, 1024]⟩

abbrev nBuf : Space → Nat
  | .hbm => 91
  | .vmem => 0
  | .smem => 0
  | _ => 0

abbrev bufTy : (tb : Table) → Fin (tcTables nBuf tb) → BufTy
  | .hbm, ⟨0, _⟩ => ⟨S128x1x1024, .f32⟩
  | .hbm, ⟨1, _⟩ => ⟨S128x512, .f32⟩
  | .hbm, ⟨2, _⟩ => ⟨S128x512, .f32⟩
  | .hbm, ⟨3, _⟩ => ⟨S128x1024, .f32⟩
  | .hbm, ⟨4, _⟩ => ⟨S128x1024, .f32⟩
  | .hbm, ⟨5, _⟩ => ⟨S136x6144, .f32⟩
  | .hbm, ⟨6, _⟩ => ⟨S1024, .f32⟩
  | .hbm, ⟨7, _⟩ => ⟨S1024, .f32⟩
  | .hbm, ⟨8, _⟩ => ⟨S512x1024, .f32⟩
  | .hbm, ⟨9, _⟩ => ⟨S512x1024, .f32⟩
  | .hbm, ⟨10, _⟩ => ⟨S1024x1024, .f32⟩
  | .hbm, ⟨11, _⟩ => ⟨S128x6144, .f32⟩
  | .hbm, ⟨12, _⟩ => ⟨S128x1024, .f32⟩
  | .hbm, ⟨13, _⟩ => ⟨S128x1024, .f32⟩
  | .hbm, ⟨14, _⟩ => ⟨S128x1024, .f32⟩
  | .hbm, ⟨15, _⟩ => ⟨S128x1024, .f32⟩
  | .hbm, ⟨16, _⟩ => ⟨S128x1024, .f32⟩
  | .hbm, ⟨17, _⟩ => ⟨S128x1024, .f32⟩
  | .hbm, ⟨18, _⟩ => ⟨S128x1x1024, .f32⟩
  | .hbm, ⟨19, _⟩ => ⟨S128x1x1024, .f32⟩
  | .hbm, ⟨20, _⟩ => ⟨S128x1x1024, .f32⟩
  | .hbm, ⟨21, _⟩ => ⟨S128x1x1024, .f32⟩
  | .hbm, ⟨22, _⟩ => ⟨S128x1x1024, .f32⟩
  | .hbm, ⟨23, _⟩ => ⟨S128x1x1024, .f32⟩
  | .hbm, ⟨24, _⟩ => ⟨S128x1x512, .f32⟩
  | .hbm, ⟨25, _⟩ => ⟨S128x1x512, .f32⟩
  | .hbm, ⟨26, _⟩ => ⟨S128x1x1024, .f32⟩
  | .hbm, ⟨27, _⟩ => ⟨S128x1x1024, .f32⟩
  | .hbm, ⟨28, _⟩ => ⟨S128x1x1024, .f32⟩
  | .hbm, ⟨29, _⟩ => ⟨S128x1x1024, .f32⟩
  | .hbm, ⟨30, _⟩ => ⟨S_, .f32⟩
  | .hbm, ⟨31, _⟩ => ⟨S128x1x1024, .f32⟩
  | .hbm, ⟨32, _⟩ => ⟨S128x1x1024, .f32⟩
  | .hbm, ⟨33, _⟩ => ⟨S_, .f32⟩
  | .hbm, ⟨34, _⟩ => ⟨S128x1x1024, .f32⟩
  | .hbm, ⟨35, _⟩ => ⟨S128x1x1024, .f32⟩
  | .hbm, ⟨36, _⟩ => ⟨S128x1x1024, .f32⟩
  | .hbm, ⟨37, _⟩ => ⟨S128x1x1024, .f32⟩
  | .hbm, ⟨38, _⟩ => ⟨S128x1x1024, .f32⟩
  | .hbm, ⟨39, _⟩ => ⟨S128x1x1024, .f32⟩
  | .hbm, ⟨40, _⟩ => ⟨S_, .f32⟩
  | .hbm, ⟨41, _⟩ => ⟨S128x1x1024, .f32⟩
  | .hbm, ⟨42, _⟩ => ⟨S128x1x1024, .f32⟩
  | .hbm, ⟨43, _⟩ => ⟨S_, .f32⟩
  | .hbm, ⟨44, _⟩ => ⟨S128x1x1024, .f32⟩
  | .hbm, ⟨45, _⟩ => ⟨S128x1x1024, .f32⟩
  | .hbm, ⟨46, _⟩ => ⟨S128x1x1024, .f32⟩
  | .hbm, ⟨47, _⟩ => ⟨S128x1x1024, .f32⟩
  | .hbm, ⟨48, _⟩ => ⟨S128x1x1024, .f32⟩
  | .hbm, ⟨49, _⟩ => ⟨S128x1x1024, .f32⟩
  | .hbm, ⟨50, _⟩ => ⟨S128x1x1024, .f32⟩
  | .hbm, ⟨51, _⟩ => ⟨S_, .f32⟩
  | .hbm, ⟨52, _⟩ => ⟨S128x1, .f32⟩
  | .hbm, ⟨53, _⟩ => ⟨S128x1x1, .f32⟩
  | .hbm, ⟨54, _⟩ => ⟨S_, .f32⟩
  | .hbm, ⟨55, _⟩ => ⟨S128x1x1, .f32⟩
  | .hbm, ⟨56, _⟩ => ⟨S128x1x1, .f32⟩
  | .hbm, ⟨57, _⟩ => ⟨S_, .f32⟩
  | .hbm, ⟨58, _⟩ => ⟨S128x1x1, .f32⟩
  | .hbm, ⟨59, _⟩ => ⟨S128x1x1, .f32⟩
  | .hbm, ⟨60, _⟩ => ⟨S128x1x1, .f32⟩
  | .hbm, ⟨61, _⟩ => ⟨S128x1x1024, .f32⟩
  | .hbm, ⟨62, _⟩ => ⟨S128x1x1024, .f32⟩
  | .hbm, ⟨63, _⟩ => ⟨S1x1x1024, .f32⟩
  | .hbm, ⟨64, _⟩ => ⟨S128x1x1024, .f32⟩
  | .hbm, ⟨65, _⟩ => ⟨S128x1x1024, .f32⟩
  | .hbm, ⟨66, _⟩ => ⟨S128x1x1024, .f32⟩
  | .hbm, ⟨67, _⟩ => ⟨S128x1x1024, .f32⟩
  | .hbm, ⟨68, _⟩ => ⟨S128x1x1024, .f32⟩
  | .hbm, ⟨69, _⟩ => ⟨S_, .f32⟩
  | .hbm, ⟨70, _⟩ => ⟨S128x1, .f32⟩
  | .hbm, ⟨71, _⟩ => ⟨S128x1x1, .f32⟩
  | .hbm, ⟨72, _⟩ => ⟨S_, .f32⟩
  | .hbm, ⟨73, _⟩ => ⟨S128x1x1, .f32⟩
  | .hbm, ⟨74, _⟩ => ⟨S128x1x1, .f32⟩
  | .hbm, ⟨75, _⟩ => ⟨S_, .f32⟩
  | .hbm, ⟨76, _⟩ => ⟨S128x1x1, .f32⟩
  | .hbm, ⟨77, _⟩ => ⟨S128x1x1, .f32⟩
  | .hbm, ⟨78, _⟩ => ⟨S128x1x1, .f32⟩
  | .hbm, ⟨79, _⟩ => ⟨S128x1x1024, .f32⟩
  | .hbm, ⟨80, _⟩ => ⟨S128x1x1024, .f32⟩
  | .hbm, ⟨81, _⟩ => ⟨S1x1x1024, .f32⟩
  | .hbm, ⟨82, _⟩ => ⟨S128x1x1024, .f32⟩
  | .hbm, ⟨83, _⟩ => ⟨S128x1x1024, .f32⟩
  | .hbm, ⟨84, _⟩ => ⟨S_, .f32⟩
  | .hbm, ⟨85, _⟩ => ⟨S128x1x1024, .f32⟩
  | .hbm, ⟨86, _⟩ => ⟨S128x1x1024, .f32⟩
  | .hbm, ⟨87, _⟩ => ⟨S128x1x1024, .f32⟩
  | .hbm, ⟨88, _⟩ => ⟨S128x1x1024, .f32⟩
  | .hbm, ⟨89, _⟩ => ⟨S128x1024, .f32⟩
  | .hbm, ⟨90, _⟩ => ⟨S128x1024, .f32⟩
  | _, _ => ⟨S128x1x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst : Ref sig .tc := ⟨.hbm, 30, rfl⟩
abbrev main_v19 : Ref sig .tc := ⟨.hbm, 31, rfl⟩
abbrev main_v20 : Ref sig .tc := ⟨.hbm, 32, rfl⟩
abbrev main_cst_0 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_1 : Ref sig .tc := ⟨.hbm, 40, rfl⟩
abbrev main_v27 : Ref sig .tc := ⟨.hbm, 41, rfl⟩
abbrev main_v28 : Ref sig .tc := ⟨.hbm, 42, rfl⟩
abbrev main_cst_2 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_cst_3 : Ref sig .tc := ⟨.hbm, 51, rfl⟩
abbrev main_v36 : Ref sig .tc := ⟨.hbm, 52, rfl⟩
abbrev main_v37 : Ref sig .tc := ⟨.hbm, 53, rfl⟩
abbrev main_cst_4 : Ref sig .tc := ⟨.hbm, 54, rfl⟩
abbrev main_v38 : Ref sig .tc := ⟨.hbm, 55, rfl⟩
abbrev main_v39 : Ref sig .tc := ⟨.hbm, 56, rfl⟩
abbrev main_cst_5 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_cst_6 : Ref sig .tc := ⟨.hbm, 69, rfl⟩
abbrev main_v51 : Ref sig .tc := ⟨.hbm, 70, rfl⟩
abbrev main_v52 : Ref sig .tc := ⟨.hbm, 71, rfl⟩
abbrev main_cst_7 : Ref sig .tc := ⟨.hbm, 72, rfl⟩
abbrev main_v53 : Ref sig .tc := ⟨.hbm, 73, rfl⟩
abbrev main_v54 : Ref sig .tc := ⟨.hbm, 74, rfl⟩
abbrev main_cst_8 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_cst_9 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩

abbrev nD : Nat := 1
abbrev τ : Topo := Topo.v7x

variable {F : FTy → Type} [FloatOps F]
-- ==== Kernel7.lean ====
abbrev S128x768 : Shape := ⟨2, ![128, 768]⟩
abbrev S128x128x2x64 : Shape := ⟨4, ![128, 128, 2, 64]⟩
abbrev S8 : Shape := ⟨1, ![8]⟩
abbrev S32x8 : Shape := ⟨2, ![32, 8]⟩
abbrev S128 : Shape := ⟨1, ![128]⟩
abbrev S_ : Shape := ⟨0, ![]⟩
abbrev S128x1 : Shape := ⟨2, ![128, 1]⟩
abbrev S128x8 : Shape := ⟨2, ![128, 8]⟩
abbrev S8x128 : Shape := ⟨2, ![8, 128]⟩
abbrev S128x128 : Shape := ⟨2, ![128, 128]⟩
abbrev S128x1x2x64 : Shape := ⟨4, ![128, 1, 2, 64]⟩
abbrev S128x127x2x64 : Shape := ⟨4, ![128, 127, 2, 64]⟩
abbrev S128x512 : Shape := ⟨2, ![128, 512]⟩
abbrev S128x8x64 : Shape := ⟨3, ![128, 8, 64]⟩
abbrev S128x128x128 : Shape := ⟨3, ![128, 128, 128]⟩
abbrev S8x1 : Shape := ⟨2, ![8, 1]⟩
abbrev S8x8x64 : Shape := ⟨3, ![8, 8, 64]⟩
abbrev S8x128x128 : Shape := ⟨3, ![8, 128, 128]⟩
abbrev S8x8x128 : Shape := ⟨3, ![8, 8, 128]⟩
abbrev S1x8x128 : Shape := ⟨3, ![1, 8, 128]⟩
abbrev S1x8x1 : Shape := ⟨3, ![1, 8, 1]⟩
abbrev S8x8 : Shape := ⟨2, ![8, 8]⟩
abbrev S8x8x1 : Shape := ⟨3, ![8, 8, 1]⟩

abbrev nBuf : Space → Nat
  | .hbm => 62
  | .vmem => 10
  | .smem => 0
  | _ => 0

abbrev bufTy : (tb : Table) → Fin (tcTables nBuf tb) → BufTy
  | .hbm, ⟨0, _⟩ => ⟨S128x768, .f32⟩
  | .hbm, ⟨1, _⟩ => ⟨S128x128x2x64, .f32⟩
  | .hbm, ⟨2, _⟩ => ⟨S128x128x2x64, .f32⟩
  | .hbm, ⟨3, _⟩ => ⟨S8, .f32⟩
  | .hbm, ⟨4, _⟩ => ⟨S32x8, .f32⟩
  | .hbm, ⟨5, _⟩ => ⟨S128, .i32⟩
  | .hbm, ⟨6, _⟩ => ⟨S_, .i32⟩
  | .hbm, ⟨7, _⟩ => ⟨S128, .i32⟩
  | .hbm, ⟨8, _⟩ => ⟨S128, .i32⟩
  | .hbm, ⟨9, _⟩ => ⟨S_, .i32⟩
  | .hbm, ⟨10, _⟩ => ⟨S128, .i32⟩
  | .hbm, ⟨11, _⟩ => ⟨S128, .i32⟩
  | .hbm, ⟨12, _⟩ => ⟨S_, .i32⟩
  | .hbm, ⟨13, _⟩ => ⟨S128, .i32⟩
  | .hbm, ⟨14, _⟩ => ⟨S128, .i32⟩
  | .hbm, ⟨15, _⟩ => ⟨S128, .f32⟩
  | .hbm, ⟨16, _⟩ => ⟨S_, .f32⟩
  | .hbm, ⟨17, _⟩ => ⟨S128, .f32⟩
  | .hbm, ⟨18, _⟩ => ⟨S128, .f32⟩
  | .hbm, ⟨19, _⟩ => ⟨S128, .f32⟩
  | .hbm, ⟨20, _⟩ => ⟨S_, .f32⟩
  | .hbm, ⟨21, _⟩ => ⟨S128, .f32⟩
  | .hbm, ⟨22, _⟩ => ⟨S128, .f32⟩
  | .hbm, ⟨23, _⟩ => ⟨S_, .f32⟩
  | .hbm, ⟨24, _⟩ => ⟨S128, .f32⟩
  | .hbm, ⟨25, _⟩ => ⟨S128, .f32⟩
  | .hbm, ⟨26, _⟩ => ⟨S128, .i32⟩
  | .hbm, ⟨27, _⟩ => ⟨S_, .i32⟩
  | .hbm, ⟨28, _⟩ => ⟨S128, .i32⟩
  | .hbm, ⟨29, _⟩ => ⟨S128, .i32⟩
  | .hbm, ⟨30, _⟩ => ⟨S_, .i32⟩
  | .hbm, ⟨31, _⟩ => ⟨S128, .i32⟩
  | .hbm, ⟨32, _⟩ => ⟨S128, .i1⟩
  | .hbm, ⟨33, _⟩ => ⟨S_, .i32⟩
  | .hbm, ⟨34, _⟩ => ⟨S128, .i32⟩
  | .hbm, ⟨35, _⟩ => ⟨S128, .i32⟩
  | .hbm, ⟨36, _⟩ => ⟨S128, .i32⟩
  | .hbm, ⟨37, _⟩ => ⟨S_, .i32⟩
  | .hbm, ⟨38, _⟩ => ⟨S128, .i32⟩
  | .hbm, ⟨39, _⟩ => ⟨S128, .i1⟩
  | .hbm, ⟨40, _⟩ => ⟨S_, .i32⟩
  | .hbm, ⟨41, _⟩ => ⟨S128, .i32⟩
  | .hbm, ⟨42, _⟩ => ⟨S128, .i32⟩
  | .hbm, ⟨43, _⟩ => ⟨S128, .i32⟩
  | .hbm, ⟨44, _⟩ => ⟨S128x1, .i32⟩
  | .hbm, ⟨45, _⟩ => ⟨S128x8, .f32⟩
  | .hbm, ⟨46, _⟩ => ⟨S8x128, .f32⟩
  | .hbm, ⟨47, _⟩ => ⟨S128x128, .f32⟩
  | .hbm, ⟨48, _⟩ => ⟨S128x1x2x64, .f32⟩
  | .hbm, ⟨49, _⟩ => ⟨S128x128, .f32⟩
  | .hbm, ⟨50, _⟩ => ⟨S128x1x2x64, .f32⟩
  | .hbm, ⟨51, _⟩ => ⟨S128x127x2x64, .f32⟩
  | .hbm, ⟨52, _⟩ => ⟨S128x128x2x64, .f32⟩
  | .hbm, ⟨53, _⟩ => ⟨S128x127x2x64, .f32⟩
  | .hbm, ⟨54, _⟩ => ⟨S128x128x2x64, .f32⟩
  | .hbm, ⟨55, _⟩ => ⟨S128x512, .f32⟩
  | .hbm, ⟨56, _⟩ => ⟨S128x8x64, .f32⟩
  | .hbm, ⟨57, _⟩ => ⟨S128x128x128, .f32⟩
  | .hbm, ⟨58, _⟩ => ⟨S128x128x128, .f32⟩
  | .hbm, ⟨59, _⟩ => ⟨S8x1, .f32⟩
  | .hbm, ⟨60, _⟩ => ⟨S128x8x64, .f32⟩
  | .hbm, ⟨61, _⟩ => ⟨S128x512, .f32⟩
  | .local _ .vmem, ⟨0, _⟩ => ⟨S8x1, .f32⟩
  | .local _ .vmem, ⟨1, _⟩ => ⟨S8x8x64, .f32⟩
  | .local _ .vmem, ⟨2, _⟩ => ⟨S8x8x64, .f32⟩
  | .local _ .vmem, ⟨3, _⟩ => ⟨S8x128x128, .f32⟩
  | .local _ .vmem, ⟨4, _⟩ => ⟨S8x128x128, .f32⟩
  | .local _ .vmem, ⟨5, _⟩ => ⟨S8x128x128, .f32⟩
  | .local _ .vmem, ⟨6, _⟩ => ⟨S8x128x128, .f32⟩
  | .local _ .vmem, ⟨7, _⟩ => ⟨S8x128, .f32⟩
  | .local _ .vmem, ⟨8, _⟩ => ⟨S8x8x64, .f32⟩
  | .local _ .vmem, ⟨9, _⟩ => ⟨S8x8x64, .f32⟩
  | _, _ => ⟨S128x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_v3 : Ref sig .tc := ⟨.hbm, 10, rfl⟩
abbrev main_v4 : Ref sig .tc := ⟨.hbm, 11, rfl⟩
abbrev main_c_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_v12 : Ref sig .tc := ⟨.hbm, 22, rfl⟩
abbrev main_cst_3 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_c_4 : Ref sig .tc := ⟨.hbm, 27, rfl⟩
abbrev main_v16 : Ref sig .tc := ⟨.hbm, 28, rfl⟩
abbrev main_v17 : Ref sig .tc := ⟨.hbm, 29, rfl⟩
abbrev main_c_5 : Ref sig .tc := ⟨.hbm, 30, rfl⟩
abbrev main_v18 : Ref sig .tc := ⟨.hbm, 31, rfl⟩
abbrev main_v19 : Ref sig .tc := ⟨.hbm, 32, rfl⟩
abbrev main_c_6 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_7 : Ref sig .tc := ⟨.hbm, 37, rfl⟩
abbrev main_v23 : Ref sig .tc := ⟨.hbm, 38, rfl⟩
abbrev main_v24 : Ref sig .tc := ⟨.hbm, 39, rfl⟩
abbrev main_c_8 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S8x1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S8x8x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S8x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S8x8x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference7Ideal.lean ====
abbrev S128x768 : Shape := ⟨2, ![128, 768]⟩
abbrev S128x128x2x64 : Shape := ⟨4, ![128, 128, 2, 64]⟩
abbrev S8 : Shape := ⟨1, ![8]⟩
abbrev S32x8 : Shape := ⟨2, ![32, 8]⟩
abbrev S128x1x768 : Shape := ⟨3, ![128, 1, 768]⟩
abbrev S128x1x512 : Shape := ⟨3, ![128, 1, 512]⟩
abbrev S128x1x2x4x64 : Shape := ⟨5, ![128, 1, 2, 4, 64]⟩
abbrev S128x1x128 : Shape := ⟨3, ![128, 1, 128]⟩
abbrev S128x1x2x64 : Shape := ⟨4, ![128, 1, 2, 64]⟩
abbrev S128x129x2x64 : Shape := ⟨4, ![128, 129, 2, 64]⟩
abbrev S1 : Shape := ⟨1, ![1]⟩
abbrev S_ : Shape := ⟨0, ![]⟩
abbrev S1x1 : Shape := ⟨2, ![1, 1]⟩
abbrev S129 : Shape := ⟨1, ![129]⟩
abbrev S1x129 : Shape := ⟨2, ![1, 129]⟩
abbrev S128x1x1x2x4x64 : Shape := ⟨6, ![128, 1, 1, 2, 4, 64]⟩
abbrev S128x1x129x2x64 : Shape := ⟨5, ![128, 1, 129, 2, 64]⟩
abbrev S1x1x1 : Shape := ⟨3, ![1, 1, 1]⟩
abbrev S1x1x129 : Shape := ⟨3, ![1, 1, 129]⟩
abbrev S1x1x129x1 : Shape := ⟨4, ![1, 1, 129, 1]⟩
abbrev S1x1x129x8 : Shape := ⟨4, ![1, 1, 129, 8]⟩
abbrev S1x1x129x2x4 : Shape := ⟨5, ![1, 1, 129, 2, 4]⟩
abbrev S1x2x4x1x129 : Shape := ⟨5, ![1, 2, 4, 1, 129]⟩
abbrev S128x1x2x129x1x4 : Shape := ⟨6, ![128, 1, 2, 129, 1, 4]⟩
abbrev S128x1x2x4x1x129 : Shape := ⟨6, ![128, 1, 2, 4, 1, 129]⟩
abbrev S1x1x1x1x1x129 : Shape := ⟨6, ![1, 1, 1, 1, 1, 129]⟩
abbrev S1x1x2x4x1x129 : Shape := ⟨6, ![1, 1, 2, 4, 1, 129]⟩
abbrev S2x4 : Shape := ⟨2, ![2, 4]⟩
abbrev S1x1x2x4x1x1 : Shape := ⟨6, ![1, 1, 2, 4, 1, 1]⟩
abbrev S128x1x2x4x1 : Shape := ⟨5, ![128, 1, 2, 4, 1]⟩
abbrev S128x1x2x4x1x1 : Shape := ⟨6, ![128, 1, 2, 4, 1, 1]⟩
abbrev S128x1x2x64x4x1 : Shape := ⟨6, ![128, 1, 2, 64, 4, 1]⟩
abbrev S128x512 : Shape := ⟨2, ![128, 512]⟩

abbrev nBuf : Space → Nat
  | .hbm => 119
  | .vmem => 0
  | .smem => 0
  | _ => 0

abbrev bufTy : (tb : Table) → Fin (tcTables nBuf tb) → BufTy
  | .hbm, ⟨0, _⟩ => ⟨S128x768, .f32⟩
  | .hbm, ⟨1, _⟩ => ⟨S128x128x2x64, .f32⟩
  | .hbm, ⟨2, _⟩ => ⟨S128x128x2x64, .f32⟩
  | .hbm, ⟨3, _⟩ => ⟨S8, .f32⟩
  | .hbm, ⟨4, _⟩ => ⟨S32x8, .f32⟩
  | .hbm, ⟨5, _⟩ => ⟨S128x1x768, .f32⟩
  | .hbm, ⟨6, _⟩ => ⟨S128x1x512, .f32⟩
  | .hbm, ⟨7, _⟩ => ⟨S128x1x2x4x64, .f32⟩
  | .hbm, ⟨8, _⟩ => ⟨S128x1x128, .f32⟩
  | .hbm, ⟨9, _⟩ => ⟨S128x1x2x64, .f32⟩
  | .hbm, ⟨10, _⟩ => ⟨S128x1x128, .f32⟩
  | .hbm, ⟨11, _⟩ => ⟨S128x1x2x64, .f32⟩
  | .hbm, ⟨12, _⟩ => ⟨S128x129x2x64, .f32⟩
  | .hbm, ⟨13, _⟩ => ⟨S128x129x2x64, .f32⟩
  | .hbm, ⟨14, _⟩ => ⟨S1, .i32⟩
  | .hbm, ⟨15, _⟩ => ⟨S_, .i32⟩
  | .hbm, ⟨16, _⟩ => ⟨S1, .i32⟩
  | .hbm, ⟨17, _⟩ => ⟨S1, .i32⟩
  | .hbm, ⟨18, _⟩ => ⟨S1x1, .i32⟩
  | .hbm, ⟨19, _⟩ => ⟨S129, .i32⟩
  | .hbm, ⟨20, _⟩ => ⟨S_, .i32⟩
  | .hbm, ⟨21, _⟩ => ⟨S129, .i32⟩
  | .hbm, ⟨22, _⟩ => ⟨S129, .i32⟩
  | .hbm, ⟨23, _⟩ => ⟨S1x129, .i32⟩
  | .hbm, ⟨24, _⟩ => ⟨S128x1x1x2x4x64, .f32⟩
  | .hbm, ⟨25, _⟩ => ⟨S128x1x129x2x64, .f32⟩
  | .hbm, ⟨26, _⟩ => ⟨S128x1x129x2x64, .f32⟩
  | .hbm, ⟨27, _⟩ => ⟨S1x1x1, .i32⟩
  | .hbm, ⟨28, _⟩ => ⟨S1x1x129, .i32⟩
  | .hbm, ⟨29, _⟩ => ⟨S1x1x129, .i32⟩
  | .hbm, ⟨30, _⟩ => ⟨S1x1x129, .i32⟩
  | .hbm, ⟨31, _⟩ => ⟨S_, .i32⟩
  | .hbm, ⟨32, _⟩ => ⟨S1x1x129, .i32⟩
  | .hbm, ⟨33, _⟩ => ⟨S1x1x129, .i1⟩
  | .hbm, ⟨34, _⟩ => ⟨S_, .i32⟩
  | .hbm, ⟨35, _⟩ => ⟨S1x1x129, .i32⟩
  | .hbm, ⟨36, _⟩ => ⟨S1x1x129, .i1⟩
  | .hbm, ⟨37, _⟩ => ⟨S1x1x129, .i1⟩
  | .hbm, ⟨38, _⟩ => ⟨S1x1x129, .i32⟩
  | .hbm, ⟨39, _⟩ => ⟨S_, .i32⟩
  | .hbm, ⟨40, _⟩ => ⟨S1x1x129, .i32⟩
  | .hbm, ⟨41, _⟩ => ⟨S1x1x129, .i1⟩
  | .hbm, ⟨42, _⟩ => ⟨S1x1x129, .i1⟩
  | .hbm, ⟨43, _⟩ => ⟨S_, .i32⟩
  | .hbm, ⟨44, _⟩ => ⟨S1x1x129, .i32⟩
  | .hbm, ⟨45, _⟩ => ⟨S1x1x129, .i32⟩
  | .hbm, ⟨46, _⟩ => ⟨S_, .i32⟩
  | .hbm, ⟨47, _⟩ => ⟨S1x1x129, .i32⟩
  | .hbm, ⟨48, _⟩ => ⟨S1x1x129, .i32⟩
  | .hbm, ⟨49, _⟩ => ⟨S1x1x129, .f32⟩
  | .hbm, ⟨50, _⟩ => ⟨S_, .f32⟩
  | .hbm, ⟨51, _⟩ => ⟨S1x1x129, .f32⟩
  | .hbm, ⟨52, _⟩ => ⟨S1x1x129, .f32⟩
  | .hbm, ⟨53, _⟩ => ⟨S1x1x129, .f32⟩
  | .hbm, ⟨54, _⟩ => ⟨S_, .f32⟩
  | .hbm, ⟨55, _⟩ => ⟨S1x1x129, .f32⟩
  | .hbm, ⟨56, _⟩ => ⟨S1x1x129, .f32⟩
  | .hbm, ⟨57, _⟩ => ⟨S_, .f32⟩
  | .hbm, ⟨58, _⟩ => ⟨S1x1x129, .f32⟩
  | .hbm, ⟨59, _⟩ => ⟨S1x1x129, .f32⟩
  | .hbm, ⟨60, _⟩ => ⟨S1x1x129, .i32⟩
  | .hbm, ⟨61, _⟩ => ⟨S_, .i32⟩
  | .hbm, ⟨62, _⟩ => ⟨S1x1x129, .i32⟩
  | .hbm, ⟨63, _⟩ => ⟨S1x1x129, .i32⟩
  | .hbm, ⟨64, _⟩ => ⟨S_, .i32⟩
  | .hbm, ⟨65, _⟩ => ⟨S1x1x129, .i32⟩
  | .hbm, ⟨66, _⟩ => ⟨S1x1x129, .i1⟩
  | .hbm, ⟨67, _⟩ => ⟨S_, .i32⟩
  | .hbm, ⟨68, _⟩ => ⟨S1x1x129, .i32⟩
  | .hbm, ⟨69, _⟩ => ⟨S1x1x129, .i32⟩
  | .hbm, ⟨70, _⟩ => ⟨S1x1x129, .i32⟩
  | .hbm, ⟨71, _⟩ => ⟨S_, .i32⟩
  | .hbm, ⟨72, _⟩ => ⟨S1x1x129, .i32⟩
  | .hbm, ⟨73, _⟩ => ⟨S1x1x129, .i1⟩
  | .hbm, ⟨74, _⟩ => ⟨S_, .i32⟩
  | .hbm, ⟨75, _⟩ => ⟨S1x1x129, .i32⟩
  | .hbm, ⟨76, _⟩ => ⟨S1x1x129, .i32⟩
  | .hbm, ⟨77, _⟩ => ⟨S1x1x129, .i32⟩
  | .hbm, ⟨78, _⟩ => ⟨S1x1x129x1, .i32⟩
  | .hbm, ⟨79, _⟩ => ⟨S1x1x129x8, .f32⟩
  | .hbm, ⟨80, _⟩ => ⟨S1x1x129x2x4, .f32⟩
  | .hbm, ⟨81, _⟩ => ⟨S1x2x4x1x129, .f32⟩
  | .hbm, ⟨82, _⟩ => ⟨S128x1x2x129x1x4, .f32⟩
  | .hbm, ⟨83, _⟩ => ⟨S128x1x2x4x1x129, .f32⟩
  | .hbm, ⟨84, _⟩ => ⟨S_, .f32⟩
  | .hbm, ⟨85, _⟩ => ⟨S128x1x2x4x1x129, .f32⟩
  | .hbm, ⟨86, _⟩ => ⟨S128x1x2x4x1x129, .f32⟩
  | .hbm, ⟨87, _⟩ => ⟨S1x1x1x1x1x129, .i1⟩
  | .hbm, ⟨88, _⟩ => ⟨S1x1x2x4x1x129, .f32⟩
  | .hbm, ⟨89, _⟩ => ⟨S128x1x2x4x1x129, .f32⟩
  | .hbm, ⟨90, _⟩ => ⟨S128x1x2x4x1x129, .f32⟩
  | .hbm, ⟨91, _⟩ => ⟨S_, .f32⟩
  | .hbm, ⟨92, _⟩ => ⟨S_, .f32⟩
  | .hbm, ⟨93, _⟩ => ⟨S128x1x2x4x1x129, .i1⟩
  | .hbm, ⟨94, _⟩ => ⟨S128x1x2x4x1x129, .f32⟩
  | .hbm, ⟨95, _⟩ => ⟨S128x1x2x4x1x129, .f32⟩
  | .hbm, ⟨96, _⟩ => ⟨S2x4, .f32⟩
  | .hbm, ⟨97, _⟩ => ⟨S1x1x2x4x1x1, .f32⟩
  | .hbm, ⟨98, _⟩ => ⟨S_, .f32⟩
  | .hbm, ⟨99, _⟩ => ⟨S128x1x2x4x1, .f32⟩
  | .hbm, ⟨100, _⟩ => ⟨S128x1x2x4x1x1, .f32⟩
  | .hbm, ⟨101, _⟩ => ⟨S128x1x2x4x1x1, .f32⟩
  | .hbm, ⟨102, _⟩ => ⟨S128x1x2x4x1x1, .f32⟩
  | .hbm, ⟨103, _⟩ => ⟨S128x1x2x4x1x129, .f32⟩
  | .hbm, ⟨104, _⟩ => ⟨S128x1x2x4x1x129, .f32⟩
  | .hbm, ⟨105, _⟩ => ⟨S128x1x2x4x1x129, .f32⟩
  | .hbm, ⟨106, _⟩ => ⟨S_, .f32⟩
  | .hbm, ⟨107, _⟩ => ⟨S128x1x2x4x1, .f32⟩
  | .hbm, ⟨108, _⟩ => ⟨S128x1x2x4x1x1, .f32⟩
  | .hbm, ⟨109, _⟩ => ⟨S128x1x2x4x1x1, .f32⟩
  | .hbm, ⟨110, _⟩ => ⟨S128x1x2x4x1x1, .f32⟩
  | .hbm, ⟨111, _⟩ => ⟨S128x1x2x4x1x1, .f32⟩
  | .hbm, ⟨112, _⟩ => ⟨S128x1x2x4x1x1, .f32⟩
  | .hbm, ⟨113, _⟩ => ⟨S128x1x2x4x1x129, .f32⟩
  | .hbm, ⟨114, _⟩ => ⟨S128x1x2x4x1x129, .f32⟩
  | .hbm, ⟨115, _⟩ => ⟨S128x1x2x64x4x1, .f32⟩
  | .hbm, ⟨116, _⟩ => ⟨S128x1x1x2x4x64, .f32⟩
  | .hbm, ⟨117, _⟩ => ⟨S128x1x2x4x64, .f32⟩
  | .hbm, ⟨118, _⟩ => ⟨S128x512, .f32⟩
  | _, _ => ⟨S128x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_c : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_c_0 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_c_1 : Ref sig .tc := ⟨.hbm, 31, rfl⟩
abbrev main_v24 : Ref sig .tc := ⟨.hbm, 32, rfl⟩
abbrev main_v25 : Ref sig .tc := ⟨.hbm, 33, rfl⟩
abbrev main_c_2 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_c_3 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_c_4 : Ref sig .tc := ⟨.hbm, 43, rfl⟩
abbrev main_v33 : Ref sig .tc := ⟨.hbm, 44, rfl⟩
abbrev main_v34 : Ref sig .tc := ⟨.hbm, 45, rfl⟩
abbrev main_c_5 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_cst : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_cst_6 : Ref sig .tc := ⟨.hbm, 54, rfl⟩
abbrev main_v41 : Ref sig .tc := ⟨.hbm, 55, rfl⟩
abbrev main_v42 : Ref sig .tc := ⟨.hbm, 56, rfl⟩
abbrev main_cst_7 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_c_8 : Ref sig .tc := ⟨.hbm, 61, rfl⟩
abbrev main_v46 : Ref sig .tc := ⟨.hbm, 62, rfl⟩
abbrev main_v47 : Ref sig .tc := ⟨.hbm, 63, rfl⟩
abbrev main_c_9 : Ref sig .tc := ⟨.hbm, 64, rfl⟩
abbrev main_v48 : Ref sig .tc := ⟨.hbm, 65, rfl⟩
abbrev main_v49 : Ref sig .tc := ⟨.hbm, 66, rfl⟩
abbrev main_c_10 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_c_11 : Ref sig .tc := ⟨.hbm, 71, rfl⟩
abbrev main_v53 : Ref sig .tc := ⟨.hbm, 72, rfl⟩
abbrev main_v54 : Ref sig .tc := ⟨.hbm, 73, rfl⟩
abbrev main_c_12 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_cst_13 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_cst_14 : Ref sig .tc := ⟨.hbm, 91, rfl⟩
abbrev main_call1_v0 : Ref sig .tc := ⟨.hbm, 92, rfl⟩
abbrev main_call1_v1 : Ref sig .tc := ⟨.hbm, 93, rfl⟩
abbrev main_call1_v2 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_cst_15 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_cst_16 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev main_v90 : Ref sig .tc := ⟨.hbm, 117, rfl⟩
abbrev main_v91 : Ref sig .tc := ⟨.hbm, 118, rfl⟩

abbrev nD : Nat := 1
abbrev τ : Topo := Topo.v7x

variable {F : FTy → Type} [FloatOps F]
-- ==== Proof.SwaSpec.lean ====
module

public import Idealize.ShloMosaic.Lib.Pointwise

@[expose] public section

noncomputable section

open Idealize.ShloMosaic Idealize.ShloMosaic.TcCoe
namespace Cert.SwaSpec

/-- One output number of the attention from its row of logits, its sink and its column of values: the softmax weights of the
    logits, with the sink counted in the maximum and in the denominator, times the values, summed. -/
def attnRow (s : Fin 256 → EReal) (sink : EReal) (v : Fin 256 → EReal) : EReal :=
  ∑ x, Ideal.div (Ideal.exp (s x - max (Finset.fold max ⊥ s Finset.univ) sink))
      (∑ x', Ideal.exp (s x' - max (Finset.fold max ⊥ s Finset.univ) sink)
        + Ideal.exp (sink - max (Finset.fold max ⊥ s Finset.univ) sink)) * v x

/-- The 32-bit pattern of minus infinity denotes `⊥`. -/
theorem negInf : Ideal.ofBits FTy.f32 4286578688#32 = ⊥ := by
  simp [Ideal.ofBits, Ideal.ieee]

/-- Key `k` of a query block's 256 keys lies this many positions before query `r` of the block, as a 32-bit word. -/
def distW (r : Fin 128) (k : Fin 256) : BitVec 32 :=
  IntOp.subi (IntOp.addi (BitVec.ofNat 32 r.val) 128#32) (BitVec.ofNat 32 k.val)

/-- Whether a distance lies within the window, as a one-bit word. -/
def inWin (w : BitVec 32) : BitVec 1 := IntOp.andi (IntOp.cmpi .sge w 0#32) (IntOp.cmpi .slt w 128#32)

/-- The bucket of a distance before it is wrapped into the table's rows: itself when small, else by the logarithm. -/
def bucketW (w : BitVec 32) : BitVec 32 :=
  Scalar.select (IntOp.cmpi CmpIPredicate.slt (IntOp.maxsi w 0#32) 16#32) (IntOp.maxsi w 0#32)
    (IntOp.minsi
      (IntOp.addi (16#32)
        (FloatOps.fptosi (F := Ideal) (φ := .f32) 32
          (Ideal.div
              (Ideal.log
                (Ideal.div (FloatOps.sitofp (F := Ideal) FTy.f32 (IntOp.maxsi (IntOp.maxsi w 0#32) 1#32))
                  (Ideal.ofBits FTy.f32 1098907648#32)))
              (Ideal.ofBits FTy.f32 1074075026#32) *
            Ideal.ofBits FTy.f32 1098907648#32)))
      31#32)

/-- The bucket with a negative one wrapped by the number of rows. -/
def wrapW (w : BitVec 32) : BitVec 32 := Scalar.select (IntOp.cmpi CmpIPredicate.slt w 0#32) (IntOp.addi w 32#32) w

/-- The row of the 32-row table which a word names: read signed, kept within the rows. -/
def rowOf (w : BitVec 32) : Fin 32 := ⟨min w.toInt.toNat 31, by omega⟩

/-- The bias of query `r`, key `k` and head `h`. -/
def biasAt (T : (⟨2, ![32, 8]⟩ : Shape).Idx → EReal) (r : Fin 128) (k : Fin 256) (h : Fin 8) : EReal :=
  T (ix2 (rowOf (wrapW (bucketW (distW r k)))) h)

/-- An exponential is not negative. -/
theorem exp_nonneg (x : EReal) : 0 ≤ Ideal.exp x := by
  induction x with
  | bot => exact le_refl _
  | top => exact le_top
  | coe r => exact EReal.coe_nonneg.mpr (Real.exp_pos r).le

/-- A sum of products with `⊥` is `⊥`, zero or `⊤`, so it equals its own double. -/
theorem sum_bot_mul_double (w : Fin 128 → EReal) : (∑ k, (⊥ : EReal) * w k) + (∑ k, (⊥ : EReal) * w k) = ∑ k, (⊥ : EReal) * w k := by
  have h : (∑ k, (⊥ : EReal) * w k) = ⊥ ∨ (∑ k, (⊥ : EReal) * w k) = 0 ∨ (∑ k, (⊥ : EReal) * w k) = ⊤ := by
    refine Finset.sum_induction (fun k => (⊥ : EReal) * w k) (fun x => x = ⊥ ∨ x = 0 ∨ x = ⊤) ?_ (Or.inr (Or.inl rfl)) ?_
    · rintro a b (rfl | rfl | rfl) (rfl | rfl | rfl) <;> simp
    · intro k _
      rcases lt_trichotomy (w k) 0 with h | h | h
      · exact Or.inr (Or.inr (EReal.bot_mul_of_neg h))
      · rw [h, mul_zero]; exact Or.inr (Or.inl rfl)
      · exact Or.inl (EReal.bot_mul_of_pos h)
  rcases h with h | h | h <;> rw [h] <;> simp

/-- In the first block the previous keys are masked and stand for the block's own values: whether those values or zeros stand
    there, the row is the same. (If the denominator is positive the masked weights are zero; if it is zero every weight is `⊥`, and
    the sum with the values repeated is the sum without.) -/
theorem attnRow_first (s : Fin 256 → EReal) (sink : EReal) (v v' : Fin 256 → EReal) (w : Fin 128 → EReal)
    (hs : ∀ k : Fin 128, s ⟨k.val, by omega⟩ = ⊥)
    (hl : ∀ k : Fin 128, v ⟨k.val, by omega⟩ = w k) (hr : ∀ k : Fin 128, v ⟨128 + k.val, by omega⟩ = w k)
    (hl' : ∀ k : Fin 128, v' ⟨k.val, by omega⟩ = 0) (hr' : ∀ k : Fin 128, v' ⟨128 + k.val, by omega⟩ = w k) :
    attnRow s sink v = attnRow s sink v' := by
  unfold attnRow
  generalize hm : max (Finset.fold max ⊥ s Finset.univ) sink = m
  generalize hD : (∑ x' : Fin 256, Ideal.exp (s x' - m)) + Ideal.exp (sink - m) = D
  have split : ∀ f : Fin 256 → EReal, ∑ x, f x = (∑ k : Fin 128, f ⟨k.val, by omega⟩) + ∑ k : Fin 128, f ⟨128 + k.val, by omega⟩ := by
    intro f
    exact Fin.sum_univ_add (a := 128) (b := 128) f
  rw [split, split (fun x => Ideal.div (Ideal.exp (s x - m)) D * v' x)]
  simp only [hl, hr, hl', hr', mul_zero, Finset.sum_const_zero, zero_add]
  have hz : ∀ k : Fin 128, Ideal.exp (s ⟨k.val, by omega⟩ - m) = 0 := by
    intro k
    rw [hs k, EReal.bot_sub]
    rfl
  by_cases hD0 : D = 0
  · subst hD0
    have hnn : (0 : EReal) ≤ ∑ x' : Fin 256, Ideal.exp (s x' - m) := Finset.sum_nonneg fun _ _ => exp_nonneg _
    have hsum : ∑ x' : Fin 256, Ideal.exp (s x' - m) = 0 := by
      refine le_antisymm ?_ hnn
      calc ∑ x' : Fin 256, Ideal.exp (s x' - m) = (∑ x' : Fin 256, Ideal.exp (s x' - m)) + 0 := (add_zero _).symm
        _ ≤ (∑ x' : Fin 256, Ideal.exp (s x' - m)) + Ideal.exp (sink - m) := by gcongr; exact exp_nonneg _
        _ = 0 := hD
    have hall : ∀ x : Fin 256, Ideal.exp (s x - m) = 0 := fun x =>
      (Finset.sum_eq_zero_iff_of_nonneg (fun _ _ => exp_nonneg _)).mp hsum x (Finset.mem_univ x)
    have hdiv : Ideal.div 0 0 = ⊥ := by simp [Ideal.div]
    simp only [hall, hdiv]
    exact sum_bot_mul_double w
  · have hdiv : Ideal.div 0 D = 0 := by simp [Ideal.div, hD0]
    simp only [hz, hdiv, zero_mul, Finset.sum_const_zero, zero_add]

/-- Multiplying a query by the scale before the dot product, or the dot product by it after, is the same: the scale is a
    nonnegative finite number. The factors may be in either order. -/
theorem scaled_dot (q k : Fin 64 → EReal) :
    ∑ d, q d * Ideal.ofBits FTy.f32 1040187392#32 * k d = (∑ d, k d * q d) * Ideal.ofBits FTy.f32 1040187392#32 := by
  have hc : Ideal.ofBits FTy.f32 1040187392#32 = ((1 / 8 : ℝ) : EReal) := by
    simp [Ideal.ofBits, Ideal.ieee]
    rw [← EReal.coe_mul]
    norm_num
  rw [hc]
  have hdist : ∀ (S : Finset (Fin 64)), (∑ d ∈ S, k d * q d) * ((1 / 8 : ℝ) : EReal) = ∑ d ∈ S, q d * ((1 / 8 : ℝ) : EReal) * k d := by
    intro S
    induction S using Finset.induction_on with
    | empty => simp
    | insert a S ha ih =>
      rw [Finset.sum_insert ha, Finset.sum_insert ha, ← ih,
        EReal.right_distrib_of_nonneg_of_ne_top (EReal.coe_nonneg.mpr (by norm_num)) (EReal.coe_ne_top _)]
      congr 1
      rw [mul_comm (k a), mul_right_comm]
  exact (hdist Finset.univ).symm

/-- A masked logit: the bias `⊥` makes it `⊥` whatever the dot product, as the masked selection does. -/
theorem masked (m : BitVec 1) (a b : EReal) : a + Scalar.select m b ⊥ = Scalar.select m (a + b) ⊥ := by
  unfold Scalar.select
  split <;> simp

end Cert.SwaSpec
-- ==== Proof.SwaPure.lean ====
module

public import proofs.«01_k».proof.Proof.Gen.KernelIdeal.Skeleton
public import Idealize.ShloMosaic.Lib.Pointwise
public import proofs.«01_k».proof.Proof.SwaSpec

@[expose] public section

set_option maxRecDepth 16384

noncomputable section

open Idealize.ShloMosaic Idealize.ShloMosaic.TcCoe Idealize.SL.Sem
namespace Cert.KernelIdeal.Pure
open Cert.KernelIdeal Cert.KernelIdeal.Gen Cert.SwaSpec

/-- One number of a head's output block from the block's scaled queries, its two blocks of keys and of values, its table of biases
    and its sink; the head's queries begin at column `o`, its keys and values at column `g`. -/
def headAt (q : FVec Ideal S128x512 .f32) (k2 v2 : FVec Ideal S256x128 .bf16) (b : FVec Ideal S1x1x128x256 .f32)
    (s : Elt Ideal .f32) (o g : ℕ) (ho : o + 64 ≤ 512) (hg : g + 64 ≤ 128) (r : Fin 128) (e : Fin 64) : EReal :=
  attnRow (fun k => (∑ d : Fin 64, q (ix2 r ⟨o + d.val, by omega⟩) * k2 (ix2 k ⟨g + d.val, by omega⟩)) + b (ix4 0 0 r k)) s
    (fun k => v2 (ix2 k ⟨g + e.val, by omega⟩))

variable (q : FVec Ideal S128x512 .f32) (k2 v2 : FVec Ideal S256x128 .bf16) (b : FVec Ideal S1x1x128x256 .f32)
  (s : Elt Ideal .f32) (r : Fin 128) (e : Fin 64)

theorem head0 (q : FVec Ideal S128x512 .f32) (kp kc vp vc : FVec Ideal S128x128 .f32) :
    k0_pay5 (F := Ideal) q kp kc vp vc b s (ix2 r e)
      = headAt (k0_pay2 (F := Ideal) q) (k0_pay3 (F := Ideal) kp kc) (k0_pay4 (F := Ideal) vp vc) b s 0 0 (by decide) (by decide) r e := by
  unfold k0_pay5
  generalize k0_pay2 (F := Ideal) q = q'
  generalize k0_pay3 (F := Ideal) kp kc = k'
  generalize k0_pay4 (F := Ideal) vp vc = v'
  pointwise [headAt, attnRow]
  rw [negInf]

theorem head1 : k0_pay6 (F := Ideal) q k2 v2 b s (ix2 r e) = headAt q k2 v2 b s 64 0 (by decide) (by decide) r e := by
  pointwise [k0_pay6, headAt, attnRow]
  rw [negInf]

theorem head2 : k0_pay10 (F := Ideal) v2 (k0_pay7 (F := Ideal) q k2 b) s (k0_pay8 (F := Ideal) q k2 b) (k0_pay9 (F := Ideal) s) (ix2 r e)
    = headAt q k2 v2 b s 128 0 (by decide) (by decide) r e := by
  pointwise [k0_pay10, k0_pay7, k0_pay8, k0_pay9, headAt, attnRow]
  rw [negInf]

theorem head3 : k0_pay11 (F := Ideal) q k2 v2 b s (ix2 r e) = headAt q k2 v2 b s 192 0 (by decide) (by decide) r e := by
  pointwise [k0_pay11, headAt, attnRow]
  rw [negInf]

theorem head4 : k0_pay12 (F := Ideal) q k2 v2 b s (ix2 r e) = headAt q k2 v2 b s 256 64 (by decide) (by decide) r e := by
  pointwise [k0_pay12, headAt, attnRow]
  rw [negInf]

theorem head5 : k0_pay16 (F := Ideal) v2 s (k0_pay14 (F := Ideal) q k2 b s) (k0_pay15 (F := Ideal) q k2 b s) (ix2 r e)
    = headAt q k2 v2 b s 320 64 (by decide) (by decide) r e := by
  pointwise [k0_pay16, k0_pay13, k0_pay14, k0_pay15, headAt, attnRow]
  rw [negInf]

theorem head6 : k0_pay17 (F := Ideal) q k2 v2 b s (ix2 r e) = headAt q k2 v2 b s 384 64 (by decide) (by decide) r e := by
  pointwise [k0_pay17, headAt, attnRow]
  rw [negInf]

theorem head7 : k0_pay1 (F := Ideal) v2 (k0_pay18 (F := Ideal) q) (k0_pay19 (F := Ideal) k2) b s (ix2 r e)
    = headAt q k2 v2 b s 448 64 (by decide) (by decide) r e := by
  pointwise [k0_pay1, k0_pay18, k0_pay19, headAt, attnRow]
  rw [negInf]

end Cert.KernelIdeal.Pure
-- ==== Proof.SwaTable.lean ====
module

public import proofs.«01_k».proof.Proof.Gen.KernelIdeal.Value
public import proofs.«01_k».proof.Proof.SwaSpec
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)
namespace Cert.KernelIdeal.Table
open Cert.KernelIdeal Cert.KernelIdeal.Gen Cert.SwaSpec

/-- The distances of a block's keys from its queries. -/
def hDist : IVec S128x256 32 :=
  subi (broadcastInDim S128x256 ![0, 1] bcast_S128x1_S128x256_0_1
      (addi (broadcastInDim S128x1 ![0] bcast_S128_S128x1_0 (iotaInDim S128 32 0)) (broadcastInDim S128x1 ![] bcast_S_S128x1 (constantI S_ 32 128#32))))
    (broadcastInDim S128x256 ![0, 1] bcast_S1x256_S128x256_0_1 (broadcastInDim S1x256 ![1] bcast_S256_S1x256_1 (iotaInDim S256 32 0)))

/-- One word at every place of a block's table. -/
def splat (w : BitVec 32) : IVec S128x256 32 := broadcastInDim S128x256 ![] bcast_S_S128x256 (constantI S_ 32 w)

/-- One float at every place of a block's table. -/
def splatF (w : BitVec 32) : FVec Ideal S128x256 .f32 := broadcastInDim S128x256 ![] bcast_S_S128x256 (constant S_ .f32 w)

/-- Which distances lie in the window. -/
def hValid : IVec S128x256 1 := andi (cmpi .sge hDist (splat 0#32)) (cmpi .slt hDist (splat 128#32))

/-- The distances, negative ones made zero. -/
def hClip : IVec S128x256 32 := maxsi hDist (splat 0#32)

/-- The buckets of the large distances. -/
def hLarge : IVec S128x256 32 :=
  addi (splat 16#32)
    (fptosi 32 (mulf (Host.divf (Host.log (Host.divf (sitofp .f32 (maxsi hClip (splat 1#32))) (splatF 0x41800000#32))) (splatF 0x40051592#32))
      (splatF 0x41800000#32)))

/-- The buckets. -/
def hBuck : IVec S128x256 32 := select (cmpi .slt hClip (splat 16#32)) hClip (minsi hLarge (splat 31#32))

/-- The buckets with negative ones wrapped. -/
def hWrap : IVec S128x256 32 := select (cmpi .slt hBuck (splat 0#32)) (addi hBuck (splat 32#32)) hBuck

variable (T : FVec Ideal S32x8 .f32)

/-- The looked-up biases, the heads first. -/
def hBias : FVec Ideal S8x128x256 .f32 :=
  transpose S8x128x256 [2, 0, 1]
    (Host.gather gather_S32x8_S128x256x1_S128x256x8_2_0_n_n_0_2_18 T (broadcastInDim S128x256x1 ![0, 1] bcast_S128x256_S128x256x1_0_1 hWrap))
    transposes_S128x256x8_S8x128x256_2_0_1

/-- The biases under a mask, minus infinity elsewhere, as one of the two tables. -/
def hMasked (v : IVec S128x256 1) : FVec Ideal S1x8x128x256 .f32 :=
  broadcastInDim S1x8x128x256 ![1, 2, 3] bcast_S8x128x256_S1x8x128x256_1_2_3
    (select (broadcastInDim S8x128x256 ![0, 1, 2] bcast_S1x128x256_S8x128x256_0_1_2 (broadcastInDim S1x128x256 ![1, 2] bcast_S128x256_S1x128x256_1_2 v)) (hBias T)
      (broadcastInDim S8x128x256 ![] bcast_S_S8x128x256 (constant S_ .f32 0xFF800000#32)))

/-- The mask of the first block: the window's, and only keys of the block itself. -/
def hFirst : IVec S128x256 1 :=
  andi hValid (broadcastInDim S128x256 ![0, 1] bcast_S1x256_S128x256_0_1
    (cmpi .sge (broadcastInDim S1x256 ![1] bcast_S256_S1x256_1 (iotaInDim S256 32 0)) (broadcastInDim S1x256 ![] bcast_S_S1x256 (constantI S_ 32 128#32))))

/-- The two tables: the first block's and the later blocks'. -/
def hTable : FVec Ideal S2x8x128x256 .f32 :=
  concatenate S2x8x128x256 0 [⟨S1x8x128x256, hMasked T hFirst⟩, ⟨S1x8x128x256, hMasked T hValid⟩]
    concatenates_S1x8x128x256_S1x8x128x256_S2x8x128x256_d0

variable (m : (ℓ : Loc nD τ sig) → Buf (Elt Ideal) ℓ)

set_option maxHeartbeats 4000000 in
/-- What the table's array holds when the kernel starts. -/
theorem table_eq (c : Dev nD) : V m c main_v52 = hTable (m (c.tc.loc main_arg2)) := by
  unfold V
  simp only [List.flatten_cons, List.flatten_nil, List.append_nil, hostOps0, hostOps0_1, hostOps0_2, hostOps0_3, hostOps0_4, hostOps0_5, hostOps0_6, List.cons_append, List.nil_append]
  simp only [Idealize.ShloMosaic.StableHlo.after_cons, Idealize.ShloMosaic.StableHlo.after_nil]
  after_results_simp
  after_results_loop
  simp only [StableHlo.TRef.toBuf, StableHlo.TRef.ofBuf, cast_eq]
  unfold hTable hMasked hFirst hBias hWrap hBuck hLarge hClip hValid hDist splat splatF
  rfl

/-- The gathered table at an index: the row its word names. -/
theorem gather_at (I : IVec S128x256x1 32) (r : Fin 128) (k : Fin 256) (h : Fin 8) :
    Host.gather gather_S32x8_S128x256x1_S128x256x8_2_0_n_n_0_2_18 T I (ix3 r k h) = T (ix2 (rowOf (I (ix3 r k 0))) h) := by
  unfold Host.gather
  congr 1
  funext a
  refine Fin.ext ?_
  match a with
  | ⟨0, _⟩ =>
    show (gather_S32x8_S128x256x1_S128x256x8_2_0_n_n_0_2_18).start _ I 0 + (gather_S32x8_S128x256x1_S128x256x8_2_0_n_n_0_2_18).batchCoord _ 0 + (gather_S32x8_S128x256x1_S128x256x8_2_0_n_n_0_2_18).offCoord _ 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (gather_S32x8_S128x256x1_S128x256x8_2_0_n_n_0_2_18).startIndexMap from List.mem_singleton.mpr rfl)]
    have hsi : (gather_S32x8_S128x256x1_S128x256x8_2_0_n_n_0_2_18).siIdx (ix3 r k h) ⟨List.idxOf (0 : Fin 2) (gather_S32x8_S128x256x1_S128x256x8_2_0_n_n_0_2_18).startIndexMap,
        List.idxOf_lt_length_iff.2 (List.mem_singleton.mpr rfl)⟩ = ix3 r k 0 := by
      funext b; refine Fin.ext ?_
      match b with
      | ⟨0, _⟩ => rfl
      | ⟨1, _⟩ => rfl
      | ⟨2, _⟩ => rfl
    rw [hsi]
    rfl
  | ⟨1, _⟩ =>
    show (gather_S32x8_S128x256x1_S128x256x8_2_0_n_n_0_2_18).start _ I 1 + (gather_S32x8_S128x256x1_S128x256x8_2_0_n_n_0_2_18).batchCoord _ 1 + (gather_S32x8_S128x256x1_S128x256x8_2_0_n_n_0_2_18).offCoord _ 1 = _
    rw [GatherDims.batchCoord_eq_zero _ _ _ List.not_mem_nil]
    unfold GatherDims.start
    rw [dif_neg (by decide)]
    simp only [Nat.add_zero, Nat.zero_add]
    rfl

theorem dist_at (r : Fin 128) (k : Fin 256) : hDist (ix2 r k) = distW r k := by
  pointwise [hDist]
  rfl

theorem valid_at (r : Fin 128) (k : Fin 256) : hValid (ix2 r k) = inWin (distW r k) := by
  rw [← dist_at r k]
  rfl

theorem first_at (r : Fin 128) (k : Fin 256) :
    hFirst (ix2 r k) = IntOp.andi (inWin (distW r k)) (IntOp.cmpi .sge (BitVec.ofNat 32 k.val) 128#32) := by
  rw [← valid_at r k]
  generalize hv : hValid = v
  pointwise [hFirst]
  rw [hv]

theorem wrap_at (r : Fin 128) (k : Fin 256) : hWrap (ix2 r k) = wrapW (bucketW (distW r k)) := by
  rw [← dist_at r k]
  rfl

/-- The biases at an index. -/
theorem bias_at (h : Fin 8) (r : Fin 128) (k : Fin 256) : hBias T (ix3 h r k) = biasAt T r k h := by
  pointwise [hBias]
  rw [gather_at]
  have e : (broadcastInDim S128x256x1 ![0, 1] bcast_S128x256_S128x256x1_0_1 hWrap) (ix3 r k 0) = wrapW (bucketW (distW r k)) := by
    rw [← wrap_at r k]
    generalize hWrap = w
    pointwise []
  rw [e]
  rfl

theorem masked_at (v : IVec S128x256 1) (h : Fin 8) (r : Fin 128) (k : Fin 256) :
    hMasked T v (ix4 0 h r k) = Scalar.select (v (ix2 r k)) (biasAt T r k h) ⊥ := by
  rw [← bias_at T h r k]
  generalize hb : hBias T = B
  pointwise [hMasked]
  rw [hb, negInf]

/-- Two tables one after the other: the first. -/
theorem concat_lo (A B : FVec Ideal S1x8x128x256 .f32) (h : Fin 8) (r : Fin 128) (k : Fin 256) :
    concatenate S2x8x128x256 0 [⟨S1x8x128x256, A⟩, ⟨S1x8x128x256, B⟩] concatenates_S1x8x128x256_S1x8x128x256_S2x8x128x256_d0 (ix4 0 h r k)
      = A (ix4 0 h r k) := by
  pointwise []

/-- Two tables one after the other: the second. -/
theorem concat_hi (A B : FVec Ideal S1x8x128x256 .f32) (h : Fin 8) (r : Fin 128) (k : Fin 256) :
    concatenate S2x8x128x256 0 [⟨S1x8x128x256, A⟩, ⟨S1x8x128x256, B⟩] concatenates_S1x8x128x256_S1x8x128x256_S2x8x128x256_d0 (ix4 1 h r k)
      = B (ix4 0 h r k) := by
  pointwise []

/-- The two tables at an index. -/
theorem table_at (z : Fin 2) (h : Fin 8) (r : Fin 128) (k : Fin 256) :
    hTable T (ix4 z h r k) = Scalar.select (IntOp.andi (inWin (distW r k)) (if z.val = 0 then IntOp.cmpi .sge (BitVec.ofNat 32 k.val) 128#32 else 1#1))
      (biasAt T r k h) ⊥ := by
  have hand : ∀ b : BitVec 1, IntOp.andi b 1#1 = b := by decide
  by_cases hz : z.val = 0
  · rw [if_pos hz, ← first_at, ← masked_at]
    obtain rfl : z = 0 := Fin.ext hz
    exact concat_lo _ _ h r k
  · obtain rfl : z = 1 := Fin.ext (by omega)
    rw [if_neg hz, hand, ← valid_at, ← masked_at]
    exact concat_hi _ _ h r k

end Cert.KernelIdeal.Table
-- ==== Proof.SwaValue.lean ====
module

public import proofs.«01_k».proof.Proof.Gen.KernelIdeal.Value
public import proofs.«01_k».proof.Proof.SwaPure
public import proofs.«01_k».proof.Proof.SwaTable
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)
namespace Cert.KernelIdeal.Swa
open Cert.KernelIdeal Cert.KernelIdeal.Gen Cert.SwaSpec Cert.KernelIdeal.Pure

variable (m : (ℓ : Loc nD τ sig) → Buf (Elt Ideal) ℓ)

/-- Which block each window takes at each grid point. -/
theorem idx : ∀ t : Fin cfg0.N, win0_1.index t = ![t.val, 0] ∧ win0_2.index t = ![32 * (t.val / 32) + (t.val % 32 - 1), 4]
    ∧ win0_3.index t = ![t.val, 4] ∧ win0_4.index t = ![32 * (t.val / 32) + (t.val % 32 - 1), 5] ∧ win0_5.index t = ![t.val, 5]
    ∧ win0_6.index t = ![min (t.val % 32) 1, 0, 0, 0] ∧ win0_7.index t = ![t.val, 0] :=
  (by decide +kernel : ∀ t : Fin grid0.N, _)

/-- A grid point's number is below 256. -/
theorem t_lt (t : Fin cfg0.N) : t.val < 256 := t.isLt

/-- The block of queries: the block's own rows. -/
theorem q_blk (c : Dev nD) (t : Fin cfg0.N) (r : Fin 128) (d : Fin 512) :
    X0_1 m c t (ix2 r d) = m (c.tc.loc main_arg0) (ix2 ⟨128 * t.val + r.val, by have := t_lt t; omega⟩ ⟨d.val, by omega⟩) := by
  have := t_lt t
  unfold X0_1 Pipeline.Window.fill
  rw [dif_pos (moved0_1 t _)]
  unfold iblk
  rw [V_main_arg0]
  blk_ext [idx t]

/-- The previous block of keys; before the first block of a sequence stands that block itself. -/
theorem kp_blk (c : Dev nD) (t : Fin cfg0.N) (k d : Fin 128) :
    iblk m c 2 t (ix2 k d) = m (c.tc.loc main_arg0)
      (ix2 ⟨128 * (32 * (t.val / 32) + (t.val % 32 - 1)) + k.val, by have := t_lt t; omega⟩ ⟨512 + d.val, by omega⟩) := by
  have := t_lt t
  unfold iblk
  rw [V_main_arg0]
  blk_ext [idx t]

/-- The block's own keys. -/
theorem kc_blk (c : Dev nD) (t : Fin cfg0.N) (k d : Fin 128) :
    iblk m c 3 t (ix2 k d) = m (c.tc.loc main_arg0) (ix2 ⟨128 * t.val + k.val, by have := t_lt t; omega⟩ ⟨512 + d.val, by omega⟩) := by
  have := t_lt t
  unfold iblk
  rw [V_main_arg0]
  blk_ext [idx t]

/-- The previous block of values; before the first block of a sequence stands that block itself. -/
theorem vp_blk (c : Dev nD) (t : Fin cfg0.N) (k d : Fin 128) :
    iblk m c 4 t (ix2 k d) = m (c.tc.loc main_arg0)
      (ix2 ⟨128 * (32 * (t.val / 32) + (t.val % 32 - 1)) + k.val, by have := t_lt t; omega⟩ ⟨640 + d.val, by omega⟩) := by
  have := t_lt t
  unfold iblk
  rw [V_main_arg0]
  blk_ext [idx t]

/-- The block's own values. -/
theorem vc_blk (c : Dev nD) (t : Fin cfg0.N) (k d : Fin 128) :
    iblk m c 5 t (ix2 k d) = m (c.tc.loc main_arg0) (ix2 ⟨128 * t.val + k.val, by have := t_lt t; omega⟩ ⟨640 + d.val, by omega⟩) := by
  have := t_lt t
  unfold iblk
  rw [V_main_arg0]
  blk_ext [idx t]

/-- The sinks, whole. -/
theorem s_blk (c : Dev nD) (t : Fin cfg0.N) (h : Fin 8) : iblk m c 0 t (ix1 h) = m (c.tc.loc main_arg1) (ix1 h) := by
  unfold iblk
  rw [V_main_arg1]
  blk_ext [show win0_0.index t 0 = 0 from rfl]

/-- The table of biases which the block takes: the first one in a sequence's first block, else the second. -/
theorem b_blk (c : Dev nD) (t : Fin cfg0.N) (h : Fin 8) (r : Fin 128) (k : Fin 256) :
    iblk m c 6 t (ix4 0 h r k) = Table.hTable (m (c.tc.loc main_arg2)) (ix4 ⟨min (t.val % 32) 1, by omega⟩ h r k) := by
  rw [← Table.table_eq]
  unfold iblk
  generalize V m c main_v52 = W
  blk_ext [idx t]

end Cert.KernelIdeal.Swa
-- ==== Proof.SwaRef.lean ====
module

public import proofs.«01_k».proof.Proof.Gen.ReferenceIdeal.Read
public import Idealize.ShloMosaic.Lib.Pointwise
public import proofs.«01_k».proof.Proof.SwaSpec

@[expose] public section

set_option maxRecDepth 16384

noncomputable section

open Idealize.ShloMosaic Idealize.ShloMosaic.TcCoe Idealize.SL.Sem
namespace Cert.ReferenceIdeal.Stage
open Cert.ReferenceIdeal Cert.ReferenceIdeal.Gen Cert.ReferenceIdeal.Read Cert.SwaSpec

variable (X : FVec Ideal S32768x768 .f32) (T : FVec Ideal S32x8 .f32) (S : FVec Ideal S8 .f32)

/-- The keys as rows of the packed array. -/
theorem k_at (b : Fin 8) (l : Fin 4096) (g : Fin 2) (d : Fin 64) :
    val_main_v4 (F := Ideal) X (ix4 b l g d) = X (ix2 ⟨4096 * b.val + l.val, by omega⟩ ⟨512 + (64 * g.val + d.val), by omega⟩) := by
  pointwise [val_main_v4, val_main_v3, val_main_v0]
  grind

/-- The values as rows of the packed array. -/
theorem v_at (b : Fin 8) (l : Fin 4096) (g : Fin 2) (d : Fin 64) :
    val_main_v6 (F := Ideal) X (ix4 b l g d) = X (ix2 ⟨4096 * b.val + l.val, by omega⟩ ⟨640 + (64 * g.val + d.val), by omega⟩) := by
  pointwise [val_main_v6, val_main_v5, val_main_v0]
  grind

/-- The queries as rows of the packed array. -/
theorem q_at (b : Fin 8) (n : Fin 32) (r : Fin 128) (g : Fin 2) (p : Fin 4) (d : Fin 64) :
    val_main_v7 (F := Ideal) X (ix6 b n r g p d)
      = X (ix2 ⟨4096 * b.val + (128 * n.val + r.val), by omega⟩ ⟨64 * (4 * g.val + p.val) + d.val, by omega⟩) := by
  pointwise [val_main_v7, val_main_v2, val_main_v1, val_main_v0]
  grind

/-- The first half of a block's keys: the block before, zeros before the first. -/
theorem kprev_at (b : Fin 8) (n : Fin 32) (k : Fin 128) (g : Fin 2) (d : Fin 64) :
    val_main_v31 (F := Ideal) X (ix5 b n ⟨k.val, by omega⟩ g d)
      = if h : n.val = 0 then 0 else X (ix2 ⟨4096 * b.val + (128 * (n.val - 1) + k.val), by omega⟩ ⟨512 + (64 * g.val + d.val), by omega⟩) := by
  pointwise [val_main_v31, val_main_v30, val_main_v29, val_main_v28, val_main_v27, val_main_v26, val_main_cst]
  split
  · rw [dif_pos (by omega)]
  · rw [dif_neg (by omega), k_at]
    grind

/-- The second half of a block's keys: the block's own. -/
theorem kcur_at (b : Fin 8) (n : Fin 32) (k : Fin 128) (g : Fin 2) (d : Fin 64) :
    val_main_v31 (F := Ideal) X (ix5 b n ⟨128 + k.val, by omega⟩ g d)
      = X (ix2 ⟨4096 * b.val + (128 * n.val + k.val), by omega⟩ ⟨512 + (64 * g.val + d.val), by omega⟩) := by
  pointwise [val_main_v31, val_main_v30, val_main_v29, val_main_v28, val_main_v27, val_main_v26, val_main_cst]
  rw [k_at]
  grind

/-- The first half of a block's values: the block before, zeros before the first. -/
theorem vprev_at (b : Fin 8) (n : Fin 32) (k : Fin 128) (g : Fin 2) (d : Fin 64) :
    val_main_v37 (F := Ideal) X (ix5 b n ⟨k.val, by omega⟩ g d)
      = if h : n.val = 0 then 0 else X (ix2 ⟨4096 * b.val + (128 * (n.val - 1) + k.val), by omega⟩ ⟨640 + (64 * g.val + d.val), by omega⟩) := by
  pointwise [val_main_v37, val_main_v36, val_main_v35, val_main_v34, val_main_v33, val_main_v32, val_main_cst_2]
  split
  · rw [dif_pos (by omega)]
  · rw [dif_neg (by omega), v_at]
    grind

/-- The second half of a block's values: the block's own. -/
theorem vcur_at (b : Fin 8) (n : Fin 32) (k : Fin 128) (g : Fin 2) (d : Fin 64) :
    val_main_v37 (F := Ideal) X (ix5 b n ⟨128 + k.val, by omega⟩ g d)
      = X (ix2 ⟨4096 * b.val + (128 * n.val + k.val), by omega⟩ ⟨640 + (64 * g.val + d.val), by omega⟩) := by
  pointwise [val_main_v37, val_main_v36, val_main_v35, val_main_v34, val_main_v33, val_main_v32, val_main_cst_2]
  rw [v_at]
  grind

/-- The dot products: a key against a query. -/
theorem dot_at (b : Fin 8) (n : Fin 32) (r : Fin 128) (g : Fin 2) (p : Fin 4) (k : Fin 256) :
    val_main_v83 (F := Ideal) X (ix6 b n g p r k)
      = ∑ d : Fin 64, val_main_v31 (F := Ideal) X (ix5 b n k g d) * val_main_v7 (F := Ideal) X (ix6 b n r g p d) := by
  pointwise [val_main_v83, val_main_v82]

/-- The gathered table at an index: the row its word names. -/
theorem gather_at (I : IVec S32x128x256x1 32) (n : Fin 32) (r : Fin 128) (k : Fin 256) (h : Fin 8) :
    Host.gather gather_S32x8_S32x128x256x1_S32x128x256x8_3_0_n_n_0_3_18 T I (ix4 n r k h) = T (ix2 (rowOf (I (ix4 n r k 0))) h) := by
  unfold Host.gather
  congr 1
  funext a
  refine Fin.ext ?_
  match a with
  | ⟨0, _⟩ =>
    show (gather_S32x8_S32x128x256x1_S32x128x256x8_3_0_n_n_0_3_18).start _ I 0 + (gather_S32x8_S32x128x256x1_S32x128x256x8_3_0_n_n_0_3_18).batchCoord _ 0 + (gather_S32x8_S32x128x256x1_S32x128x256x8_3_0_n_n_0_3_18).offCoord _ 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (gather_S32x8_S32x128x256x1_S32x128x256x8_3_0_n_n_0_3_18).startIndexMap from List.mem_singleton.mpr rfl)]
    have hsi : (gather_S32x8_S32x128x256x1_S32x128x256x8_3_0_n_n_0_3_18).siIdx (ix4 n r k h) ⟨List.idxOf (0 : Fin 2) (gather_S32x8_S32x128x256x1_S32x128x256x8_3_0_n_n_0_3_18).startIndexMap,
        List.idxOf_lt_length_iff.2 (List.mem_singleton.mpr rfl)⟩ = ix4 n r k 0 := by
      funext b; refine Fin.ext ?_
      match b with
      | ⟨0, _⟩ => rfl
      | ⟨1, _⟩ => rfl
      | ⟨2, _⟩ => rfl
      | ⟨3, _⟩ => rfl
    rw [hsi]
    rfl
  | ⟨1, _⟩ =>
    show (gather_S32x8_S32x128x256x1_S32x128x256x8_3_0_n_n_0_3_18).start _ I 1 + (gather_S32x8_S32x128x256x1_S32x128x256x8_3_0_n_n_0_3_18).batchCoord _ 1 + (gather_S32x8_S32x128x256x1_S32x128x256x8_3_0_n_n_0_3_18).offCoord _ 1 = _
    rw [GatherDims.batchCoord_eq_zero _ _ _ List.not_mem_nil]
    unfold GatherDims.start
    rw [dif_neg (by decide)]
    simp only [Nat.add_zero, Nat.zero_add]
    rfl

/-- The distance's word: the block's number cancels. -/
theorem dist_at (n : Fin 32) (r : Fin 128) (k : Fin 256) : val_main_v42 (F := Ideal) (ix3 n r k) = distW r k := by
  pointwise [val_main_v42, val_main_v41, val_main_v40, val_main_v39, val_main_v38, val_main_v16, val_main_v15, val_main_v14,
    val_main_v13, val_main_v12, val_main_v11, val_main_v10, val_main_c, val_main_v9, val_main_v8, val_main_v25, val_main_v24,
    val_main_v23, val_main_v22, val_main_v21, val_main_v20, val_main_v19, val_main_c_1, val_main_v18, val_main_v17, val_main_c_0]
  simp only [distW, IntOp.subi, IntOp.addi, IntOp.muli]
  generalize BitVec.ofNat 32 n.val = a
  generalize BitVec.ofNat 32 r.val = b
  generalize BitVec.ofNat 32 k.val = c
  have h : (a - 1#32) * 128#32 = a * 128#32 - 128#32 := by
    refine BitVec.eq_of_toNat_eq ?_
    simp only [BitVec.toNat_mul, BitVec.toNat_sub, BitVec.toNat_ofNat]
    omega
  rw [h]
  refine BitVec.eq_of_toNat_eq ?_
  simp only [BitVec.toNat_mul, BitVec.toNat_sub, BitVec.toNat_add, BitVec.toNat_ofNat]
  omega

/-- Whether a key's position is not before the sequence's start: not for the first half of the first block. -/
theorem start_at : ∀ (n : Fin 32) (k : Fin 256), IntOp.cmpi .sge (IntOp.addi (IntOp.muli (IntOp.subi (BitVec.ofNat 32 n.val) 1#32) 128#32) (BitVec.ofNat 32 k.val)) 0#32
    = if n.val = 0 then IntOp.cmpi .sge (BitVec.ofNat 32 k.val) 128#32 else 1#1 := by
  decide +kernel

/-- The mask at an index. -/
theorem valid_at (n : Fin 32) (r : Fin 128) (k : Fin 256) :
    val_main_v52 (F := Ideal) (ix3 n r k)
      = IntOp.andi (inWin (distW r k)) (if n.val = 0 then IntOp.cmpi .sge (BitVec.ofNat 32 k.val) 128#32 else 1#1) := by
  pointwise [val_main_v52, val_main_v51, val_main_v50, val_main_v49, val_main_v47, val_main_v48, val_main_v46, val_main_v45,
    val_main_v44, val_main_c_3, val_main_c_4, val_main_c_5, val_main_v43, val_main_v25, val_main_v24,
    val_main_v23, val_main_v22, val_main_v21, val_main_v20, val_main_v19, val_main_c_1, val_main_v18, val_main_v17, val_main_c_0, val_main_v9, val_main_v8]
  rw [start_at, dist_at]
  rfl

/-- The bucket at an index. -/
theorem buck_at (n : Fin 32) (r : Fin 128) (k : Fin 256) : val_main_v72 (F := Ideal) (ix3 n r k) = bucketW (distW r k) := by
  rw [← dist_at n r k]
  rfl

/-- The wrapped bucket at an index. -/
theorem wrap_at (n : Fin 32) (r : Fin 128) (k : Fin 256) : val_main_v77 (F := Ideal) (ix3 n r k) = wrapW (bucketW (distW r k)) := by
  rw [← buck_at n r k]
  rfl

/-- The bias at an index. -/
theorem bias_at (b : Fin 8) (n : Fin 32) (r : Fin 128) (g : Fin 2) (p : Fin 4) (k : Fin 256) :
    val_main_v88 (F := Ideal) T (ix6 b n g p r k) = biasAt T r k ⟨4 * g.val + p.val, by omega⟩ := by
  pointwise [val_main_v88, val_main_v87, val_main_v81, val_main_v80, val_main_v79]
  rw [gather_at]
  have h : val_main_v78 (F := Ideal) (ix4 n r k 0) = wrapW (bucketW (distW r k)) := by
    rw [← wrap_at n r k]
    pointwise [val_main_v78]
  rw [h]
  unfold biasAt
  grind

/-- The masked logits at an index: the scaled dot product and the bias where the mask allows, minus infinity elsewhere. -/
theorem logit_at (b : Fin 8) (n : Fin 32) (r : Fin 128) (g : Fin 2) (p : Fin 4) (k : Fin 256) :
    val_main_v90 (F := Ideal) X T (ix6 b n g p r k)
      = Scalar.select (IntOp.andi (inWin (distW r k)) (if n.val = 0 then IntOp.cmpi .sge (BitVec.ofNat 32 k.val) 128#32 else 1#1))
          ((∑ d : Fin 64, val_main_v31 (F := Ideal) X (ix5 b n k g d) * val_main_v7 (F := Ideal) X (ix6 b n r g p d))
              * Ideal.ofBits FTy.f32 1040187392#32
            + biasAt T r k ⟨4 * g.val + p.val, by omega⟩) ⊥ := by
  pointwise [val_main_v90, val_main_call1_v1, val_main_call1_v2, val_main_call1_v0, val_main_cst_17, val_main_v86, val_main_v89, val_main_v85,
    val_main_v84, val_main_cst_16]
  rw [valid_at, dot_at, bias_at]
  exact congrArg (Scalar.select _ _) negInf

/-- The sinks, one per head. -/
theorem sink_at (g : Fin 2) (p : Fin 4) :
    val_main_v92 (F := Ideal) S (ix6 0 0 g p 0 0) = S (ix1 ⟨4 * g.val + p.val, by omega⟩) := by
  pointwise [val_main_v92, val_main_v91]
  grind

end Cert.ReferenceIdeal.Stage
-- ==== Proof.SwaRefSoft.lean ====
module

public import proofs.«01_k».proof.Proof.Gen.ReferenceIdeal.Read
public import Idealize.ShloMosaic.Lib.Pointwise
public import proofs.«01_k».proof.Proof.SwaSpec
public import proofs.«01_k».proof.Proof.SwaRef

@[expose] public section

set_option maxRecDepth 16384

noncomputable section

open Idealize.ShloMosaic Idealize.ShloMosaic.TcCoe Idealize.SL.Sem
namespace Cert.ReferenceIdeal.Stage
open Cert.ReferenceIdeal Cert.ReferenceIdeal.Gen Cert.ReferenceIdeal.Read Cert.SwaSpec

variable (X : FVec Ideal S32768x768 .f32) (T : FVec Ideal S32x8 .f32) (S : FVec Ideal S8 .f32)

/-- A row's maximum over the keys. -/
theorem max_at (b : Fin 8) (n : Fin 32) (g : Fin 2) (p : Fin 4) (r : Fin 128) :
    val_main_v93 (F := Ideal) X T (ix5 b n g p r)
      = Finset.fold (β := EReal) max ⊥ (fun k : Fin 256 => val_main_v90 (F := Ideal) X T (ix6 b n g p r k)) Finset.univ := by
  unfold val_main_v93
  generalize val_main_v90 (F := Ideal) X T = y
  rw [Host.reduce_eq_fold_single _ _ _ _ (by decide)]
  have h : val_main_cst_18 (F := Ideal) (Shape.Idx.first h_S_) = ⊥ := negInf
  rw [h]
  refine congrArg (fun f => Finset.fold (β := EReal) max ⊥ f (Finset.univ : Finset (Fin 256))) (funext fun k => ?_)
  exact congrArg y (funext fun a => Fin.ext (by match a with | ⟨0, _⟩ => rfl | ⟨1, _⟩ => rfl | ⟨2, _⟩ => rfl | ⟨3, _⟩ => rfl | ⟨4, _⟩ => rfl | ⟨5, _⟩ => rfl))

/-- A row's sum over the keys. -/
theorem sum_at (b : Fin 8) (n : Fin 32) (g : Fin 2) (p : Fin 4) (r : Fin 128) :
    val_main_v100 (F := Ideal) X S T (ix5 b n g p r) = ∑ k : Fin 256, val_main_v99 (F := Ideal) X S T (ix6 b n g p r k) := by
  rw [val_main_v100_apply]
  generalize val_main_v99 (F := Ideal) X S T = y
  have h : val_main_cst_19 (F := Ideal) (Shape.Idx.first h_S_) = 0 := by
    show Ideal.ofBits FTy.f32 0#32 = 0
    simp [Ideal.ofBits, Ideal.ieee]
  rw [h, zero_add]
  refine Finset.sum_congr rfl fun k _ => ?_
  exact congrArg y (funext fun a => Fin.ext (by match a with | ⟨0, _⟩ => rfl | ⟨1, _⟩ => rfl | ⟨2, _⟩ => rfl | ⟨3, _⟩ => rfl | ⟨4, _⟩ => rfl | ⟨5, _⟩ => rfl))

/-- The maximum with the sink counted. -/
theorem m_at (b : Fin 8) (n : Fin 32) (r : Fin 128) (g : Fin 2) (p : Fin 4) :
    val_main_v96 (F := Ideal) X S T (ix6 b n g p r 0)
      = max (α := EReal) (Finset.fold (β := EReal) max ⊥ (fun k : Fin 256 => val_main_v90 (F := Ideal) X T (ix6 b n g p r k)) Finset.univ)
          (S (ix1 ⟨4 * g.val + p.val, by omega⟩)) := by
  have h : val_main_v96 (F := Ideal) X S T (ix6 b n g p r 0)
      = max (α := EReal) (val_main_v93 (F := Ideal) X T (ix5 b n g p r)) (val_main_v92 (F := Ideal) S (ix6 0 0 g p 0 0)) := by
    rw [val_main_v96_apply, val_main_v94_apply, val_main_v95_apply]
    generalize val_main_v93 (F := Ideal) X T = y
    generalize val_main_v92 (F := Ideal) S = z
    have h1 : idx_main_v94 (ix6 b n g p r 0) = ix5 b n g p r := funext fun a => Fin.ext (by match a with | ⟨0, _⟩ => rfl | ⟨1, _⟩ => rfl | ⟨2, _⟩ => rfl | ⟨3, _⟩ => rfl | ⟨4, _⟩ => rfl)
    have h2 : idx_main_v95 (ix6 b n g p r 0) = ix6 0 0 g p 0 0 := funext fun a => Fin.ext (by match a with | ⟨0, _⟩ => rfl | ⟨1, _⟩ => rfl | ⟨2, _⟩ => rfl | ⟨3, _⟩ => rfl | ⟨4, _⟩ => rfl | ⟨5, _⟩ => rfl)
    rw [h1, h2]
    exact Ideal.maximumf_def _ _
  rw [h, max_at, sink_at]

/-- The exponentials at an index. -/
theorem exp_at (b : Fin 8) (n : Fin 32) (r : Fin 128) (g : Fin 2) (p : Fin 4) (k : Fin 256) :
    val_main_v99 (F := Ideal) X S T (ix6 b n g p r k)
      = Ideal.exp (val_main_v90 (F := Ideal) X T (ix6 b n g p r k) - val_main_v96 (F := Ideal) X S T (ix6 b n g p r 0)) := by
  pointwise [val_main_v99, val_main_v98, val_main_v97]

/-- The weights at an index. -/
theorem weight_at (b : Fin 8) (n : Fin 32) (r : Fin 128) (g : Fin 2) (p : Fin 4) (k : Fin 256) :
    val_main_v107 (F := Ideal) X S T (ix6 b n g p r k)
      = Ideal.div (val_main_v99 (F := Ideal) X S T (ix6 b n g p r k))
          (val_main_v100 (F := Ideal) X S T (ix5 b n g p r)
            + Ideal.exp (S (ix1 ⟨4 * g.val + p.val, by omega⟩) - val_main_v96 (F := Ideal) X S T (ix6 b n g p r 0))) := by
  rw [← sink_at S]
  unfold val_main_v107 val_main_v106 val_main_v105 val_main_v104 val_main_v103 val_main_v102 val_main_v101
  generalize val_main_v99 (F := Ideal) X S T = e
  generalize val_main_v100 (F := Ideal) X S T = y
  generalize val_main_v96 (F := Ideal) X S T = w
  generalize val_main_v92 (F := Ideal) S = z
  pointwise

/-- The weighted values at an index. -/
theorem soft_at (b : Fin 8) (n : Fin 32) (r : Fin 128) (g : Fin 2) (p : Fin 4) (e : Fin 64) :
    val_main_v109 (F := Ideal) X S T (ix6 b n r g p e)
      = ∑ k : Fin 256, val_main_v37 (F := Ideal) X (ix5 b n k g e) * val_main_v107 (F := Ideal) X S T (ix6 b n g p r k) := by
  unfold val_main_v109 val_main_v108
  generalize val_main_v107 (F := Ideal) X S T = y
  generalize val_main_v37 (F := Ideal) X = z
  pointwise

/-- The reference's result at an index: the row of its logits, its sink and its column of values. -/
theorem out_at (b : Fin 8) (n : Fin 32) (r : Fin 128) (g : Fin 2) (p : Fin 4) (e : Fin 64) :
    val_main_v110 (F := Ideal) X S T (ix2 ⟨4096 * b.val + (128 * n.val + r.val), by omega⟩ ⟨64 * (4 * g.val + p.val) + e.val, by omega⟩)
      = attnRow (fun k => val_main_v90 (F := Ideal) X T (ix6 b n g p r k)) (S (ix1 ⟨4 * g.val + p.val, by omega⟩))
          (fun k => val_main_v37 (F := Ideal) X (ix5 b n k g e)) := by
  have h : val_main_v110 (F := Ideal) X S T (ix2 ⟨4096 * b.val + (128 * n.val + r.val), by omega⟩ ⟨64 * (4 * g.val + p.val) + e.val, by omega⟩)
      = val_main_v109 (F := Ideal) X S T (ix6 b n r g p e) := by
    unfold val_main_v110
    generalize val_main_v109 (F := Ideal) X S T = y
    pointwise
  rw [h, soft_at]
  unfold attnRow
  refine Finset.sum_congr rfl fun k _ => ?_
  rw [weight_at, sum_at, exp_at, m_at, mul_comm]
  simp only [exp_at, m_at]

end Cert.ReferenceIdeal.Stage
-- ==== Proof.SwaPoint.lean ====
module

public import proofs.«01_k».proof.Proof.SwaValue
public import proofs.«01_k».proof.Proof.SwaRefSoft

@[expose] public section

set_option maxRecDepth 16384

noncomputable section

open Idealize.ShloMosaic Idealize.ShloMosaic.TcCoe Idealize.SL.Sem
open Idealize.ShloMosaic.Pipeline (Dat)
namespace Cert.KernelIdeal.Swa
open Cert.KernelIdeal Cert.KernelIdeal.Gen Cert.SwaSpec Cert.KernelIdeal.Pure
open Cert.ReferenceIdeal.Read Cert.ReferenceIdeal.Stage

/-- The scaled queries at an index. -/
theorem pay2_at (q : FVec Ideal S128x512 .f32) (r : Fin 128) (d : Fin 512) :
    k0_pay2 (F := Ideal) q (ix2 r d) = q (ix2 r d) * Ideal.ofBits FTy.f32 1040187392#32 := by
  pointwise [k0_pay2]

/-- The two blocks one above the other: a row of the first. -/
theorem pay3_lo (a b : FVec Ideal S128x128 .f32) (k d : Fin 128) : k0_pay3 (F := Ideal) a b (ix2 ⟨k.val, by omega⟩ d) = a (ix2 k d) := by
  pointwise [k0_pay3]

/-- The two blocks one above the other: a row of the second. -/
theorem pay3_hi (a b : FVec Ideal S128x128 .f32) (k d : Fin 128) : k0_pay3 (F := Ideal) a b (ix2 ⟨128 + k.val, by omega⟩ d) = b (ix2 k d) := by
  pointwise [k0_pay3]

/-- The values' two blocks one above the other: a row of the first. -/
theorem pay4_lo (a b : FVec Ideal S128x128 .f32) (k d : Fin 128) : k0_pay4 (F := Ideal) a b (ix2 ⟨k.val, by omega⟩ d) = a (ix2 k d) := by
  pointwise [k0_pay4]

/-- The values' two blocks one above the other: a row of the second. -/
theorem pay4_hi (a b : FVec Ideal S128x128 .f32) (k d : Fin 128) : k0_pay4 (F := Ideal) a b (ix2 ⟨128 + k.val, by omega⟩ d) = b (ix2 k d) := by
  pointwise [k0_pay4]

/-- A place among 256 keys is a place of the first or of the second 128. -/
theorem key_cases (k : Fin 256) : (∃ k' : Fin 128, k = ⟨k'.val, by omega⟩) ∨ ∃ k' : Fin 128, k = ⟨128 + k'.val, by omega⟩ := by
  by_cases h : k.val < 128
  · exact Or.inl ⟨⟨k.val, h⟩, rfl⟩
  · exact Or.inr ⟨⟨k.val - 128, by omega⟩, Fin.ext (by simp; omega)⟩

/-- A key of the first half is below the block's own keys. -/
theorem mask_lo (k : Fin 128) : IntOp.cmpi .sge (BitVec.ofNat 32 k.val) 128#32 = 0#1 := by
  revert k; decide

/-- Two reads of the packed array at the same place. -/
theorem readX (X : FVec Ideal S32768x768 .f32) {a a' b b' : ℕ} {ha : a < 32768} {hb : b < 768} {ha' : a' < 32768} {hb' : b' < 768}
    (ea : a = a') (eb : b = b') : X (ix2 ⟨a, ha⟩ ⟨b, hb⟩) = X (ix2 ⟨a', ha'⟩ ⟨b', hb'⟩) := by
  subst ea eb; rfl

/-- Masked sums with equal first terms. -/
theorem sel_congr (M : BitVec 1) (b : EReal) {a a' : EReal} (h : a = a') : Scalar.select M (a + b) ⊥ = Scalar.select M (a' + b) ⊥ := by
  rw [h]

variable (m : (ℓ : Loc nD τ sig) → Buf (Elt Ideal) ℓ)

/-- One number of a block's output, computed from the block's inputs, is the reference's number at that place. -/
theorem point (c : Dev nD) (t : Fin cfg0.N) (g : Fin 2) (p : Fin 4) (r : Fin 128) (e : Fin 64) (o o' : ℕ) (ho : o + 64 ≤ 512) (ho' : o' + 64 ≤ 128)
    (eo : o = 64 * (4 * g.val + p.val)) (eo' : o' = 64 * g.val)
    (B : FVec Ideal S1x1x128x256 .f32) (s : Elt Ideal .f32)
    (hB : ∀ (r : Fin 128) (k : Fin 256), B (ix4 0 0 r k) = iblk m c 6 t (ix4 0 ⟨4 * g.val + p.val, by omega⟩ r k))
    (hs : s = iblk m c 0 t (ix1 ⟨4 * g.val + p.val, by omega⟩)) (i : S32768x512.Idx)
    (h0 : (i 0).val = 128 * t.val + r.val) (h1 : (i 1).val = 64 * (4 * g.val + p.val) + e.val) :
    headAt (k0_pay2 (F := Ideal) (X0_1 m c t)) (k0_pay3 (F := Ideal) (iblk m c 2 t) (iblk m c 3 t))
        (k0_pay4 (F := Ideal) (iblk m c 4 t) (iblk m c 5 t)) B s o o' ho ho' r e
      = val_main_v110 (F := Ideal) (m (c.tc.loc main_arg0)) (m (c.tc.loc main_arg1)) (m (c.tc.loc main_arg2)) i := by
  have ht := t_lt t
  subst eo eo'
  generalize hX : (m (c.tc.loc main_arg0) : FVec Ideal S32768x768 .f32) = X
  generalize hS : (m (c.tc.loc main_arg1) : FVec Ideal S8 .f32) = S
  generalize hT : (m (c.tc.loc main_arg2) : FVec Ideal S32x8 .f32) = T
  have hi : i = ix2 ⟨4096 * (t.val / 32) + (128 * (t.val % 32) + r.val), by omega⟩ ⟨64 * (4 * g.val + p.val) + e.val, by omega⟩ := by
    funext a
    match a with
    | ⟨0, _⟩ => exact Fin.ext (by show (i 0).val = 4096 * (t.val / 32) + (128 * (t.val % 32) + r.val); omega)
    | ⟨1, _⟩ => exact Fin.ext h1
  rw [hi]
  refine Eq.trans ?_ (out_at X T S ⟨t.val / 32, by omega⟩ ⟨t.val % 32, by omega⟩ r g p e).symm
  unfold headAt
  have hsink : s = S (ix1 ⟨4 * g.val + p.val, by omega⟩) := by rw [hs, s_blk, hS]
  rw [hsink]
  -- the logits agree
  have hlog : ∀ k : Fin 256, (∑ d : Fin 64, k0_pay2 (F := Ideal) (X0_1 m c t) (ix2 r ⟨64 * (4 * g.val + p.val) + d.val, by omega⟩)
        * k0_pay3 (F := Ideal) (iblk m c 2 t) (iblk m c 3 t) (ix2 k ⟨64 * g.val + d.val, by omega⟩)) + B (ix4 0 0 r k)
      = val_main_v90 (F := Ideal) X T (ix6 ⟨t.val / 32, by omega⟩ ⟨t.val % 32, by omega⟩ g p r k) := by
    intro k
    have hz : ((⟨min (t.val % 32) 1, by omega⟩ : Fin 2).val = 0) = (t.val % 32 = 0) := by
      apply propext; show min (t.val % 32) 1 = 0 ↔ _; omega
    rw [logit_at, hB, b_blk, hT, Table.table_at, masked]
    simp only [hz]
    rcases key_cases k with ⟨k', rfl⟩ | ⟨k', rfl⟩
    · by_cases hn : t.val % 32 = 0
      · rw [if_pos hn, mask_lo]
        have hand : ∀ b : BitVec 1, IntOp.andi b 0#1 = 0#1 := by decide
        rw [hand]
        rfl
      · rw [if_neg hn]
        refine sel_congr _ _ ?_
        rw [← scaled_dot]
        refine Finset.sum_congr rfl fun d _ => ?_
        rw [pay2_at, pay3_lo, q_blk, kp_blk, hX, kprev_at, dif_neg hn, q_at]
        exact congrArg₂ (· * ·) (congrArg (· * _) (readX X (by first | omega | (dsimp only <;> omega)) (by first | omega | (dsimp only <;> omega)))) (readX X (by first | omega | (dsimp only <;> omega)) (by first | omega | (dsimp only <;> omega)))
    · refine sel_congr _ _ ?_
      rw [← scaled_dot]
      refine Finset.sum_congr rfl fun d _ => ?_
      rw [pay2_at, pay3_hi, q_blk, kc_blk, hX, kcur_at, q_at]
      exact congrArg₂ (· * ·) (congrArg (· * _) (readX X (by first | omega | (dsimp only <;> omega)) (by first | omega | (dsimp only <;> omega)))) (readX X (by first | omega | (dsimp only <;> omega)) (by first | omega | (dsimp only <;> omega)))
  rw [funext hlog]
  by_cases hn : t.val % 32 = 0
  · refine attnRow_first _ _ _ _ (fun k => X (ix2 ⟨128 * t.val + k.val, by omega⟩ ⟨640 + (64 * g.val + e.val), by omega⟩)) ?_ ?_ ?_ ?_ ?_
    · intro k
      rw [logit_at, if_pos hn, mask_lo]
      have hand : ∀ b : BitVec 1, IntOp.andi b 0#1 = 0#1 := by decide
      rw [hand]
      rfl
    · intro k
      rw [pay4_lo, vp_blk, hX]
      exact readX X (by first | omega | (dsimp only <;> omega)) (by first | omega | (dsimp only <;> omega))
    · intro k
      rw [pay4_hi, vc_blk, hX]
    · intro k
      rw [vprev_at, dif_pos hn]
    · intro k
      rw [vcur_at]
      exact readX X (by first | omega | (dsimp only <;> omega)) (by first | omega | (dsimp only <;> omega))
  · congr 1
    funext k
    rcases key_cases k with ⟨k', rfl⟩ | ⟨k', rfl⟩
    · rw [pay4_lo, vp_blk, hX, vprev_at, dif_neg hn]
      exact readX X (by first | omega | (dsimp only <;> omega)) (by first | omega | (dsimp only <;> omega))
    · rw [pay4_hi, vc_blk, hX, vcur_at]
      exact readX X (by first | omega | (dsimp only <;> omega)) (by first | omega | (dsimp only <;> omega))

end Cert.KernelIdeal.Swa
-- ==== Proof.SwaFinal.lean ====
module

public import proofs.«01_k».proof.Proof.Gen.KernelIdeal.Value
public import proofs.«01_k».proof.Proof.SwaPoint
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)
namespace Cert.KernelIdeal.Swa
open Cert.KernelIdeal Cert.KernelIdeal.Gen Cert.SwaSpec Cert.KernelIdeal.Pure
open Cert.ReferenceIdeal.Read Cert.ReferenceIdeal.Stage

variable (m : (ℓ : Loc nD τ sig) → Buf (Elt Ideal) ℓ)

/-- A head's slice of the table of biases, as the load of it. -/
theorem ld_bias (x : FVec Ideal S1x8x128x256 .f32) (h : ℕ) (hh : h < 8) (inb) (r : Fin 128) (k : Fin 256) :
    View.ld (Val := Elt Ideal) (e' := .f32) x (Rect.unit (s := S1x8x128x256) ![0, h, 0, 0] ![1, 1, 128, 256] inb) (ix4 0 0 r k) = x (ix4 0 ⟨h, hh⟩ r k) := by
  blk_ext [View.ld]
  all_goals simp

/-- A head's sink, as the load of it. -/
theorem ld_sink (x : FVec Ideal S8 .f32) (h : ℕ) (hh : h < 8) (inb) (hp) :
    View.ld (Val := Elt Ideal) (e' := .f32) x (Rect.unit (s := S8) ![h] ![1] inb) (Shape.Idx.first hp) = x (ix1 ⟨h, hh⟩) := by
  blk_ext [View.ld]
  simp [Shape.Idx.first]

/-- What the output array holds after the run: the reference's attention of the arguments. -/
theorem final (c : Dev nD) : (dats m 0 c).arrAt 7 cfg0.N
    = val_main_v110 (F := Ideal) (m (c.tc.loc main_arg0)) (m (c.tc.loc main_arg1)) (m (c.tc.loc main_arg2)) := by
  refine (dats m 0 c).arrAt_eq_of_covers 7 _ (by decide +kernel) fun t hf y => ?_
  have e0 : ((((View.whole main_v53).slice (win0_7.rect t)).emb y) 0 : ℕ) = 128 * t.val + (y 0).val := by
    blk_simp [idx t]; omega
  have e1 : ((((View.whole main_v53).slice (win0_7.rect t)).emb y) 1 : ℕ) = (y 1).val := by
    blk_simp [idx t]
  blk_simp
  rw [after0_7]
  unfold outsAt0
  frame_out
  generalize hi : ((View.whole main_v53).slice (win0_7.rect t)).emb y = i at e0 e1 ⊢
  canon_tiles x h
  all_goals idx_vars x
  · exact (head7 ..).trans (point m c t 1 3 _ _ 448 64 _ _ rfl rfl _ _ (fun r k => ld_bias _ 7 (by decide) _ r k)
      (ld_sink _ 7 (by decide) _ _) i (by omega) (by rw [e1, h1]; first | rfl | exact (Nat.zero_add _).symm))
  · exact (head6 ..).trans (point m c t 1 2 _ _ 384 64 _ _ rfl rfl _ _ (fun r k => ld_bias _ 6 (by decide) _ r k)
      (ld_sink _ 6 (by decide) _ _) i (by omega) (by rw [e1, h1]; first | rfl | exact (Nat.zero_add _).symm))
  · exact (head5 ..).trans (point m c t 1 1 _ _ 320 64 _ _ rfl rfl _ _ (fun r k => ld_bias _ 5 (by decide) _ r k)
      (ld_sink _ 5 (by decide) _ _) i (by omega) (by rw [e1, h1]; first | rfl | exact (Nat.zero_add _).symm))
  · exact (head4 ..).trans (point m c t 1 0 _ _ 256 64 _ _ rfl rfl _ _ (fun r k => ld_bias _ 4 (by decide) _ r k)
      (ld_sink _ 4 (by decide) _ _) i (by omega) (by rw [e1, h1]; first | rfl | exact (Nat.zero_add _).symm))
  · exact (head3 ..).trans (point m c t 0 3 _ _ 192 0 _ _ rfl rfl _ _ (fun r k => ld_bias _ 3 (by decide) _ r k)
      (ld_sink _ 3 (by decide) _ _) i (by omega) (by rw [e1, h1]; first | rfl | exact (Nat.zero_add _).symm))
  · exact (head2 ..).trans (point m c t 0 2 _ _ 128 0 _ _ rfl rfl _ _ (fun r k => ld_bias _ 2 (by decide) _ r k)
      (ld_sink _ 2 (by decide) _ _) i (by omega) (by rw [e1, h1]; first | rfl | exact (Nat.zero_add _).symm))
  · exact (head1 ..).trans (point m c t 0 1 _ _ 64 0 _ _ rfl rfl _ _ (fun r k => ld_bias _ 1 (by decide) _ r k)
      (ld_sink _ 1 (by decide) _ _) i (by omega) (by rw [e1, h1]; first | rfl | exact (Nat.zero_add _).symm))
  · exact (head0 ..).trans (point m c t 0 0 _ _ 0 0 _ _ rfl rfl _ _ (fun r k => ld_bias _ 0 (by decide) _ r k)
      (ld_sink _ 0 (by decide) _ _) i (by omega) (by rw [e1, h1]; first | rfl | exact (Nat.zero_add _).symm))

end Cert.KernelIdeal.Swa
-- ==== Proof.InSpec.lean ====
module

public import Idealize.ShloMosaic.Lib.Pointwise

@[expose] public section

noncomputable section

open Idealize.ShloMosaic Idealize.ShloMosaic.TcCoe
namespace Cert.InSpec

/-- One number of a row after the norm over its 1024 numbers, scaled by the gain `g` and modulated by scale `sc` and shift `sh`. -/
def normed (x g sc sh : Fin 1024 → EReal) (k : Fin 1024) : EReal :=
  x k * Ideal.rsqrt (Ideal.div (∑ j, x j * x j) (Ideal.ofBits FTy.f32 1149239296#32) + Ideal.ofBits FTy.f32 897988541#32) * g k
      * (1 + sc k) + sh k

/-- One number of the input projection: the modulated row against a column of the weights. -/
def proj (x g sc sh w : Fin 1024 → EReal) : EReal := ∑ k, normed x g sc sh k * w k

end Cert.InSpec
-- ==== Proof.InValue.lean ====
module

public import proofs.«01_k».proof.Proof.Gen.Kernel2Ideal.Frame
public import Idealize.ShloMosaic.Lib.Pipeline.ValueKit
public import Idealize.ShloMosaic.Lib.Claim
public import Idealize.ShloMosaic.Lib.StableHlo.ReadAt
public import proofs.«01_k».proof.Proof.InSpec

@[expose] public section

set_option maxRecDepth 16384

noncomputable section

open Idealize.ShloMosaic Idealize.ShloMosaic.TcCoe Idealize.SL.Sem
open Idealize.ShloMosaic.Pipeline (Dat)

namespace Cert.Kernel2Ideal.In
open Cert.Kernel2Ideal Cert.Kernel2Ideal.Gen

variable (m : (ℓ : Loc nD τ sig) → Buf (Elt Ideal) ℓ)

/-- The modulation array: the first eight rows of the conditioning. -/
theorem V1 (c : Dev nD) (b : Fin 8) (k : Fin 6144) : V m c main_v1 (ix3 b 0 k) = m (c.tc.loc main_arg1) (ix2 ⟨b.val, by omega⟩ k) := by
  unfold V V0
  after_reads_at

/-- The activations, a row a position. -/
theorem V15 (c : Dev nD) (r : Fin 32768) (k : Fin 1024)  : V m c main_v15 (ix2 r k) = m (c.tc.loc main_arg0) (ix3 ⟨r.val / 4096, by omega⟩ ⟨r.val % 4096, by omega⟩ k) := by
  unfold V V0
  after_reads_at

/-- The gain, as one row. -/
theorem V16 (c : Dev nD) (k : Fin 1024)  : V m c main_v16 (ix2 0 k) = m (c.tc.loc main_arg2) (ix1 k) := by
  unfold V V0
  after_reads_at

/-- The weights of the attention columns. -/
theorem V9 (c : Dev nD) (r : Fin 1024) (k : Fin 768)  : V m c main_v9 (ix2 r k) = m (c.tc.loc main_arg3) (ix2 r ⟨k.val, by omega⟩) := by
  unfold V V0
  after_reads_at

/-- The weights of the convolution columns. -/
theorem V10 (c : Dev nD) (r : Fin 1024) (k : Fin 1536)  : V m c main_v10 (ix2 r k) = m (c.tc.loc main_arg3) (ix2 r ⟨768 + k.val, by omega⟩) := by
  unfold V V0
  after_reads_at

/-- The first eight of the padded small columns. -/
theorem V11 (c : Dev nD) (r : Fin 1024) (k : Fin 8)  : V m c main_v11 (ix2 r ⟨k.val, by omega⟩) = m (c.tc.loc main_arg3) (ix2 r ⟨2304 + k.val, by omega⟩) := by
  unfold V V0
  after_reads_at

/-- The weights of the z columns. -/
theorem V12 (c : Dev nD) (r : Fin 1024) (k : Fin 512)  : V m c main_v12 (ix2 r k) = m (c.tc.loc main_arg3) (ix2 r ⟨2312 + k.val, by omega⟩) := by
  unfold V V0
  after_reads_at

/-- The weights of the first gate. -/
theorem V13 (c : Dev nD) (r : Fin 1024) (k : Fin 1024)  : V m c main_v13 (ix2 r k) = m (c.tc.loc main_arg3) (ix2 r ⟨2824 + k.val, by omega⟩) := by
  unfold V V0
  after_reads_at

/-- The weights of the second gate. -/
theorem V14 (c : Dev nD) (r : Fin 1024) (k : Fin 1024)  : V m c main_v14 (ix2 r k) = m (c.tc.loc main_arg3) (ix2 r ⟨3848 + k.val, by omega⟩) := by
  unfold V V0
  after_reads_at

/-- Which block each window takes at each grid point. -/
theorem idx : ∀ t : Fin cfg0.N, win0_0.index t = ![t.val, 0] ∧ win0_1.index t = ![t.val / 16, 0, 0] ∧ win0_2.index t = ![t.val / 16, 0, 1]
    ∧ win0_3.index t = ![0, 0] ∧ win0_4.index t = ![0, 0] ∧ win0_5.index t = ![0, 0] ∧ win0_6.index t = ![0, 0] ∧ win0_7.index t = ![0, 0]
    ∧ win0_8.index t = ![0, 0] ∧ win0_9.index t = ![0, 0]
    ∧ win0_10.index t = ![t.val, 0] ∧ win0_11.index t = ![t.val, 0] ∧ win0_12.index t = ![t.val, 0] ∧ win0_13.index t = ![t.val, 0]
    ∧ win0_14.index t = ![t.val, 0] ∧ win0_15.index t = ![t.val, 0] :=
  (by decide +kernel : ∀ t : Fin grid0.N, _)

/-- A grid point's number is below 128. -/
theorem t_lt (t : Fin cfg0.N) : t.val < 128 := t.isLt

/-- The block of activations. -/
theorem x_blk (c : Dev nD) (t : Fin cfg0.N) (r : Fin 256) (k : Fin 1024) :
    iblk m c 0 t (ix2 r k) = V m c main_v15 (ix2 ⟨256 * t.val + r.val, by have := t_lt t; omega⟩ k) := by
  have := t_lt t
  unfold iblk
  generalize V m c main_v15 = W
  blk_ext [idx t]

/-- The shifts of the block's sequence. -/
theorem sh_blk (c : Dev nD) (t : Fin cfg0.N) (k : Fin 1024) :
    iblk m c 1 t (ix3 0 0 k) = V m c main_v1 (ix3 ⟨t.val / 16, by have := t_lt t; omega⟩ 0 ⟨k.val, by omega⟩) := by
  have := t_lt t
  unfold iblk
  generalize V m c main_v1 = W
  blk_ext [idx t]

/-- The scales of the block's sequence. -/
theorem sc_blk (c : Dev nD) (t : Fin cfg0.N) (k : Fin 1024) :
    iblk m c 2 t (ix3 0 0 k) = V m c main_v1 (ix3 ⟨t.val / 16, by have := t_lt t; omega⟩ 0 ⟨1024 + k.val, by omega⟩) := by
  have := t_lt t
  unfold iblk
  generalize V m c main_v1 = W
  blk_ext [idx t]

/-- The gain, whole. -/
theorem g_blk (c : Dev nD) (t : Fin cfg0.N) (k : Fin 1024) : iblk m c 3 t (ix2 0 k) = V m c main_v16 (ix2 0 k) := by
  unfold iblk
  generalize V m c main_v16 = W
  blk_ext [idx t]

theorem w4_blk (c : Dev nD) (t : Fin cfg0.N) (k : Fin 1024) (j : Fin 768) : iblk m c 4 t (ix2 k j) = V m c main_v9 (ix2 k j) := by
  unfold iblk
  generalize V m c main_v9 = W
  blk_ext [idx t]

theorem w5_blk (c : Dev nD) (t : Fin cfg0.N) (k : Fin 1024) (j : Fin 1536) : iblk m c 5 t (ix2 k j) = V m c main_v10 (ix2 k j) := by
  unfold iblk
  generalize V m c main_v10 = W
  blk_ext [idx t]

theorem w6_blk (c : Dev nD) (t : Fin cfg0.N) (k : Fin 1024) (j : Fin 128) : iblk m c 6 t (ix2 k j) = V m c main_v11 (ix2 k j) := by
  unfold iblk
  generalize V m c main_v11 = W
  blk_ext [idx t]

theorem w7_blk (c : Dev nD) (t : Fin cfg0.N) (k : Fin 1024) (j : Fin 512) : iblk m c 7 t (ix2 k j) = V m c main_v12 (ix2 k j) := by
  unfold iblk
  generalize V m c main_v12 = W
  blk_ext [idx t]

theorem w8_blk (c : Dev nD) (t : Fin cfg0.N) (k : Fin 1024) (j : Fin 1024) : iblk m c 8 t (ix2 k j) = V m c main_v13 (ix2 k j) := by
  unfold iblk
  generalize V m c main_v13 = W
  blk_ext [idx t]

theorem w9_blk (c : Dev nD) (t : Fin cfg0.N) (k : Fin 1024) (j : Fin 1024) : iblk m c 9 t (ix2 k j) = V m c main_v14 (ix2 k j) := by
  unfold iblk
  generalize V m c main_v14 = W
  blk_ext [idx t]

end Cert.Kernel2Ideal.In
-- ==== Proof.InFinal.lean ====
module

public import proofs.«01_k».proof.Proof.Gen.Kernel2Ideal.Frame
public import Idealize.ShloMosaic.Lib.Pipeline.ValueKit
public import Idealize.ShloMosaic.Lib.Claim
public import proofs.«01_k».proof.Proof.InValue

@[expose] public section

set_option maxRecDepth 16384

noncomputable section

open Idealize.ShloMosaic Idealize.ShloMosaic.TcCoe Idealize.SL.Sem
open Idealize.ShloMosaic.Pipeline (Dat)

namespace Cert.Kernel2Ideal.In
open Cert.Kernel2Ideal Cert.Kernel2Ideal.Gen

variable (m : (ℓ : Loc nD τ sig) → Buf (Elt Ideal) ℓ)
open Cert.InSpec

/-- A number of the modulated block. -/
theorem pay5_at (v0 : FVec Ideal S256x1024 .f32) (v2 : FVec Ideal S1x1024 .f32) (v16 v22 : FVec Ideal S1x1x1024 .f32) (r : Fin 256) (k : Fin 1024) :
    k0_pay5 (F := Ideal) v0 v2 v16 v22 (ix2 r k)
      = normed (fun j => v0 (ix2 r j)) (fun j => v2 (ix2 0 j)) (fun j => v16 (ix3 0 0 j)) (fun j => v22 (ix3 0 0 j)) k := by
  pointwise [k0_pay5, normed]

/-- A load of a whole array is the array. -/
theorem ld_x (x : FVec Ideal S256x1024 .f32) (r : Fin 256) (k : Fin 1024) : View.ld (Val := Elt Ideal) (e' := .f32) x r0_0 (ix2 r k) = x (ix2 r k) := by
  blk_ext [View.ld]
  all_goals simp
theorem ld_g (x : FVec Ideal S1x1024 .f32) (k : Fin 1024) : View.ld (Val := Elt Ideal) (e' := .f32) x r0_1 (ix2 0 k) = x (ix2 0 k) := by
  blk_ext [View.ld]
  all_goals simp
theorem ld_m (x : FVec Ideal S1x1x1024 .f32) (k : Fin 1024) : View.ld (Val := Elt Ideal) (e' := .f32) x r0_2 (ix3 0 0 k) = x (ix3 0 0 k) := by
  blk_ext [View.ld]
  all_goals simp

/-- A row of the modulated activations, of the arguments. -/
def row (c : Dev nD) (b : Fin 8) (r : Fin 4096) (k : Fin 1024) : EReal :=
  normed (fun j => m (c.tc.loc main_arg0) (ix3 b r j)) (fun j => m (c.tc.loc main_arg2) (ix1 j))
    (fun j => m (c.tc.loc main_arg1) (ix2 ⟨b.val, by omega⟩ ⟨1024 + j.val, by omega⟩))
    (fun j => m (c.tc.loc main_arg1) (ix2 ⟨b.val, by omega⟩ ⟨j.val, by omega⟩)) k

/-- The modulated block at a grid point is the rows of the arguments. -/
theorem row_at (c : Dev nD) (t : Fin cfg0.N) (r : Fin 256) (k : Fin 1024) :
    k0_pay5 (F := Ideal) (View.ld (iblk m c 0 t) r0_0) (View.ld (iblk m c 3 t) r0_1) (View.ld (iblk m c 2 t) r0_2) (View.ld (iblk m c 1 t) r0_2) (ix2 r k)
      = row m c ⟨(256 * t.val + r.val) / 4096, by have := t_lt t; omega⟩ ⟨(256 * t.val + r.val) % 4096, by omega⟩ k := by
  have := t_lt t
  rw [pay5_at]
  unfold row
  have hb : (256 * t.val + r.val) / 4096 = t.val / 16 := by omega
  congr 1
  · funext j; exact (ld_x _ r j).trans ((x_blk m c t r j).trans (V15 m c _ j))
  · funext j; exact (ld_g _ j).trans ((g_blk m c t j).trans (V16 m c j))
  · funext j; refine (ld_m _ j).trans ((sc_blk m c t j).trans ((V1 m c _ _).trans ?_)); simp only [hb]
  · funext j; refine (ld_m _ j).trans ((sh_blk m c t j).trans ((V1 m c _ _).trans ?_)); simp only [hb]

theorem ld_w768 (x : FVec Ideal S1024x768 .bf16) (k : Fin 1024) (j : Fin 768) : View.ld (Val := Elt Ideal) (e' := .bf16) x r0_3 (ix2 k j) = x (ix2 k j) := by
  blk_ext [View.ld]
  all_goals simp

/-- A number of the block of result 0: a row of the modulated block against a column of the weights. -/
theorem dot10 (v0 : FVec Ideal S256x1024 .f32) (v2 : FVec Ideal S1x1024 .f32) (v16 v22 : FVec Ideal S1x1x1024 .f32) (w : FVec Ideal S1024x768 .bf16) (r : Fin 256) (j : Fin 768) :
    k0_pay6 (F := Ideal) v0 v2 v16 v22 w (ix2 r j) = ∑ k, (k0_pay5 (F := Ideal) v0 v2 v16 v22) (ix2 r k) * w (ix2 k j) := by
  unfold k0_pay6
  generalize k0_pay5 (F := Ideal) v0 v2 v16 v22 = h
  pointwise

/-- What result 0 is: the rows against its columns of the weights. -/
def res10 (c : Dev nD) (i : S32768x768.Idx) : EReal :=
  ∑ k, row m c ⟨(i 0).val / 4096, by have : (i 0).val < 32768 := (i 0).isLt; omega⟩ ⟨(i 0).val % 4096, by omega⟩ k * V m c main_v9 (ix2 k (i 1))

theorem final10 (c : Dev nD) : (dats m 0 c).arrAt 10 cfg0.N = res10 m c := by
  refine (dats m 0 c).arrAt_eq_of_covers 10 _ (by decide +kernel) fun t hf y => ?_
  have e0 : ((((View.whole main_v17_0).slice (win0_10.rect t)).emb y) 0 : ℕ) = 256 * t.val + (y 0).val := by
    blk_simp [idx t]; omega
  have e1 : ((((View.whole main_v17_0).slice (win0_10.rect t)).emb y) 1 : ℕ) = (y 1).val := by
    blk_simp [idx t]
  blk_simp
  rw [after0_10]
  unfold out0_10
  generalize hi : ((View.whole main_v17_0).slice (win0_10.rect t)).emb y = i at e0 e1 ⊢
  canon_tiles x h
  all_goals idx_vars x
  refine (dot10 ..).trans ?_
  unfold res10
  refine Finset.sum_congr rfl fun k _ => ?_
  refine congrArg₂ (· * ·) ((row_at m c t _ k).trans ?_) ((ld_w768 _ k _).trans ((w4_blk m c t k _).trans ?_))
  · simp only [e0, h0]
  · exact congrArg (fun j => V m c main_v9 (ix2 k j)) (Fin.ext (by rw [e1, h1]))

theorem ld_w1536 (x : FVec Ideal S1024x1536 .bf16) (k : Fin 1024) (j : Fin 1536) : View.ld (Val := Elt Ideal) (e' := .bf16) x r0_5 (ix2 k j) = x (ix2 k j) := by
  blk_ext [View.ld]
  all_goals simp

/-- A number of the block of result 1: a row of the modulated block against a column of the weights. -/
theorem dot11 (v0 : FVec Ideal S256x1024 .f32) (v2 : FVec Ideal S1x1024 .f32) (v16 v22 : FVec Ideal S1x1x1024 .f32) (w : FVec Ideal S1024x1536 .bf16) (r : Fin 256) (j : Fin 1536) :
    k0_pay7 (F := Ideal) v0 v2 v16 v22 w (ix2 r j) = ∑ k, (k0_pay5 (F := Ideal) v0 v2 v16 v22) (ix2 r k) * w (ix2 k j) := by
  unfold k0_pay7
  generalize k0_pay5 (F := Ideal) v0 v2 v16 v22 = h
  pointwise

/-- What result 1 is: the rows against its columns of the weights. -/
def res11 (c : Dev nD) (i : S32768x1536.Idx) : EReal :=
  ∑ k, row m c ⟨(i 0).val / 4096, by have : (i 0).val < 32768 := (i 0).isLt; omega⟩ ⟨(i 0).val % 4096, by omega⟩ k * V m c main_v10 (ix2 k (i 1))

theorem final11 (c : Dev nD) : (dats m 0 c).arrAt 11 cfg0.N = res11 m c := by
  refine (dats m 0 c).arrAt_eq_of_covers 11 _ (by decide +kernel) fun t hf y => ?_
  have e0 : ((((View.whole main_v17_1).slice (win0_11.rect t)).emb y) 0 : ℕ) = 256 * t.val + (y 0).val := by
    blk_simp [idx t]; omega
  have e1 : ((((View.whole main_v17_1).slice (win0_11.rect t)).emb y) 1 : ℕ) = (y 1).val := by
    blk_simp [idx t]
  blk_simp
  rw [after0_11]
  unfold out0_11
  generalize hi : ((View.whole main_v17_1).slice (win0_11.rect t)).emb y = i at e0 e1 ⊢
  canon_tiles x h
  all_goals idx_vars x
  refine (dot11 ..).trans ?_
  unfold res11
  refine Finset.sum_congr rfl fun k _ => ?_
  refine congrArg₂ (· * ·) ((row_at m c t _ k).trans ?_) ((ld_w1536 _ k _).trans ((w5_blk m c t k _).trans ?_))
  · simp only [e0, h0]
  · exact congrArg (fun j => V m c main_v10 (ix2 k j)) (Fin.ext (by rw [e1, h1]))

theorem ld_w128 (x : FVec Ideal S1024x128 .bf16) (k : Fin 1024) (j : Fin 128) : View.ld (Val := Elt Ideal) (e' := .bf16) x r0_7 (ix2 k j) = x (ix2 k j) := by
  blk_ext [View.ld]
  all_goals simp

/-- A number of the block of result 2: a row of the modulated block against a column of the weights. -/
theorem dot12 (h : FVec Ideal S256x1024 .bf16) (w : FVec Ideal S1024x128 .bf16) (r : Fin 256) (j : Fin 128) :
    k0_pay1 (F := Ideal) h w (ix2 r j) = ∑ k, h (ix2 r k) * w (ix2 k j) := by
  unfold k0_pay1
  skip
  pointwise

/-- What result 2 is: the rows against its columns of the weights. -/
def res12 (c : Dev nD) (i : S32768x128.Idx) : EReal :=
  ∑ k, row m c ⟨(i 0).val / 4096, by have : (i 0).val < 32768 := (i 0).isLt; omega⟩ ⟨(i 0).val % 4096, by omega⟩ k * V m c main_v11 (ix2 k (i 1))

theorem final12 (c : Dev nD) : (dats m 0 c).arrAt 12 cfg0.N = res12 m c := by
  refine (dats m 0 c).arrAt_eq_of_covers 12 _ (by decide +kernel) fun t hf y => ?_
  have e0 : ((((View.whole main_v17_2).slice (win0_12.rect t)).emb y) 0 : ℕ) = 256 * t.val + (y 0).val := by
    blk_simp [idx t]; omega
  have e1 : ((((View.whole main_v17_2).slice (win0_12.rect t)).emb y) 1 : ℕ) = (y 1).val := by
    blk_simp [idx t]
  blk_simp
  rw [after0_12]
  unfold out0_12
  generalize hi : ((View.whole main_v17_2).slice (win0_12.rect t)).emb y = i at e0 e1 ⊢
  canon_tiles x h
  all_goals idx_vars x
  refine (dot12 ..).trans ?_
  unfold res12
  refine Finset.sum_congr rfl fun k _ => ?_
  refine congrArg₂ (· * ·) ((row_at m c t _ k).trans ?_) ((ld_w128 _ k _).trans ((w6_blk m c t k _).trans ?_))
  · simp only [e0, h0]
  · exact congrArg (fun j => V m c main_v11 (ix2 k j)) (Fin.ext (by rw [e1, h1]))

theorem ld_w512 (x : FVec Ideal S1024x512 .bf16) (k : Fin 1024) (j : Fin 512) : View.ld (Val := Elt Ideal) (e' := .bf16) x r0_9 (ix2 k j) = x (ix2 k j) := by
  blk_ext [View.ld]
  all_goals simp

/-- A number of the block of result 3: a row of the modulated block against a column of the weights. -/
theorem dot13 (h : FVec Ideal S256x1024 .bf16) (w : FVec Ideal S1024x512 .bf16) (r : Fin 256) (j : Fin 512) :
    k0_pay2 (F := Ideal) h w (ix2 r j) = ∑ k, h (ix2 r k) * w (ix2 k j) := by
  unfold k0_pay2
  skip
  pointwise

/-- What result 3 is: the rows against its columns of the weights. -/
def res13 (c : Dev nD) (i : S32768x512.Idx) : EReal :=
  ∑ k, row m c ⟨(i 0).val / 4096, by have : (i 0).val < 32768 := (i 0).isLt; omega⟩ ⟨(i 0).val % 4096, by omega⟩ k * V m c main_v12 (ix2 k (i 1))

theorem final13 (c : Dev nD) : (dats m 0 c).arrAt 13 cfg0.N = res13 m c := by
  refine (dats m 0 c).arrAt_eq_of_covers 13 _ (by decide +kernel) fun t hf y => ?_
  have e0 : ((((View.whole main_v17_3).slice (win0_13.rect t)).emb y) 0 : ℕ) = 256 * t.val + (y 0).val := by
    blk_simp [idx t]; omega
  have e1 : ((((View.whole main_v17_3).slice (win0_13.rect t)).emb y) 1 : ℕ) = (y 1).val := by
    blk_simp [idx t]
  blk_simp
  rw [after0_13]
  unfold out0_13
  generalize hi : ((View.whole main_v17_3).slice (win0_13.rect t)).emb y = i at e0 e1 ⊢
  canon_tiles x h
  all_goals idx_vars x
  refine (dot13 ..).trans ?_
  unfold res13
  refine Finset.sum_congr rfl fun k _ => ?_
  refine congrArg₂ (· * ·) ((row_at m c t _ k).trans ?_) ((ld_w512 _ k _).trans ((w7_blk m c t k _).trans ?_))
  · simp only [e0, h0]
  · exact congrArg (fun j => V m c main_v12 (ix2 k j)) (Fin.ext (by rw [e1, h1]))

theorem ld_w1024 (x : FVec Ideal S1024x1024 .bf16) (k : Fin 1024) (j : Fin 1024) : View.ld (Val := Elt Ideal) (e' := .bf16) x r0_11 (ix2 k j) = x (ix2 k j) := by
  blk_ext [View.ld]
  all_goals simp

/-- A number of the block of result 4: a row of the modulated block against a column of the weights. -/
theorem dot14 (h : FVec Ideal S256x1024 .bf16) (w : FVec Ideal S1024x1024 .bf16) (r : Fin 256) (j : Fin 1024) :
    k0_pay3 (F := Ideal) h w (ix2 r j) = ∑ k, h (ix2 r k) * w (ix2 k j) := by
  unfold k0_pay3
  skip
  pointwise

/-- What result 4 is: the rows against its columns of the weights. -/
def res14 (c : Dev nD) (i : S32768x1024.Idx) : EReal :=
  ∑ k, row m c ⟨(i 0).val / 4096, by have : (i 0).val < 32768 := (i 0).isLt; omega⟩ ⟨(i 0).val % 4096, by omega⟩ k * V m c main_v13 (ix2 k (i 1))

theorem final14 (c : Dev nD) : (dats m 0 c).arrAt 14 cfg0.N = res14 m c := by
  refine (dats m 0 c).arrAt_eq_of_covers 14 _ (by decide +kernel) fun t hf y => ?_
  have e0 : ((((View.whole main_v17_4).slice (win0_14.rect t)).emb y) 0 : ℕ) = 256 * t.val + (y 0).val := by
    blk_simp [idx t]; omega
  have e1 : ((((View.whole main_v17_4).slice (win0_14.rect t)).emb y) 1 : ℕ) = (y 1).val := by
    blk_simp [idx t]
  blk_simp
  rw [after0_14]
  unfold out0_14
  generalize hi : ((View.whole main_v17_4).slice (win0_14.rect t)).emb y = i at e0 e1 ⊢
  canon_tiles x h
  all_goals idx_vars x
  refine (dot14 ..).trans ?_
  unfold res14
  refine Finset.sum_congr rfl fun k _ => ?_
  refine congrArg₂ (· * ·) ((row_at m c t _ k).trans ?_) ((ld_w1024 _ k _).trans ((w8_blk m c t k _).trans ?_))
  · simp only [e0, h0]
  · exact congrArg (fun j => V m c main_v13 (ix2 k j)) (Fin.ext (by rw [e1, h1]))

/-- A number of the block of result 5: a row of the modulated block against a column of the weights. -/
theorem dot15 (h : FVec Ideal S256x1024 .bf16) (w : FVec Ideal S1024x1024 .bf16) (r : Fin 256) (j : Fin 1024) :
    k0_pay4 (F := Ideal) h w (ix2 r j) = ∑ k, h (ix2 r k) * w (ix2 k j) := by
  unfold k0_pay4
  skip
  pointwise

/-- What result 5 is: the rows against its columns of the weights. -/
def res15 (c : Dev nD) (i : S32768x1024.Idx) : EReal :=
  ∑ k, row m c ⟨(i 0).val / 4096, by have : (i 0).val < 32768 := (i 0).isLt; omega⟩ ⟨(i 0).val % 4096, by omega⟩ k * V m c main_v14 (ix2 k (i 1))

theorem final15 (c : Dev nD) : (dats m 0 c).arrAt 15 cfg0.N = res15 m c := by
  refine (dats m 0 c).arrAt_eq_of_covers 15 _ (by decide +kernel) fun t hf y => ?_
  have e0 : ((((View.whole main_v17_5).slice (win0_15.rect t)).emb y) 0 : ℕ) = 256 * t.val + (y 0).val := by
    blk_simp [idx t]; omega
  have e1 : ((((View.whole main_v17_5).slice (win0_15.rect t)).emb y) 1 : ℕ) = (y 1).val := by
    blk_simp [idx t]
  blk_simp
  rw [after0_15]
  unfold out0_15
  generalize hi : ((View.whole main_v17_5).slice (win0_15.rect t)).emb y = i at e0 e1 ⊢
  canon_tiles x h
  all_goals idx_vars x
  refine (dot15 ..).trans ?_
  unfold res15
  refine Finset.sum_congr rfl fun k _ => ?_
  refine congrArg₂ (· * ·) ((row_at m c t _ k).trans ?_) ((ld_w1024 _ k _).trans ((w9_blk m c t k _).trans ?_))
  · simp only [e0, h0]
  · exact congrArg (fun j => V m c main_v14 (ix2 k j)) (Fin.ext (by rw [e1, h1]))

end Cert.Kernel2Ideal.In
-- ==== Proof.InRef.lean ====
module

public import proofs.«01_k».proof.Proof.Gen.Reference2Ideal.Read
public import Idealize.ShloMosaic.Lib.Pointwise
public import proofs.«01_k».proof.Proof.InSpec

@[expose] public section

set_option maxRecDepth 16384

noncomputable section

open Idealize.ShloMosaic Idealize.ShloMosaic.TcCoe Idealize.SL.Sem
namespace Cert.Reference2Ideal.Stage
open Cert.Reference2Ideal Cert.Reference2Ideal.Gen Cert.Reference2Ideal.Read

variable (X : FVec Ideal S8x4096x1024 .f32) (A : FVec Ideal S136x6144 .f32) (g : FVec Ideal S1024 .f32) (w : FVec Ideal S1024x4872 .f32)

/-- The reference's modulated row. -/
theorem normed_at (b : Fin 8) (r : Fin 4096) (k : Fin 1024) :
    val_main_v31 (F := Ideal) X A g (ix3 b r k)
      = Cert.InSpec.normed (fun j => X (ix3 b r j)) (fun j => g (ix1 j)) (fun j => A (ix2 ⟨b.val, by omega⟩ ⟨1024 + j.val, by omega⟩))
          (fun j => A (ix2 ⟨b.val, by omega⟩ ⟨j.val, by omega⟩)) k := by
  pointwise [val_main_v31, val_main_v29, val_main_v30, val_main_v28, val_main_v27, val_main_v26, val_main_v25, val_main_v24, val_main_v23, val_main_v22, val_main_v21, val_main_v20, val_main_v19, val_main_v18, val_main_v17, val_main_v16, val_main_v15, val_main_v14, val_main_v13, val_main_v8, val_main_v7, val_main_v2, val_main_v1, val_main_v0, val_main_cst, val_main_cst_0, val_main_cst_1, val_main_cst_2, Cert.InSpec.normed]

/-- The reference's projection: a row against a column of the weights. -/
theorem proj_at (b : Fin 8) (r : Fin 4096) (j : Fin 4872) :
    val_main_v32 (F := Ideal) X A g w (ix3 b r j) = ∑ k, val_main_v31 (F := Ideal) X A g (ix3 b r k) * w (ix2 k j) := by
  unfold val_main_v32
  generalize val_main_v31 (F := Ideal) X A g = h
  pointwise

theorem v50_at (R : Fin 32768) (j : Fin 768) : val_main_v50 (F := Ideal) X A g w (ix2 R j)
    = val_main_v32 (F := Ideal) X A g w (ix3 ⟨R.val / 4096, by omega⟩ ⟨R.val % 4096, by omega⟩ ⟨0 + j.val, by omega⟩) := by
  unfold val_main_v50 val_main_v49 val_main_v33 val_main_v34 val_main_v35
  generalize val_main_v32 (F := Ideal) X A g w = y
  pointwise
  repeat' split
  all_goals exact congrArg (fun k => y (ix3 _ _ k)) (Fin.ext (by dsimp only <;> omega))

theorem v51_at (R : Fin 32768) (j : Fin 1536) : val_main_v51 (F := Ideal) X A g w (ix2 R j)
    = val_main_v32 (F := Ideal) X A g w (ix3 ⟨R.val / 4096, by omega⟩ ⟨R.val % 4096, by omega⟩ ⟨768 + j.val, by omega⟩) := by
  unfold val_main_v51 val_main_v36
  generalize val_main_v32 (F := Ideal) X A g w = y
  pointwise

theorem v53_at (R : Fin 32768) (j : Fin 8) : val_main_v53 (F := Ideal) X A g w (ix2 R j)
    = val_main_v32 (F := Ideal) X A g w (ix3 ⟨R.val / 4096, by omega⟩ ⟨R.val % 4096, by omega⟩ ⟨2304 + j.val, by omega⟩) := by
  unfold val_main_v53 val_main_v52 val_main_v37 val_main_v38
  generalize val_main_v32 (F := Ideal) X A g w = y
  pointwise
  repeat' split
  all_goals exact congrArg (fun k => y (ix3 _ _ k)) (Fin.ext (by dsimp only <;> omega))

theorem v54_at (R : Fin 32768) (j : Fin 512) : val_main_v54 (F := Ideal) X A g w (ix2 R j)
    = val_main_v32 (F := Ideal) X A g w (ix3 ⟨R.val / 4096, by omega⟩ ⟨R.val % 4096, by omega⟩ ⟨2312 + j.val, by omega⟩) := by
  unfold val_main_v54 val_main_v39
  generalize val_main_v32 (F := Ideal) X A g w = y
  pointwise

theorem v55_at (R : Fin 32768) (j : Fin 1024) : val_main_v55 (F := Ideal) X A g w (ix2 R j)
    = val_main_v32 (F := Ideal) X A g w (ix3 ⟨R.val / 4096, by omega⟩ ⟨R.val % 4096, by omega⟩ ⟨2824 + j.val, by omega⟩) := by
  unfold val_main_v55 val_main_v40
  generalize val_main_v32 (F := Ideal) X A g w = y
  pointwise

theorem v56_at (R : Fin 32768) (j : Fin 1024) : val_main_v56 (F := Ideal) X A g w (ix2 R j)
    = val_main_v32 (F := Ideal) X A g w (ix3 ⟨R.val / 4096, by omega⟩ ⟨R.val % 4096, by omega⟩ ⟨3848 + j.val, by omega⟩) := by
  unfold val_main_v56 val_main_v41
  generalize val_main_v32 (F := Ideal) X A g w = y
  pointwise

theorem v44_at (b : Fin 8) (r : Fin 128) (h : Fin 2) (e : Fin 64) : val_main_v44 (F := Ideal) X A g w (ix4 b r h e)
    = val_main_v32 (F := Ideal) X A g w (ix3 b ⟨3968 + r.val, by omega⟩ ⟨512 + (h.val * 64 + e.val), by omega⟩) := by
  unfold val_main_v44 val_main_v42 val_main_v34
  generalize val_main_v32 (F := Ideal) X A g w = y
  pointwise

theorem v45_at (b : Fin 8) (r : Fin 128) (h : Fin 2) (e : Fin 64) : val_main_v45 (F := Ideal) X A g w (ix4 b r h e)
    = val_main_v32 (F := Ideal) X A g w (ix3 b ⟨3968 + r.val, by omega⟩ ⟨640 + (h.val * 64 + e.val), by omega⟩) := by
  unfold val_main_v45 val_main_v43 val_main_v35
  generalize val_main_v32 (F := Ideal) X A g w = y
  pointwise

theorem v48_at (b : Fin 8) (r : Fin 3) (j : Fin 1536) : val_main_v48 (F := Ideal) X A g w (ix3 b r j)
    = val_main_v32 (F := Ideal) X A g w (ix3 b ⟨4093 + r.val, by omega⟩ ⟨768 + j.val, by omega⟩) := by
  unfold val_main_v48 val_main_v47 val_main_v46 val_main_v36 val_main_cst_3
  generalize val_main_v32 (F := Ideal) X A g w = y
  pointwise
  rw [dif_neg (by omega)]
  exact congrArg (fun k => y (ix3 b k _)) (Fin.ext (by dsimp only <;> omega))

end Cert.Reference2Ideal.Stage
-- ==== Proof.InJoin.lean ====
module

public import proofs.«01_k».proof.Proof.Gen.Kernel2Ideal.Frame
public import Idealize.ShloMosaic.Lib.Pipeline.ValueKit
public import Idealize.ShloMosaic.Lib.Claim
public import proofs.«01_k».proof.Proof.InFinal
public import proofs.«01_k».proof.Proof.InRef
public import Idealize.ShloMosaic.Lib.StableHlo.ReadAt

@[expose] public section

set_option maxRecDepth 16384

noncomputable section

open Idealize.ShloMosaic Idealize.ShloMosaic.TcCoe Idealize.SL.Sem
open Idealize.ShloMosaic.Pipeline (Dat)

namespace Cert.Kernel2Ideal.In
open Cert.Kernel2Ideal Cert.Kernel2Ideal.Gen

open Cert.InSpec Cert.Reference2Ideal.Read Cert.Reference2Ideal.Stage

variable (m : (ℓ : Loc nD τ sig) → Buf (Elt Ideal) ℓ)

/-- The rows against a column of the whole weights are the reference's projection. -/
theorem proj_eq (c : Dev nD) (b : Fin 8) (r : Fin 4096) (j : Fin 4872) :
    ∑ k, row m c b r k * m (c.tc.loc main_arg3) (ix2 k j)
      = val_main_v32 (F := Ideal) (m (c.tc.loc main_arg0)) (m (c.tc.loc main_arg1)) (m (c.tc.loc main_arg2)) (m (c.tc.loc main_arg3)) (ix3 b r j) := by
  rw [proj_at]
  exact Finset.sum_congr rfl fun k _ => congrArg (· * _) (normed_at (m (c.tc.loc main_arg0)) (m (c.tc.loc main_arg1)) (m (c.tc.loc main_arg2)) b r k).symm

/-- A number of result 0. -/
theorem res10_at (c : Dev nD) (R : Fin 32768) (j : Fin 768) : res10 m c (ix2 R j)
    = val_main_v32 (F := Ideal) (m (c.tc.loc main_arg0)) (m (c.tc.loc main_arg1)) (m (c.tc.loc main_arg2)) (m (c.tc.loc main_arg3))
        (ix3 ⟨R.val / 4096, by omega⟩ ⟨R.val % 4096, by omega⟩ ⟨0 + j.val, by omega⟩) := by
  rw [← proj_eq]
  refine Finset.sum_congr rfl fun k _ => congrArg (row m c _ _ k * ·) ((V9 m c k j).trans ?_)
  exact congrArg (fun q => m (c.tc.loc main_arg3) (ix2 k q)) (Fin.ext (Nat.zero_add _).symm)

/-- A number of result 1. -/
theorem res11_at (c : Dev nD) (R : Fin 32768) (j : Fin 1536) : res11 m c (ix2 R j)
    = val_main_v32 (F := Ideal) (m (c.tc.loc main_arg0)) (m (c.tc.loc main_arg1)) (m (c.tc.loc main_arg2)) (m (c.tc.loc main_arg3))
        (ix3 ⟨R.val / 4096, by omega⟩ ⟨R.val % 4096, by omega⟩ ⟨768 + j.val, by omega⟩) := by
  rw [← proj_eq]
  refine Finset.sum_congr rfl fun k _ => congrArg (row m c _ _ k * ·) ((V10 m c k j).trans ?_)
  rfl

/-- A number of result 2. -/
theorem res12_at (c : Dev nD) (R : Fin 32768) (j : Fin 8) : res12 m c (ix2 R ⟨j.val, by omega⟩)
    = val_main_v32 (F := Ideal) (m (c.tc.loc main_arg0)) (m (c.tc.loc main_arg1)) (m (c.tc.loc main_arg2)) (m (c.tc.loc main_arg3))
        (ix3 ⟨R.val / 4096, by omega⟩ ⟨R.val % 4096, by omega⟩ ⟨2304 + j.val, by omega⟩) := by
  rw [← proj_eq]
  refine Finset.sum_congr rfl fun k _ => congrArg (row m c _ _ k * ·) ((V11 m c k j).trans ?_)
  rfl

/-- A number of result 3. -/
theorem res13_at (c : Dev nD) (R : Fin 32768) (j : Fin 512) : res13 m c (ix2 R j)
    = val_main_v32 (F := Ideal) (m (c.tc.loc main_arg0)) (m (c.tc.loc main_arg1)) (m (c.tc.loc main_arg2)) (m (c.tc.loc main_arg3))
        (ix3 ⟨R.val / 4096, by omega⟩ ⟨R.val % 4096, by omega⟩ ⟨2312 + j.val, by omega⟩) := by
  rw [← proj_eq]
  refine Finset.sum_congr rfl fun k _ => congrArg (row m c _ _ k * ·) ((V12 m c k j).trans ?_)
  rfl

/-- A number of result 4. -/
theorem res14_at (c : Dev nD) (R : Fin 32768) (j : Fin 1024) : res14 m c (ix2 R j)
    = val_main_v32 (F := Ideal) (m (c.tc.loc main_arg0)) (m (c.tc.loc main_arg1)) (m (c.tc.loc main_arg2)) (m (c.tc.loc main_arg3))
        (ix3 ⟨R.val / 4096, by omega⟩ ⟨R.val % 4096, by omega⟩ ⟨2824 + j.val, by omega⟩) := by
  rw [← proj_eq]
  refine Finset.sum_congr rfl fun k _ => congrArg (row m c _ _ k * ·) ((V13 m c k j).trans ?_)
  rfl

/-- A number of result 5. -/
theorem res15_at (c : Dev nD) (R : Fin 32768) (j : Fin 1024) : res15 m c (ix2 R j)
    = val_main_v32 (F := Ideal) (m (c.tc.loc main_arg0)) (m (c.tc.loc main_arg1)) (m (c.tc.loc main_arg2)) (m (c.tc.loc main_arg3))
        (ix3 ⟨R.val / 4096, by omega⟩ ⟨R.val % 4096, by omega⟩ ⟨3848 + j.val, by omega⟩) := by
  rw [← proj_eq]
  refine Finset.sum_congr rfl fun k _ => congrArg (row m c _ _ k * ·) ((V14 m c k j).trans ?_)
  rfl

/-- What the host lines after the kernel leave in its result. -/
theorem tail20 (c : Dev nD) : Pipeline.afterTail₀ cfgs (dats m) 0 (V0 m) [hostOps1] c main_v20
    = val_main_v44 (F := Ideal) (m (c.tc.loc main_arg0)) (m (c.tc.loc main_arg1)) (m (c.tc.loc main_arg2)) (m (c.tc.loc main_arg3)) := by
  have h : Pipeline.withArrays spec0 c (V0 m c) (fun w => (dats m 0 c).arrAt w cfg0.N) (Proc.devRef .tc main_v17_0) = res10 m c :=
    (Pipeline.Dat.withArrays_arrAt (dats m 0 c) sharedIn0 (V0 m c) (A_eq m c) 10).trans (final10 m c)
  funext i
  idx_vars i
  rw [v44_at]
  unfold Pipeline.afterTail₀
  after_reads_at
  refine (congrFun h _).trans ((res10_at ..).trans ?_)
  have e1 : (i0.val * 4096 + (3968 + i1.val)) / 4096 = i0.val := by omega
  have e2 : (i0.val * 4096 + (3968 + i1.val)) % 4096 = 3968 + i1.val := by omega
  simp only [e1, e2, Nat.zero_add]

/-- What the host lines after the kernel leave in its result. -/
theorem tail22 (c : Dev nD) : Pipeline.afterTail₀ cfgs (dats m) 0 (V0 m) [hostOps1] c main_v22
    = val_main_v45 (F := Ideal) (m (c.tc.loc main_arg0)) (m (c.tc.loc main_arg1)) (m (c.tc.loc main_arg2)) (m (c.tc.loc main_arg3)) := by
  have h : Pipeline.withArrays spec0 c (V0 m c) (fun w => (dats m 0 c).arrAt w cfg0.N) (Proc.devRef .tc main_v17_0) = res10 m c :=
    (Pipeline.Dat.withArrays_arrAt (dats m 0 c) sharedIn0 (V0 m c) (A_eq m c) 10).trans (final10 m c)
  funext i
  idx_vars i
  rw [v45_at]
  unfold Pipeline.afterTail₀
  after_reads_at
  refine (congrFun h _).trans ((res10_at ..).trans ?_)
  have e1 : (i0.val * 4096 + (3968 + i1.val)) / 4096 = i0.val := by omega
  have e2 : (i0.val * 4096 + (3968 + i1.val)) % 4096 = 3968 + i1.val := by omega
  simp only [e1, e2, Nat.zero_add]

/-- What the host lines after the kernel leave in its result. -/
theorem tail24 (c : Dev nD) : Pipeline.afterTail₀ cfgs (dats m) 0 (V0 m) [hostOps1] c main_v24
    = val_main_v48 (F := Ideal) (m (c.tc.loc main_arg0)) (m (c.tc.loc main_arg1)) (m (c.tc.loc main_arg2)) (m (c.tc.loc main_arg3)) := by
  have h : Pipeline.withArrays spec0 c (V0 m c) (fun w => (dats m 0 c).arrAt w cfg0.N) (Proc.devRef .tc main_v17_1) = res11 m c :=
    (Pipeline.Dat.withArrays_arrAt (dats m 0 c) sharedIn0 (V0 m c) (A_eq m c) 11).trans (final11 m c)
  funext i
  idx_vars i
  rw [v48_at]
  unfold Pipeline.afterTail₀
  after_reads_at
  refine (congrFun h _).trans ((res11_at ..).trans ?_)
  have e1 : (i0.val * 4096 + (4093 + i1.val)) / 4096 = i0.val := by omega
  have e2 : (i0.val * 4096 + (4093 + i1.val)) % 4096 = 4093 + i1.val := by omega
  simp only [e1, e2, Nat.zero_add]

/-- What the host lines after the kernel leave in its result. -/
theorem tail25 (c : Dev nD) : Pipeline.afterTail₀ cfgs (dats m) 0 (V0 m) [hostOps1] c main_v25
    = val_main_v53 (F := Ideal) (m (c.tc.loc main_arg0)) (m (c.tc.loc main_arg1)) (m (c.tc.loc main_arg2)) (m (c.tc.loc main_arg3)) := by
  have h : Pipeline.withArrays spec0 c (V0 m c) (fun w => (dats m 0 c).arrAt w cfg0.N) (Proc.devRef .tc main_v17_2) = res12 m c :=
    (Pipeline.Dat.withArrays_arrAt (dats m 0 c) sharedIn0 (V0 m c) (A_eq m c) 12).trans (final12 m c)
  funext i
  idx_vars i
  rw [v53_at]
  unfold Pipeline.afterTail₀
  after_reads_at
  exact (congrFun h _).trans (res12_at ..)

theorem arr10 (c : Dev nD) : (dats m 0 c).arrAt 10 cfg0.N
    = val_main_v50 (F := Ideal) (m (c.tc.loc main_arg0)) (m (c.tc.loc main_arg1)) (m (c.tc.loc main_arg2)) (m (c.tc.loc main_arg3)) := by
  rw [final10]
  funext i
  idx_vars i
  exact (res10_at ..).trans (v50_at ..).symm

theorem arr11 (c : Dev nD) : (dats m 0 c).arrAt 11 cfg0.N
    = val_main_v51 (F := Ideal) (m (c.tc.loc main_arg0)) (m (c.tc.loc main_arg1)) (m (c.tc.loc main_arg2)) (m (c.tc.loc main_arg3)) := by
  rw [final11]
  funext i
  idx_vars i
  exact (res11_at ..).trans (v51_at ..).symm

theorem arr13 (c : Dev nD) : (dats m 0 c).arrAt 13 cfg0.N
    = val_main_v54 (F := Ideal) (m (c.tc.loc main_arg0)) (m (c.tc.loc main_arg1)) (m (c.tc.loc main_arg2)) (m (c.tc.loc main_arg3)) := by
  rw [final13]
  funext i
  idx_vars i
  exact (res13_at ..).trans (v54_at ..).symm

theorem arr14 (c : Dev nD) : (dats m 0 c).arrAt 14 cfg0.N
    = val_main_v55 (F := Ideal) (m (c.tc.loc main_arg0)) (m (c.tc.loc main_arg1)) (m (c.tc.loc main_arg2)) (m (c.tc.loc main_arg3)) := by
  rw [final14]
  funext i
  idx_vars i
  exact (res14_at ..).trans (v55_at ..).symm

theorem arr15 (c : Dev nD) : (dats m 0 c).arrAt 15 cfg0.N
    = val_main_v56 (F := Ideal) (m (c.tc.loc main_arg0)) (m (c.tc.loc main_arg1)) (m (c.tc.loc main_arg2)) (m (c.tc.loc main_arg3)) := by
  rw [final15]
  funext i
  idx_vars i
  exact (res15_at ..).trans (v56_at ..).symm

/-- The kernel's run: each result is the reference's, of the same arguments, which are left as they were. -/
theorem run (ρ : Dev nD → PrngReg) : θ_run defs (onTc (τ := τ) (main (F := Ideal))) ⟨m, fun _ => 0, ρ⟩ fun r => ∀ c : Dev nD,
      r.2.mem (c.tc.loc main_v20) = val_main_v44 (F := Ideal) (m (c.tc.loc main_arg0)) (m (c.tc.loc main_arg1)) (m (c.tc.loc main_arg2)) (m (c.tc.loc main_arg3))
      ∧ r.2.mem (c.tc.loc main_v22) = val_main_v45 (F := Ideal) (m (c.tc.loc main_arg0)) (m (c.tc.loc main_arg1)) (m (c.tc.loc main_arg2)) (m (c.tc.loc main_arg3))
      ∧ r.2.mem (c.tc.loc main_v24) = val_main_v48 (F := Ideal) (m (c.tc.loc main_arg0)) (m (c.tc.loc main_arg1)) (m (c.tc.loc main_arg2)) (m (c.tc.loc main_arg3))
      ∧ r.2.mem (c.tc.loc main_v17_0) = val_main_v50 (F := Ideal) (m (c.tc.loc main_arg0)) (m (c.tc.loc main_arg1)) (m (c.tc.loc main_arg2)) (m (c.tc.loc main_arg3))
      ∧ r.2.mem (c.tc.loc main_v17_1) = val_main_v51 (F := Ideal) (m (c.tc.loc main_arg0)) (m (c.tc.loc main_arg1)) (m (c.tc.loc main_arg2)) (m (c.tc.loc main_arg3))
      ∧ r.2.mem (c.tc.loc main_v25) = val_main_v53 (F := Ideal) (m (c.tc.loc main_arg0)) (m (c.tc.loc main_arg1)) (m (c.tc.loc main_arg2)) (m (c.tc.loc main_arg3))
      ∧ r.2.mem (c.tc.loc main_v17_3) = val_main_v54 (F := Ideal) (m (c.tc.loc main_arg0)) (m (c.tc.loc main_arg1)) (m (c.tc.loc main_arg2)) (m (c.tc.loc main_arg3))
      ∧ r.2.mem (c.tc.loc main_v17_4) = val_main_v55 (F := Ideal) (m (c.tc.loc main_arg0)) (m (c.tc.loc main_arg1)) (m (c.tc.loc main_arg2)) (m (c.tc.loc main_arg3))
      ∧ r.2.mem (c.tc.loc main_v17_5) = val_main_v56 (F := Ideal) (m (c.tc.loc main_arg0)) (m (c.tc.loc main_arg1)) (m (c.tc.loc main_arg2)) (m (c.tc.loc main_arg3))
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3) :=
  (θ_run defs _ _).mono (fun r h c => ⟨((h c).2 main_v20 (Pipeline.mem_restRefs_of main_v20 (by decide) (by decide))).trans (tail20 m c),
      ((h c).2 main_v22 (Pipeline.mem_restRefs_of main_v22 (by decide) (by decide))).trans (tail22 m c),
      ((h c).2 main_v24 (Pipeline.mem_restRefs_of main_v24 (by decide) (by decide))).trans (tail24 m c),
      ((h c).1 10).trans (arr10 m c),
      ((h c).1 11).trans (arr11 m c),
      ((h c).2 main_v25 (Pipeline.mem_restRefs_of main_v25 (by decide) (by decide))).trans (tail25 m c),
      ((h c).1 13).trans (arr13 m c),
      ((h c).1 14).trans (arr14 m c),
      ((h c).1 15).trans (arr15 m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩) (run_main m ρ)

end Cert.Kernel2Ideal.In
-- ==== Proof.SmpValue.lean ====
module

public import proofs.«01_k».proof.Proof.Gen.Kernel4Ideal.Frame
public import Idealize.ShloMosaic.Lib.Pipeline.ValueKit
public import Idealize.ShloMosaic.Lib.Claim
public import Idealize.ShloMosaic.Lib.StableHlo.ReadAt
public import proofs.«01_k».proof.Proof.InSpec

@[expose] public section

set_option maxRecDepth 16384

noncomputable section

open Idealize.ShloMosaic Idealize.ShloMosaic.TcCoe Idealize.SL.Sem
open Idealize.ShloMosaic.Pipeline (Dat)

namespace Cert.Kernel4Ideal.Smp
open Cert.Kernel4Ideal Cert.Kernel4Ideal.Gen

variable (m : (ℓ : Loc nD τ sig) → Buf (Elt Ideal) ℓ)

/-- The modulation array: the rows of the conditioning after the first eight. -/
theorem V1 (c : Dev nD) (r : Fin 128) (k : Fin 6144) : V m c main_v1 (ix3 0 r k) = m (c.tc.loc main_arg1) (ix2 ⟨8 + r.val, by omega⟩ k) := by
  unfold V V0
  after_reads_at

/-- The activations, a row a sample. -/
theorem V15 (c : Dev nD) (r : Fin 128) (k : Fin 1024)  : V m c main_v15 (ix2 r k) = m (c.tc.loc main_arg0) (ix3 r 0 k) := by
  unfold V V0
  after_reads_at

/-- The gain, as one row. -/
theorem V16 (c : Dev nD) (k : Fin 1024)  : V m c main_v16 (ix2 0 k) = m (c.tc.loc main_arg2) (ix1 k) := by
  unfold V V0
  after_reads_at

/-- The weights of the attention columns. -/
theorem V9 (c : Dev nD) (r : Fin 1024) (k : Fin 768)  : V m c main_v9 (ix2 r k) = m (c.tc.loc main_arg3) (ix2 r ⟨k.val, by omega⟩) := by
  unfold V V0
  after_reads_at

/-- The weights of the convolution columns. -/
theorem V10 (c : Dev nD) (r : Fin 1024) (k : Fin 1536)  : V m c main_v10 (ix2 r k) = m (c.tc.loc main_arg3) (ix2 r ⟨768 + k.val, by omega⟩) := by
  unfold V V0
  after_reads_at

/-- The first eight of the padded small columns. -/
theorem V11 (c : Dev nD) (r : Fin 1024) (k : Fin 8)  : V m c main_v11 (ix2 r ⟨k.val, by omega⟩) = m (c.tc.loc main_arg3) (ix2 r ⟨2304 + k.val, by omega⟩) := by
  unfold V V0
  after_reads_at

/-- The weights of the z columns. -/
theorem V12 (c : Dev nD) (r : Fin 1024) (k : Fin 512)  : V m c main_v12 (ix2 r k) = m (c.tc.loc main_arg3) (ix2 r ⟨2312 + k.val, by omega⟩) := by
  unfold V V0
  after_reads_at

/-- The weights of the first gate. -/
theorem V13 (c : Dev nD) (r : Fin 1024) (k : Fin 1024)  : V m c main_v13 (ix2 r k) = m (c.tc.loc main_arg3) (ix2 r ⟨2824 + k.val, by omega⟩) := by
  unfold V V0
  after_reads_at

/-- The weights of the second gate. -/
theorem V14 (c : Dev nD) (r : Fin 1024) (k : Fin 1024)  : V m c main_v14 (ix2 r k) = m (c.tc.loc main_arg3) (ix2 r ⟨3848 + k.val, by omega⟩) := by
  unfold V V0
  after_reads_at

/-- Which block each window takes at the one grid point. -/
theorem idx : ∀ t : Fin cfg0.N, win0_0.index t = ![0, 0] ∧ win0_1.index t = ![0, 0, 0] ∧ win0_2.index t = ![0, 0, 1]
    ∧ win0_3.index t = ![0, 0] ∧ win0_4.index t = ![0, 0] ∧ win0_5.index t = ![0, 0] ∧ win0_6.index t = ![0, 0] ∧ win0_7.index t = ![0, 0]
    ∧ win0_8.index t = ![0, 0] ∧ win0_9.index t = ![0, 0]
    ∧ win0_10.index t = ![0, 0] ∧ win0_11.index t = ![0, 0] ∧ win0_12.index t = ![0, 0] ∧ win0_13.index t = ![0, 0]
    ∧ win0_14.index t = ![0, 0] ∧ win0_15.index t = ![0, 0] :=
  (by decide +kernel : ∀ t : Fin grid0.N, _)

/-- The activations, whole. -/
theorem x_blk (c : Dev nD) (t : Fin cfg0.N) (r : Fin 128) (k : Fin 1024) : iblk m c 0 t (ix2 r k) = V m c main_v15 (ix2 r k) := by
  unfold iblk
  generalize V m c main_v15 = W
  blk_ext [idx t]

/-- The shifts, a row a sample. -/
theorem sh_blk (c : Dev nD) (t : Fin cfg0.N) (r : Fin 128) (k : Fin 1024) :
    iblk m c 1 t (ix3 0 r k) = V m c main_v1 (ix3 0 r ⟨k.val, by omega⟩) := by
  unfold iblk
  generalize V m c main_v1 = W
  blk_ext [idx t]

/-- The scales, a row a sample. -/
theorem sc_blk (c : Dev nD) (t : Fin cfg0.N) (r : Fin 128) (k : Fin 1024) :
    iblk m c 2 t (ix3 0 r k) = V m c main_v1 (ix3 0 r ⟨1024 + k.val, by omega⟩) := by
  unfold iblk
  generalize V m c main_v1 = W
  blk_ext [idx t]

/-- The gain, whole. -/
theorem g_blk (c : Dev nD) (t : Fin cfg0.N) (k : Fin 1024) : iblk m c 3 t (ix2 0 k) = V m c main_v16 (ix2 0 k) := by
  unfold iblk
  generalize V m c main_v16 = W
  blk_ext [idx t]

theorem w4_blk (c : Dev nD) (t : Fin cfg0.N) (k : Fin 1024) (j : Fin 768) : iblk m c 4 t (ix2 k j) = V m c main_v9 (ix2 k j) := by
  unfold iblk
  generalize V m c main_v9 = W
  blk_ext [idx t]

theorem w5_blk (c : Dev nD) (t : Fin cfg0.N) (k : Fin 1024) (j : Fin 1536) : iblk m c 5 t (ix2 k j) = V m c main_v10 (ix2 k j) := by
  unfold iblk
  generalize V m c main_v10 = W
  blk_ext [idx t]

theorem w6_blk (c : Dev nD) (t : Fin cfg0.N) (k : Fin 1024) (j : Fin 128) : iblk m c 6 t (ix2 k j) = V m c main_v11 (ix2 k j) := by
  unfold iblk
  generalize V m c main_v11 = W
  blk_ext [idx t]

theorem w7_blk (c : Dev nD) (t : Fin cfg0.N) (k : Fin 1024) (j : Fin 512) : iblk m c 7 t (ix2 k j) = V m c main_v12 (ix2 k j) := by
  unfold iblk
  generalize V m c main_v12 = W
  blk_ext [idx t]

theorem w8_blk (c : Dev nD) (t : Fin cfg0.N) (k : Fin 1024) (j : Fin 1024) : iblk m c 8 t (ix2 k j) = V m c main_v13 (ix2 k j) := by
  unfold iblk
  generalize V m c main_v13 = W
  blk_ext [idx t]

theorem w9_blk (c : Dev nD) (t : Fin cfg0.N) (k : Fin 1024) (j : Fin 1024) : iblk m c 9 t (ix2 k j) = V m c main_v14 (ix2 k j) := by
  unfold iblk
  generalize V m c main_v14 = W
  blk_ext [idx t]

end Cert.Kernel4Ideal.Smp
-- ==== Proof.SmpFinal.lean ====
module

public import proofs.«01_k».proof.Proof.Gen.Kernel4Ideal.Frame
public import Idealize.ShloMosaic.Lib.Pipeline.ValueKit
public import Idealize.ShloMosaic.Lib.Claim
public import proofs.«01_k».proof.Proof.SmpValue

@[expose] public section

set_option maxRecDepth 16384

noncomputable section

open Idealize.ShloMosaic Idealize.ShloMosaic.TcCoe Idealize.SL.Sem
open Idealize.ShloMosaic.Pipeline (Dat)

namespace Cert.Kernel4Ideal.Smp
open Cert.Kernel4Ideal Cert.Kernel4Ideal.Gen

variable (m : (ℓ : Loc nD τ sig) → Buf (Elt Ideal) ℓ)
open Cert.InSpec

/-- A number of the modulated block. -/
theorem pay5_at (v0 : FVec Ideal S128x1024 .f32) (v2 : FVec Ideal S1x1024 .f32) (v16 v22 : FVec Ideal S1x128x1024 .f32) (r : Fin 128) (k : Fin 1024) :
    k0_pay5 (F := Ideal) v0 v2 v16 v22 (ix2 r k)
      = normed (fun j => v0 (ix2 r j)) (fun j => v2 (ix2 0 j)) (fun j => v16 (ix3 0 r j)) (fun j => v22 (ix3 0 r j)) k := by
  pointwise [k0_pay5, normed]

/-- A load of a whole array is the array. -/
theorem ld_x (x : FVec Ideal S128x1024 .f32) (r : Fin 128) (k : Fin 1024) : View.ld (Val := Elt Ideal) (e' := .f32) x r0_0 (ix2 r k) = x (ix2 r k) := by
  blk_ext [View.ld]
  all_goals simp
theorem ld_g (x : FVec Ideal S1x1024 .f32) (k : Fin 1024) : View.ld (Val := Elt Ideal) (e' := .f32) x r0_1 (ix2 0 k) = x (ix2 0 k) := by
  blk_ext [View.ld]
  all_goals simp
theorem ld_m (x : FVec Ideal S1x128x1024 .f32) (r : Fin 128) (k : Fin 1024) : View.ld (Val := Elt Ideal) (e' := .f32) x r0_2 (ix3 0 r k) = x (ix3 0 r k) := by
  blk_ext [View.ld]
  all_goals simp

/-- A row of the modulated activations, of the arguments. -/
def row (c : Dev nD) (r : Fin 128) (k : Fin 1024) : EReal :=
  normed (fun j => m (c.tc.loc main_arg0) (ix3 r 0 j)) (fun j => m (c.tc.loc main_arg2) (ix1 j))
    (fun j => m (c.tc.loc main_arg1) (ix2 ⟨8 + r.val, by omega⟩ ⟨1024 + j.val, by omega⟩))
    (fun j => m (c.tc.loc main_arg1) (ix2 ⟨8 + r.val, by omega⟩ ⟨j.val, by omega⟩)) k

/-- The modulated block is the rows of the arguments. -/
theorem row_at (c : Dev nD) (t : Fin cfg0.N) (r : Fin 128) (k : Fin 1024) :
    k0_pay5 (F := Ideal) (View.ld (iblk m c 0 t) r0_0) (View.ld (iblk m c 3 t) r0_1) (View.ld (iblk m c 2 t) r0_2) (View.ld (iblk m c 1 t) r0_2) (ix2 r k)
      = row m c r k := by
  rw [pay5_at]
  unfold row
  congr 1
  · funext j; exact (ld_x _ r j).trans ((x_blk m c t r j).trans (V15 m c _ j))
  · funext j; exact (ld_g _ j).trans ((g_blk m c t j).trans (V16 m c j))
  · funext j; exact (ld_m _ r j).trans ((sc_blk m c t r j).trans (V1 m c _ _))
  · funext j; exact (ld_m _ r j).trans ((sh_blk m c t r j).trans (V1 m c _ _))

theorem ld_w768 (x : FVec Ideal S1024x768 .bf16) (k : Fin 1024) (j : Fin 768) : View.ld (Val := Elt Ideal) (e' := .bf16) x r0_3 (ix2 k j) = x (ix2 k j) := by
  blk_ext [View.ld]
  all_goals simp

/-- A number of the block of result 0: a row of the modulated block against a column of the weights. -/
theorem dot10 (v0 : FVec Ideal S128x1024 .f32) (v2 : FVec Ideal S1x1024 .f32) (v16 v22 : FVec Ideal S1x128x1024 .f32) (w : FVec Ideal S1024x768 .bf16) (r : Fin 128) (j : Fin 768) :
    k0_pay6 (F := Ideal) v0 v2 v16 v22 w (ix2 r j) = ∑ k, (k0_pay5 (F := Ideal) v0 v2 v16 v22) (ix2 r k) * w (ix2 k j) := by
  unfold k0_pay6
  generalize k0_pay5 (F := Ideal) v0 v2 v16 v22 = h
  pointwise

/-- What result 0 is: the rows against its columns of the weights. -/
def res10 (c : Dev nD) (i : S128x768.Idx) : EReal :=
  ∑ k, row m c (i 0) k * V m c main_v9 (ix2 k (i 1))

theorem final10 (c : Dev nD) : (dats m 0 c).arrAt 10 cfg0.N = res10 m c := by
  refine (dats m 0 c).arrAt_eq_of_covers 10 _ (by decide +kernel) fun t hf y => ?_
  have e0 : ((((View.whole main_v17_0).slice (win0_10.rect t)).emb y) 0 : ℕ) = (y 0).val := by
    blk_simp [idx t]
  have e1 : ((((View.whole main_v17_0).slice (win0_10.rect t)).emb y) 1 : ℕ) = (y 1).val := by
    blk_simp [idx t]
  blk_simp
  rw [after0_10]
  unfold out0_10
  generalize hi : ((View.whole main_v17_0).slice (win0_10.rect t)).emb y = i at e0 e1 ⊢
  canon_tiles x h
  all_goals idx_vars x
  refine (dot10 ..).trans ?_
  unfold res10
  refine Finset.sum_congr rfl fun k _ => ?_
  refine congrArg₂ (· * ·) ((row_at m c t _ k).trans ?_) ((ld_w768 _ k _).trans ((w4_blk m c t k _).trans ?_))
  · exact congrArg (fun r => row m c r k) (Fin.ext (by rw [e0, h0]))
  · exact congrArg (fun j => V m c main_v9 (ix2 k j)) (Fin.ext (by rw [e1, h1]))

theorem ld_w1536 (x : FVec Ideal S1024x1536 .bf16) (k : Fin 1024) (j : Fin 1536) : View.ld (Val := Elt Ideal) (e' := .bf16) x r0_5 (ix2 k j) = x (ix2 k j) := by
  blk_ext [View.ld]
  all_goals simp

/-- A number of the block of result 1: a row of the modulated block against a column of the weights. -/
theorem dot11 (v0 : FVec Ideal S128x1024 .f32) (v2 : FVec Ideal S1x1024 .f32) (v16 v22 : FVec Ideal S1x128x1024 .f32) (w : FVec Ideal S1024x1536 .bf16) (r : Fin 128) (j : Fin 1536) :
    k0_pay7 (F := Ideal) v0 v2 v16 v22 w (ix2 r j) = ∑ k, (k0_pay5 (F := Ideal) v0 v2 v16 v22) (ix2 r k) * w (ix2 k j) := by
  unfold k0_pay7
  generalize k0_pay5 (F := Ideal) v0 v2 v16 v22 = h
  pointwise

/-- What result 1 is: the rows against its columns of the weights. -/
def res11 (c : Dev nD) (i : S128x1536.Idx) : EReal :=
  ∑ k, row m c (i 0) k * V m c main_v10 (ix2 k (i 1))

theorem final11 (c : Dev nD) : (dats m 0 c).arrAt 11 cfg0.N = res11 m c := by
  refine (dats m 0 c).arrAt_eq_of_covers 11 _ (by decide +kernel) fun t hf y => ?_
  have e0 : ((((View.whole main_v17_1).slice (win0_11.rect t)).emb y) 0 : ℕ) = (y 0).val := by
    blk_simp [idx t]
  have e1 : ((((View.whole main_v17_1).slice (win0_11.rect t)).emb y) 1 : ℕ) = (y 1).val := by
    blk_simp [idx t]
  blk_simp
  rw [after0_11]
  unfold out0_11
  generalize hi : ((View.whole main_v17_1).slice (win0_11.rect t)).emb y = i at e0 e1 ⊢
  canon_tiles x h
  all_goals idx_vars x
  refine (dot11 ..).trans ?_
  unfold res11
  refine Finset.sum_congr rfl fun k _ => ?_
  refine congrArg₂ (· * ·) ((row_at m c t _ k).trans ?_) ((ld_w1536 _ k _).trans ((w5_blk m c t k _).trans ?_))
  · exact congrArg (fun r => row m c r k) (Fin.ext (by rw [e0, h0]))
  · exact congrArg (fun j => V m c main_v10 (ix2 k j)) (Fin.ext (by rw [e1, h1]))

theorem ld_w128 (x : FVec Ideal S1024x128 .bf16) (k : Fin 1024) (j : Fin 128) : View.ld (Val := Elt Ideal) (e' := .bf16) x r0_7 (ix2 k j) = x (ix2 k j) := by
  blk_ext [View.ld]
  all_goals simp

/-- A number of the block of result 2: a row of the modulated block against a column of the weights. -/
theorem dot12 (h : FVec Ideal S128x1024 .bf16) (w : FVec Ideal S1024x128 .bf16) (r : Fin 128) (j : Fin 128) :
    k0_pay1 (F := Ideal) h w (ix2 r j) = ∑ k, h (ix2 r k) * w (ix2 k j) := by
  unfold k0_pay1
  skip
  pointwise

/-- What result 2 is: the rows against its columns of the weights. -/
def res12 (c : Dev nD) (i : S128x128.Idx) : EReal :=
  ∑ k, row m c (i 0) k * V m c main_v11 (ix2 k (i 1))

theorem final12 (c : Dev nD) : (dats m 0 c).arrAt 12 cfg0.N = res12 m c := by
  refine (dats m 0 c).arrAt_eq_of_covers 12 _ (by decide +kernel) fun t hf y => ?_
  have e0 : ((((View.whole main_v17_2).slice (win0_12.rect t)).emb y) 0 : ℕ) = (y 0).val := by
    blk_simp [idx t]
  have e1 : ((((View.whole main_v17_2).slice (win0_12.rect t)).emb y) 1 : ℕ) = (y 1).val := by
    blk_simp [idx t]
  blk_simp
  rw [after0_12]
  unfold out0_12
  generalize hi : ((View.whole main_v17_2).slice (win0_12.rect t)).emb y = i at e0 e1 ⊢
  canon_tiles x h
  all_goals idx_vars x
  refine (dot12 ..).trans ?_
  unfold res12
  refine Finset.sum_congr rfl fun k _ => ?_
  refine congrArg₂ (· * ·) ((row_at m c t _ k).trans ?_) ((ld_w128 _ k _).trans ((w6_blk m c t k _).trans ?_))
  · exact congrArg (fun r => row m c r k) (Fin.ext (by rw [e0, h0]))
  · exact congrArg (fun j => V m c main_v11 (ix2 k j)) (Fin.ext (by rw [e1, h1]))

theorem ld_w512 (x : FVec Ideal S1024x512 .bf16) (k : Fin 1024) (j : Fin 512) : View.ld (Val := Elt Ideal) (e' := .bf16) x r0_9 (ix2 k j) = x (ix2 k j) := by
  blk_ext [View.ld]
  all_goals simp

/-- A number of the block of result 3: a row of the modulated block against a column of the weights. -/
theorem dot13 (h : FVec Ideal S128x1024 .bf16) (w : FVec Ideal S1024x512 .bf16) (r : Fin 128) (j : Fin 512) :
    k0_pay2 (F := Ideal) h w (ix2 r j) = ∑ k, h (ix2 r k) * w (ix2 k j) := by
  unfold k0_pay2
  skip
  pointwise

/-- What result 3 is: the rows against its columns of the weights. -/
def res13 (c : Dev nD) (i : S128x512.Idx) : EReal :=
  ∑ k, row m c (i 0) k * V m c main_v12 (ix2 k (i 1))

theorem final13 (c : Dev nD) : (dats m 0 c).arrAt 13 cfg0.N = res13 m c := by
  refine (dats m 0 c).arrAt_eq_of_covers 13 _ (by decide +kernel) fun t hf y => ?_
  have e0 : ((((View.whole main_v17_3).slice (win0_13.rect t)).emb y) 0 : ℕ) = (y 0).val := by
    blk_simp [idx t]
  have e1 : ((((View.whole main_v17_3).slice (win0_13.rect t)).emb y) 1 : ℕ) = (y 1).val := by
    blk_simp [idx t]
  blk_simp
  rw [after0_13]
  unfold out0_13
  generalize hi : ((View.whole main_v17_3).slice (win0_13.rect t)).emb y = i at e0 e1 ⊢
  canon_tiles x h
  all_goals idx_vars x
  refine (dot13 ..).trans ?_
  unfold res13
  refine Finset.sum_congr rfl fun k _ => ?_
  refine congrArg₂ (· * ·) ((row_at m c t _ k).trans ?_) ((ld_w512 _ k _).trans ((w7_blk m c t k _).trans ?_))
  · exact congrArg (fun r => row m c r k) (Fin.ext (by rw [e0, h0]))
  · exact congrArg (fun j => V m c main_v12 (ix2 k j)) (Fin.ext (by rw [e1, h1]))

theorem ld_w1024 (x : FVec Ideal S1024x1024 .bf16) (k : Fin 1024) (j : Fin 1024) : View.ld (Val := Elt Ideal) (e' := .bf16) x r0_11 (ix2 k j) = x (ix2 k j) := by
  blk_ext [View.ld]
  all_goals simp

/-- A number of the block of result 4: a row of the modulated block against a column of the weights. -/
theorem dot14 (h : FVec Ideal S128x1024 .bf16) (w : FVec Ideal S1024x1024 .bf16) (r : Fin 128) (j : Fin 1024) :
    k0_pay3 (F := Ideal) h w (ix2 r j) = ∑ k, h (ix2 r k) * w (ix2 k j) := by
  unfold k0_pay3
  skip
  pointwise

/-- What result 4 is: the rows against its columns of the weights. -/
def res14 (c : Dev nD) (i : S128x1024.Idx) : EReal :=
  ∑ k, row m c (i 0) k * V m c main_v13 (ix2 k (i 1))

theorem final14 (c : Dev nD) : (dats m 0 c).arrAt 14 cfg0.N = res14 m c := by
  refine (dats m 0 c).arrAt_eq_of_covers 14 _ (by decide +kernel) fun t hf y => ?_
  have e0 : ((((View.whole main_v17_4).slice (win0_14.rect t)).emb y) 0 : ℕ) = (y 0).val := by
    blk_simp [idx t]
  have e1 : ((((View.whole main_v17_4).slice (win0_14.rect t)).emb y) 1 : ℕ) = (y 1).val := by
    blk_simp [idx t]
  blk_simp
  rw [after0_14]
  unfold out0_14
  generalize hi : ((View.whole main_v17_4).slice (win0_14.rect t)).emb y = i at e0 e1 ⊢
  canon_tiles x h
  all_goals idx_vars x
  refine (dot14 ..).trans ?_
  unfold res14
  refine Finset.sum_congr rfl fun k _ => ?_
  refine congrArg₂ (· * ·) ((row_at m c t _ k).trans ?_) ((ld_w1024 _ k _).trans ((w8_blk m c t k _).trans ?_))
  · exact congrArg (fun r => row m c r k) (Fin.ext (by rw [e0, h0]))
  · exact congrArg (fun j => V m c main_v13 (ix2 k j)) (Fin.ext (by rw [e1, h1]))

/-- A number of the block of result 5: a row of the modulated block against a column of the weights. -/
theorem dot15 (h : FVec Ideal S128x1024 .bf16) (w : FVec Ideal S1024x1024 .bf16) (r : Fin 128) (j : Fin 1024) :
    k0_pay4 (F := Ideal) h w (ix2 r j) = ∑ k, h (ix2 r k) * w (ix2 k j) := by
  unfold k0_pay4
  skip
  pointwise

/-- What result 5 is: the rows against its columns of the weights. -/
def res15 (c : Dev nD) (i : S128x1024.Idx) : EReal :=
  ∑ k, row m c (i 0) k * V m c main_v14 (ix2 k (i 1))

theorem final15 (c : Dev nD) : (dats m 0 c).arrAt 15 cfg0.N = res15 m c := by
  refine (dats m 0 c).arrAt_eq_of_covers 15 _ (by decide +kernel) fun t hf y => ?_
  have e0 : ((((View.whole main_v17_5).slice (win0_15.rect t)).emb y) 0 : ℕ) = (y 0).val := by
    blk_simp [idx t]
  have e1 : ((((View.whole main_v17_5).slice (win0_15.rect t)).emb y) 1 : ℕ) = (y 1).val := by
    blk_simp [idx t]
  blk_simp
  rw [after0_15]
  unfold out0_15
  generalize hi : ((View.whole main_v17_5).slice (win0_15.rect t)).emb y = i at e0 e1 ⊢
  canon_tiles x h
  all_goals idx_vars x
  refine (dot15 ..).trans ?_
  unfold res15
  refine Finset.sum_congr rfl fun k _ => ?_
  refine congrArg₂ (· * ·) ((row_at m c t _ k).trans ?_) ((ld_w1024 _ k _).trans ((w9_blk m c t k _).trans ?_))
  · exact congrArg (fun r => row m c r k) (Fin.ext (by rw [e0, h0]))
  · exact congrArg (fun j => V m c main_v14 (ix2 k j)) (Fin.ext (by rw [e1, h1]))

end Cert.Kernel4Ideal.Smp
-- ==== Proof.SmpRef.lean ====
module

public import proofs.«01_k».proof.Proof.Gen.Reference4Ideal.Read
public import Idealize.ShloMosaic.Lib.Pointwise
public import proofs.«01_k».proof.Proof.InSpec

@[expose] public section

set_option maxRecDepth 16384

noncomputable section

open Idealize.ShloMosaic Idealize.ShloMosaic.TcCoe Idealize.SL.Sem
namespace Cert.Reference4Ideal.Stage
open Cert.Reference4Ideal Cert.Reference4Ideal.Gen Cert.Reference4Ideal.Read

variable (X : FVec Ideal S128x1x1024 .f32) (A : FVec Ideal S136x6144 .f32) (g : FVec Ideal S1024 .f32) (w : FVec Ideal S1024x4872 .f32)
  (K : FVec Ideal S128x128x2x64 .f32) (C : FVec Ideal S128x3x1536 .f32)

/-- The reference's modulated row. -/
theorem normed_at (r : Fin 128) (k : Fin 1024) :
    val_main_v29 (F := Ideal) X A g (ix3 r 0 k)
      = Cert.InSpec.normed (fun j => X (ix3 r 0 j)) (fun j => g (ix1 j)) (fun j => A (ix2 ⟨8 + r.val, by omega⟩ ⟨1024 + j.val, by omega⟩))
          (fun j => A (ix2 ⟨8 + r.val, by omega⟩ ⟨j.val, by omega⟩)) k := by
  pointwise [val_main_v29, val_main_v28, val_main_v27, val_main_v26, val_main_v25, val_main_v24, val_main_v23, val_main_v22, val_main_v21, val_main_v20, val_main_v19, val_main_v18, val_main_v17, val_main_v16, val_main_v15, val_main_v14, val_main_v13, val_main_v8, val_main_v7, val_main_v2, val_main_v1, val_main_v0, val_main_cst, val_main_cst_0, val_main_cst_1, val_main_cst_2, Cert.InSpec.normed]

/-- The reference's projection: a row against a column of the weights. -/
theorem proj_at (r : Fin 128) (j : Fin 4872) :
    val_main_v30 (F := Ideal) X A g w (ix3 r 0 j) = ∑ k, val_main_v29 (F := Ideal) X A g (ix3 r 0 k) * w (ix2 k j) := by
  unfold val_main_v30
  generalize val_main_v29 (F := Ideal) X A g = h
  pointwise

theorem v49_at (r : Fin 128) (j : Fin 768) : val_main_v49 (F := Ideal) X A g w (ix2 r j)
    = val_main_v30 (F := Ideal) X A g w (ix3 r 0 ⟨0 + j.val, by omega⟩) := by
  unfold val_main_v49 val_main_v48 val_main_v31 val_main_v32 val_main_v33
  generalize val_main_v30 (F := Ideal) X A g w = y
  pointwise
  repeat' split
  all_goals exact congrArg (fun k => y (ix3 _ _ k)) (Fin.ext (by dsimp only <;> omega))

theorem v50_at (r : Fin 128) (j : Fin 1536) : val_main_v50 (F := Ideal) X A g w (ix2 r j)
    = val_main_v30 (F := Ideal) X A g w (ix3 r 0 ⟨768 + j.val, by omega⟩) := by
  unfold val_main_v50 val_main_v34
  generalize val_main_v30 (F := Ideal) X A g w = y
  pointwise

theorem v52_at (r : Fin 128) (j : Fin 8) : val_main_v52 (F := Ideal) X A g w (ix2 r j)
    = val_main_v30 (F := Ideal) X A g w (ix3 r 0 ⟨2304 + j.val, by omega⟩) := by
  unfold val_main_v52 val_main_v51 val_main_v35 val_main_v36
  generalize val_main_v30 (F := Ideal) X A g w = y
  pointwise
  repeat' split
  all_goals exact congrArg (fun k => y (ix3 _ _ k)) (Fin.ext (by dsimp only <;> omega))

theorem v53_at (r : Fin 128) (j : Fin 512) : val_main_v53 (F := Ideal) X A g w (ix2 r j)
    = val_main_v30 (F := Ideal) X A g w (ix3 r 0 ⟨2312 + j.val, by omega⟩) := by
  unfold val_main_v53 val_main_v37
  generalize val_main_v30 (F := Ideal) X A g w = y
  pointwise

theorem v54_at (r : Fin 128) (j : Fin 1024) : val_main_v54 (F := Ideal) X A g w (ix2 r j)
    = val_main_v30 (F := Ideal) X A g w (ix3 r 0 ⟨2824 + j.val, by omega⟩) := by
  unfold val_main_v54 val_main_v38
  generalize val_main_v30 (F := Ideal) X A g w = y
  pointwise

theorem v55_at (r : Fin 128) (j : Fin 1024) : val_main_v55 (F := Ideal) X A g w (ix2 r j)
    = val_main_v30 (F := Ideal) X A g w (ix3 r 0 ⟨3848 + j.val, by omega⟩) := by
  unfold val_main_v55 val_main_v39
  generalize val_main_v30 (F := Ideal) X A g w = y
  pointwise

theorem v44_at (b : Fin 128) (r : Fin 128) (h : Fin 2) (e : Fin 64) : val_main_v44 (F := Ideal) X A g w K (ix4 b r h e)
    = if hr : r.val < 127 then K (ix4 b ⟨1 + r.val, by omega⟩ h e)
      else val_main_v30 (F := Ideal) X A g w (ix3 b 0 ⟨512 + (h.val * 64 + e.val), by omega⟩) := by
  unfold val_main_v44 val_main_v42 val_main_v40 val_main_v32
  generalize val_main_v30 (F := Ideal) X A g w = y
  pointwise
  split <;> split <;> first | rfl | omega

theorem v45_at (b : Fin 128) (r : Fin 128) (h : Fin 2) (e : Fin 64) : val_main_v45 (F := Ideal) X A g w K (ix4 b r h e)
    = if hr : r.val < 127 then K (ix4 b ⟨1 + r.val, by omega⟩ h e)
      else val_main_v30 (F := Ideal) X A g w (ix3 b 0 ⟨640 + (h.val * 64 + e.val), by omega⟩) := by
  unfold val_main_v45 val_main_v43 val_main_v41 val_main_v33
  generalize val_main_v30 (F := Ideal) X A g w = y
  pointwise
  split <;> split <;> first | rfl | omega

theorem v47_at (b : Fin 128) (r : Fin 3) (j : Fin 1536) : val_main_v47 (F := Ideal) X A g w C (ix3 b r j)
    = if hr : r.val < 2 then C (ix3 b ⟨1 + r.val, by omega⟩ j)
      else val_main_v30 (F := Ideal) X A g w (ix3 b 0 ⟨768 + j.val, by omega⟩) := by
  unfold val_main_v47 val_main_v46 val_main_v34
  generalize val_main_v30 (F := Ideal) X A g w = y
  pointwise
  split <;> split
  · rfl
  · omega
  · omega
  · exact congrArg (fun k => y (ix3 b k _)) (Subsingleton.elim _ _)

end Cert.Reference4Ideal.Stage
-- ==== Proof.SmpJoin.lean ====
module

public import proofs.«01_k».proof.Proof.Gen.Kernel4Ideal.Frame
public import Idealize.ShloMosaic.Lib.Pipeline.ValueKit
public import Idealize.ShloMosaic.Lib.Claim
public import proofs.«01_k».proof.Proof.SmpFinal
public import proofs.«01_k».proof.Proof.SmpRef
public import Idealize.ShloMosaic.Lib.StableHlo.ReadAt

@[expose] public section

set_option maxRecDepth 16384

noncomputable section

open Idealize.ShloMosaic Idealize.ShloMosaic.TcCoe Idealize.SL.Sem
open Idealize.ShloMosaic.Pipeline (Dat)

namespace Cert.Kernel4Ideal.Smp
open Cert.Kernel4Ideal Cert.Kernel4Ideal.Gen

open Cert.InSpec Cert.Reference4Ideal.Read Cert.Reference4Ideal.Stage

variable (m : (ℓ : Loc nD τ sig) → Buf (Elt Ideal) ℓ)

/-- The rows against a column of the whole weights are the reference's projection. -/
theorem proj_eq (c : Dev nD) (r : Fin 128) (j : Fin 4872) :
    ∑ k, row m c r k * m (c.tc.loc main_arg3) (ix2 k j)
      = val_main_v30 (F := Ideal) (m (c.tc.loc main_arg0)) (m (c.tc.loc main_arg1)) (m (c.tc.loc main_arg2)) (m (c.tc.loc main_arg3)) (ix3 r 0 j) := by
  rw [proj_at]
  exact Finset.sum_congr rfl fun k _ => congrArg (· * _) (normed_at (m (c.tc.loc main_arg0)) (m (c.tc.loc main_arg1)) (m (c.tc.loc main_arg2)) r k).symm

/-- A number of result 0. -/
theorem res10_at (c : Dev nD) (r : Fin 128) (j : Fin 768) : res10 m c (ix2 r j)
    = val_main_v30 (F := Ideal) (m (c.tc.loc main_arg0)) (m (c.tc.loc main_arg1)) (m (c.tc.loc main_arg2)) (m (c.tc.loc main_arg3)) (ix3 r 0 ⟨0 + j.val, by omega⟩) := by
  rw [← proj_eq]
  refine Finset.sum_congr rfl fun k _ => congrArg (row m c _ k * ·) ((V9 m c k j).trans ?_)
  exact congrArg (fun q => m (c.tc.loc main_arg3) (ix2 k q)) (Fin.ext (Nat.zero_add _).symm)

/-- A number of result 1. -/
theorem res11_at (c : Dev nD) (r : Fin 128) (j : Fin 1536) : res11 m c (ix2 r j)
    = val_main_v30 (F := Ideal) (m (c.tc.loc main_arg0)) (m (c.tc.loc main_arg1)) (m (c.tc.loc main_arg2)) (m (c.tc.loc main_arg3)) (ix3 r 0 ⟨768 + j.val, by omega⟩) := by
  rw [← proj_eq]
  refine Finset.sum_congr rfl fun k _ => congrArg (row m c _ k * ·) ((V10 m c k j).trans ?_)
  rfl

/-- A number of result 2. -/
theorem res12_at (c : Dev nD) (r : Fin 128) (j : Fin 8) : res12 m c (ix2 r ⟨j.val, by omega⟩)
    = val_main_v30 (F := Ideal) (m (c.tc.loc main_arg0)) (m (c.tc.loc main_arg1)) (m (c.tc.loc main_arg2)) (m (c.tc.loc main_arg3)) (ix3 r 0 ⟨2304 + j.val, by omega⟩) := by
  rw [← proj_eq]
  refine Finset.sum_congr rfl fun k _ => congrArg (row m c _ k * ·) ((V11 m c k j).trans ?_)
  rfl

/-- A number of result 3. -/
theorem res13_at (c : Dev nD) (r : Fin 128) (j : Fin 512) : res13 m c (ix2 r j)
    = val_main_v30 (F := Ideal) (m (c.tc.loc main_arg0)) (m (c.tc.loc main_arg1)) (m (c.tc.loc main_arg2)) (m (c.tc.loc main_arg3)) (ix3 r 0 ⟨2312 + j.val, by omega⟩) := by
  rw [← proj_eq]
  refine Finset.sum_congr rfl fun k _ => congrArg (row m c _ k * ·) ((V12 m c k j).trans ?_)
  rfl

/-- A number of result 4. -/
theorem res14_at (c : Dev nD) (r : Fin 128) (j : Fin 1024) : res14 m c (ix2 r j)
    = val_main_v30 (F := Ideal) (m (c.tc.loc main_arg0)) (m (c.tc.loc main_arg1)) (m (c.tc.loc main_arg2)) (m (c.tc.loc main_arg3)) (ix3 r 0 ⟨2824 + j.val, by omega⟩) := by
  rw [← proj_eq]
  refine Finset.sum_congr rfl fun k _ => congrArg (row m c _ k * ·) ((V13 m c k j).trans ?_)
  rfl

/-- A number of result 5. -/
theorem res15_at (c : Dev nD) (r : Fin 128) (j : Fin 1024) : res15 m c (ix2 r j)
    = val_main_v30 (F := Ideal) (m (c.tc.loc main_arg0)) (m (c.tc.loc main_arg1)) (m (c.tc.loc main_arg2)) (m (c.tc.loc main_arg3)) (ix3 r 0 ⟨3848 + j.val, by omega⟩) := by
  rw [← proj_eq]
  refine Finset.sum_congr rfl fun k _ => congrArg (row m c _ k * ·) ((V14 m c k j).trans ?_)
  rfl

/-- The new keys, of whatever the host lines after the kernel find: the cache moved by one, and the new row behind it. -/
theorem host23 (W : Valuation τ sig (Elt Ideal)) (b : Fin 128) (r : Fin 128) (h : Fin 2) (e : Fin 64) :
    StableHlo.after [hostOps1].flatten W (Proc.devRef .tc main_v23) (ix4 b r h e)
      = if hr : r.val < 127 then W (Proc.devRef .tc main_arg4) (ix4 b ⟨1 + r.val, by omega⟩ h e)
        else W (Proc.devRef .tc main_v17_0) (ix2 b ⟨512 + (h.val * 64 + e.val), by omega⟩) := by
  after_reads_at

/-- The new values likewise. -/
theorem host25 (W : Valuation τ sig (Elt Ideal)) (b : Fin 128) (r : Fin 128) (h : Fin 2) (e : Fin 64) :
    StableHlo.after [hostOps1].flatten W (Proc.devRef .tc main_v25) (ix4 b r h e)
      = if hr : r.val < 127 then W (Proc.devRef .tc main_arg5) (ix4 b ⟨1 + r.val, by omega⟩ h e)
        else W (Proc.devRef .tc main_v17_0) (ix2 b ⟨640 + (h.val * 64 + e.val), by omega⟩) := by
  after_reads_at

/-- The new convolution rows likewise. -/
theorem host28 (W : Valuation τ sig (Elt Ideal)) (b : Fin 128) (r : Fin 3) (j : Fin 1536) :
    StableHlo.after [hostOps1].flatten W (Proc.devRef .tc main_v28) (ix3 b r j)
      = if hr : r.val < 2 then W (Proc.devRef .tc main_arg6) (ix3 b ⟨1 + r.val, by omega⟩ j)
        else W (Proc.devRef .tc main_v17_1) (ix2 b j) := by
  after_reads_at

/-- What the host lines after the kernel leave in its result. -/
theorem tail23 (c : Dev nD) : Pipeline.afterTail₀ cfgs (dats m) 0 (V0 m) [hostOps1] c main_v23
    = val_main_v44 (F := Ideal) (m (c.tc.loc main_arg0)) (m (c.tc.loc main_arg1)) (m (c.tc.loc main_arg2)) (m (c.tc.loc main_arg3)) (m (c.tc.loc main_arg4)) := by
  have h : Pipeline.withArrays spec0 c (V0 m c) (fun w => (dats m 0 c).arrAt w cfg0.N) (Proc.devRef .tc main_v17_0) = res10 m c :=
    (Pipeline.Dat.withArrays_arrAt (dats m 0 c) sharedIn0 (V0 m c) (A_eq m c) 10).trans (final10 m c)
  have hc : Pipeline.withArrays spec0 c (V0 m c) (fun w => (dats m 0 c).arrAt w cfg0.N) (Proc.devRef .tc main_arg4) = m (c.tc.loc main_arg4) :=
    (Pipeline.withArrays_of_ne _ c (V0 m c) _ main_arg4 (by exact (by decide : ∀ w, Pipeline.arrRef spec0 w ≠ main_arg4))).trans (V_main_arg4 m c)
  funext i
  idx_vars i
  rw [v44_at]
  unfold Pipeline.afterTail₀
  refine (host23 ..).trans ?_
  split
  · exact congrFun hc _
  · refine (congrFun h _).trans ((res10_at ..).trans ?_)
    simp only [Nat.zero_add]

/-- What the host lines after the kernel leave in its result. -/
theorem tail25 (c : Dev nD) : Pipeline.afterTail₀ cfgs (dats m) 0 (V0 m) [hostOps1] c main_v25
    = val_main_v45 (F := Ideal) (m (c.tc.loc main_arg0)) (m (c.tc.loc main_arg1)) (m (c.tc.loc main_arg2)) (m (c.tc.loc main_arg3)) (m (c.tc.loc main_arg5)) := by
  have h : Pipeline.withArrays spec0 c (V0 m c) (fun w => (dats m 0 c).arrAt w cfg0.N) (Proc.devRef .tc main_v17_0) = res10 m c :=
    (Pipeline.Dat.withArrays_arrAt (dats m 0 c) sharedIn0 (V0 m c) (A_eq m c) 10).trans (final10 m c)
  have hc : Pipeline.withArrays spec0 c (V0 m c) (fun w => (dats m 0 c).arrAt w cfg0.N) (Proc.devRef .tc main_arg5) = m (c.tc.loc main_arg5) :=
    (Pipeline.withArrays_of_ne _ c (V0 m c) _ main_arg5 (by exact (by decide : ∀ w, Pipeline.arrRef spec0 w ≠ main_arg5))).trans (V_main_arg5 m c)
  funext i
  idx_vars i
  rw [v45_at]
  unfold Pipeline.afterTail₀
  refine (host25 ..).trans ?_
  split
  · exact congrFun hc _
  · refine (congrFun h _).trans ((res10_at ..).trans ?_)
    simp only [Nat.zero_add]

/-- What the host lines after the kernel leave in its result. -/
theorem tail28 (c : Dev nD) : Pipeline.afterTail₀ cfgs (dats m) 0 (V0 m) [hostOps1] c main_v28
    = val_main_v47 (F := Ideal) (m (c.tc.loc main_arg0)) (m (c.tc.loc main_arg1)) (m (c.tc.loc main_arg2)) (m (c.tc.loc main_arg3)) (m (c.tc.loc main_arg6)) := by
  have h : Pipeline.withArrays spec0 c (V0 m c) (fun w => (dats m 0 c).arrAt w cfg0.N) (Proc.devRef .tc main_v17_1) = res11 m c :=
    (Pipeline.Dat.withArrays_arrAt (dats m 0 c) sharedIn0 (V0 m c) (A_eq m c) 11).trans (final11 m c)
  have hc : Pipeline.withArrays spec0 c (V0 m c) (fun w => (dats m 0 c).arrAt w cfg0.N) (Proc.devRef .tc main_arg6) = m (c.tc.loc main_arg6) :=
    (Pipeline.withArrays_of_ne _ c (V0 m c) _ main_arg6 (by exact (by decide : ∀ w, Pipeline.arrRef spec0 w ≠ main_arg6))).trans (V_main_arg6 m c)
  funext i
  idx_vars i
  rw [v47_at]
  unfold Pipeline.afterTail₀
  refine (host28 ..).trans ?_
  split
  · exact congrFun hc _
  · exact (congrFun h _).trans (res11_at ..)

/-- What the host lines after the kernel leave in its result. -/
theorem tail29 (c : Dev nD) : Pipeline.afterTail₀ cfgs (dats m) 0 (V0 m) [hostOps1] c main_v29
    = val_main_v52 (F := Ideal) (m (c.tc.loc main_arg0)) (m (c.tc.loc main_arg1)) (m (c.tc.loc main_arg2)) (m (c.tc.loc main_arg3)) := by
  have h : Pipeline.withArrays spec0 c (V0 m c) (fun w => (dats m 0 c).arrAt w cfg0.N) (Proc.devRef .tc main_v17_2) = res12 m c :=
    (Pipeline.Dat.withArrays_arrAt (dats m 0 c) sharedIn0 (V0 m c) (A_eq m c) 12).trans (final12 m c)
  funext i
  idx_vars i
  rw [v52_at]
  unfold Pipeline.afterTail₀
  after_reads_at
  exact (congrFun h _).trans (res12_at ..)

theorem arr10 (c : Dev nD) : (dats m 0 c).arrAt 10 cfg0.N
    = val_main_v49 (F := Ideal) (m (c.tc.loc main_arg0)) (m (c.tc.loc main_arg1)) (m (c.tc.loc main_arg2)) (m (c.tc.loc main_arg3)) := by
  rw [final10]
  funext i
  idx_vars i
  exact (res10_at ..).trans (v49_at ..).symm

theorem arr11 (c : Dev nD) : (dats m 0 c).arrAt 11 cfg0.N
    = val_main_v50 (F := Ideal) (m (c.tc.loc main_arg0)) (m (c.tc.loc main_arg1)) (m (c.tc.loc main_arg2)) (m (c.tc.loc main_arg3)) := by
  rw [final11]
  funext i
  idx_vars i
  exact (res11_at ..).trans (v50_at ..).symm

theorem arr13 (c : Dev nD) : (dats m 0 c).arrAt 13 cfg0.N
    = val_main_v53 (F := Ideal) (m (c.tc.loc main_arg0)) (m (c.tc.loc main_arg1)) (m (c.tc.loc main_arg2)) (m (c.tc.loc main_arg3)) := by
  rw [final13]
  funext i
  idx_vars i
  exact (res13_at ..).trans (v53_at ..).symm

theorem arr14 (c : Dev nD) : (dats m 0 c).arrAt 14 cfg0.N
    = val_main_v54 (F := Ideal) (m (c.tc.loc main_arg0)) (m (c.tc.loc main_arg1)) (m (c.tc.loc main_arg2)) (m (c.tc.loc main_arg3)) := by
  rw [final14]
  funext i
  idx_vars i
  exact (res14_at ..).trans (v54_at ..).symm

theorem arr15 (c : Dev nD) : (dats m 0 c).arrAt 15 cfg0.N
    = val_main_v55 (F := Ideal) (m (c.tc.loc main_arg0)) (m (c.tc.loc main_arg1)) (m (c.tc.loc main_arg2)) (m (c.tc.loc main_arg3)) := by
  rw [final15]
  funext i
  idx_vars i
  exact (res15_at ..).trans (v55_at ..).symm

/-- The kernel's run: each result is the reference's, of the same arguments, which are left as they were. -/
theorem run (ρ : Dev nD → PrngReg) : θ_run defs (onTc (τ := τ) (main (F := Ideal))) ⟨m, fun _ => 0, ρ⟩ fun r => ∀ c : Dev nD,
      r.2.mem (c.tc.loc main_v23) = val_main_v44 (F := Ideal) (m (c.tc.loc main_arg0)) (m (c.tc.loc main_arg1)) (m (c.tc.loc main_arg2)) (m (c.tc.loc main_arg3)) (m (c.tc.loc main_arg4))
      ∧ r.2.mem (c.tc.loc main_v25) = val_main_v45 (F := Ideal) (m (c.tc.loc main_arg0)) (m (c.tc.loc main_arg1)) (m (c.tc.loc main_arg2)) (m (c.tc.loc main_arg3)) (m (c.tc.loc main_arg5))
      ∧ r.2.mem (c.tc.loc main_v28) = val_main_v47 (F := Ideal) (m (c.tc.loc main_arg0)) (m (c.tc.loc main_arg1)) (m (c.tc.loc main_arg2)) (m (c.tc.loc main_arg3)) (m (c.tc.loc main_arg6))
      ∧ r.2.mem (c.tc.loc main_v17_0) = val_main_v49 (F := Ideal) (m (c.tc.loc main_arg0)) (m (c.tc.loc main_arg1)) (m (c.tc.loc main_arg2)) (m (c.tc.loc main_arg3))
      ∧ r.2.mem (c.tc.loc main_v17_1) = val_main_v50 (F := Ideal) (m (c.tc.loc main_arg0)) (m (c.tc.loc main_arg1)) (m (c.tc.loc main_arg2)) (m (c.tc.loc main_arg3))
      ∧ r.2.mem (c.tc.loc main_v29) = val_main_v52 (F := Ideal) (m (c.tc.loc main_arg0)) (m (c.tc.loc main_arg1)) (m (c.tc.loc main_arg2)) (m (c.tc.loc main_arg3))
      ∧ r.2.mem (c.tc.loc main_v17_3) = val_main_v53 (F := Ideal) (m (c.tc.loc main_arg0)) (m (c.tc.loc main_arg1)) (m (c.tc.loc main_arg2)) (m (c.tc.loc main_arg3))
      ∧ r.2.mem (c.tc.loc main_v17_4) = val_main_v54 (F := Ideal) (m (c.tc.loc main_arg0)) (m (c.tc.loc main_arg1)) (m (c.tc.loc main_arg2)) (m (c.tc.loc main_arg3))
      ∧ r.2.mem (c.tc.loc main_v17_5) = val_main_v55 (F := Ideal) (m (c.tc.loc main_arg0)) (m (c.tc.loc main_arg1)) (m (c.tc.loc main_arg2)) (m (c.tc.loc main_arg3))
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3)
      ∧ r.2.mem (c.tc.loc main_arg4) = m (c.tc.loc main_arg4)
      ∧ r.2.mem (c.tc.loc main_arg5) = m (c.tc.loc main_arg5)
      ∧ r.2.mem (c.tc.loc main_arg6) = m (c.tc.loc main_arg6) :=
  (θ_run defs _ _).mono (fun r h c => ⟨((h c).2 main_v23 (Pipeline.mem_restRefs_of main_v23 (by decide) (by decide))).trans (tail23 m c),
      ((h c).2 main_v25 (Pipeline.mem_restRefs_of main_v25 (by decide) (by decide))).trans (tail25 m c),
      ((h c).2 main_v28 (Pipeline.mem_restRefs_of main_v28 (by decide) (by decide))).trans (tail28 m c),
      ((h c).1 10).trans (arr10 m c),
      ((h c).1 11).trans (arr11 m c),
      ((h c).2 main_v29 (Pipeline.mem_restRefs_of main_v29 (by decide) (by decide))).trans (tail29 m c),
      ((h c).1 13).trans (arr13 m c),
      ((h c).1 14).trans (arr14 m c),
      ((h c).1 15).trans (arr15 m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c)⟩) (run_main m ρ)

end Cert.Kernel4Ideal.Smp
-- ==== Proof.AdaRef.lean ====
module

public import proofs.«01_k».proof.Proof.Gen.Reference5Ideal.Read
public import Idealize.ShloMosaic.Lib.Pointwise

@[expose] public section

set_option maxRecDepth 16384

noncomputable section

open Idealize.ShloMosaic Idealize.ShloMosaic.TcCoe Idealize.SL.Sem

namespace Cert.AdaSpec

/-- One number of the conditioning's projection: the row, each number times its own logistic, against a column of weights, plus the bias. -/
def lin (x w : Fin 1024 → EReal) (b : EReal) : EReal := ∑ k, x k * Ideal.logistic (x k) * w k + b

end Cert.AdaSpec

namespace Cert.Reference5Ideal.Stage
open Cert.Reference5Ideal Cert.Reference5Ideal.Gen Cert.Reference5Ideal.Read

variable (p : FVec Ideal S8x1024 .f32) (s : FVec Ideal S128x1024 .f32) (w : FVec Ideal S1024x6144 .f32) (b : FVec Ideal S6144 .f32)

/-- A number of the first activated array. -/
theorem act0_at (r : Fin 8) (k : Fin 1024) : val_main_v0 (F := Ideal) p (ix2 r k) = p (ix2 r k) * Ideal.logistic (p (ix2 r k)) := by
  pointwise [val_main_v0, val_main_call0_v5, val_main_call0_v4, val_main_call0_cst_0, val_main_call0_v3, val_main_call0_v2, val_main_call0_cst, val_main_call0_v1, val_main_call0_v0, Ideal.logistic]

/-- A number of the second activated array. -/
theorem act1_at (r : Fin 128) (k : Fin 1024) : val_main_v5 (F := Ideal) s (ix2 r k) = s (ix2 r k) * Ideal.logistic (s (ix2 r k)) := by
  pointwise [val_main_v5, val_main_call1_v5, val_main_call1_v4, val_main_call1_cst_0, val_main_call1_v3, val_main_call1_v2, val_main_call1_cst, val_main_call1_v1, val_main_call1_v0, Ideal.logistic]

/-- A number of the first result. -/
theorem v4_at (r : Fin 8) (j : Fin 6144) :
    val_main_v4 (F := Ideal) p w b (ix2 r j) = Cert.AdaSpec.lin (fun k => p (ix2 r k)) (fun k => w (ix2 k j)) (b (ix1 j)) := by
  have h : val_main_v4 (F := Ideal) p w b (ix2 r j) = ∑ k, val_main_v0 (F := Ideal) p (ix2 r k) * w (ix2 k j) + b (ix1 j) := by
    unfold val_main_v4 val_main_v1
    generalize val_main_v0 (F := Ideal) p = y
    pointwise [val_main_v3, val_main_v2]
  rw [h]
  unfold Cert.AdaSpec.lin
  exact congrArg (· + _) (Finset.sum_congr rfl fun k _ => congrArg (· * _) (act0_at p r k))

/-- A number of the second result. -/
theorem v9_at (r : Fin 128) (j : Fin 6144) :
    val_main_v9 (F := Ideal) s w b (ix2 r j) = Cert.AdaSpec.lin (fun k => s (ix2 r k)) (fun k => w (ix2 k j)) (b (ix1 j)) := by
  have h : val_main_v9 (F := Ideal) s w b (ix2 r j) = ∑ k, val_main_v5 (F := Ideal) s (ix2 r k) * w (ix2 k j) + b (ix1 j) := by
    unfold val_main_v9 val_main_v6
    generalize val_main_v5 (F := Ideal) s = y
    pointwise [val_main_v8, val_main_v7]
  rw [h]
  unfold Cert.AdaSpec.lin
  exact congrArg (· + _) (Finset.sum_congr rfl fun k _ => congrArg (· * _) (act1_at s r k))

end Cert.Reference5Ideal.Stage
-- ==== Proof.AdaFinal.lean ====
module

public import proofs.«01_k».proof.Proof.Gen.Kernel5Ideal.Frame
public import Idealize.ShloMosaic.Lib.Pipeline.ValueKit
public import Idealize.ShloMosaic.Lib.Claim
public import Idealize.ShloMosaic.Lib.StableHlo.ReadAt
public import proofs.«01_k».proof.Proof.AdaRef

@[expose] public section

set_option maxRecDepth 16384

noncomputable section

open Idealize.ShloMosaic Idealize.ShloMosaic.TcCoe Idealize.SL.Sem
open Idealize.ShloMosaic.Pipeline (Dat)

namespace Cert.Kernel5Ideal.Ada
open Cert.Kernel5Ideal Cert.Kernel5Ideal.Gen

variable (m : (ℓ : Loc nD τ sig) → Buf (Elt Ideal) ℓ)

/-- The two conditionings, one above the other. -/
theorem V0at (c : Dev nD) (r : Fin 136) (k : Fin 1024) : V m c main_v0 (ix2 r k)
    = if h : r.val < 8 then m (c.tc.loc main_arg0) (ix2 ⟨r.val, h⟩ k) else m (c.tc.loc main_arg1) (ix2 ⟨r.val - 8, by omega⟩ k) := by
  unfold V V0
  after_reads_at

/-- The bias, as one row. -/
theorem V1at (c : Dev nD) (k : Fin 6144) : V m c main_v1 (ix2 0 k) = m (c.tc.loc main_arg3) (ix1 k) := by
  unfold V V0
  after_reads_at

/-- Which block each window takes at a grid point. -/
theorem idx : ∀ t : Fin cfg0.N, win0_0.index t = ![0, 0] ∧ win0_1.index t = ![0, t.val] ∧ win0_2.index t = ![0, t.val]
    ∧ win0_3.index t = ![0, t.val] :=
  (by decide +kernel : ∀ t : Fin grid0.N, _)

/-- The conditionings, whole. -/
theorem x_blk (c : Dev nD) (t : Fin cfg0.N) (r : Fin 136) (k : Fin 1024) : iblk m c 0 t (ix2 r k) = V m c main_v0 (ix2 r k) := by
  unfold iblk
  generalize V m c main_v0 = W
  blk_ext [idx t]

theorem t_lt (t : Fin cfg0.N) : t.val < 12 := lt_of_lt_of_eq t.isLt (by decide)

/-- A grid point's columns of the weights. -/
theorem w_blk (c : Dev nD) (t : Fin cfg0.N) (k : Fin 1024) (j : Fin 512) : iblk m c 1 t (ix2 k j)
    = V m c main_arg2 (ix2 k ⟨512 * t.val + j.val, by have := t_lt t; omega⟩) := by
  unfold iblk
  generalize V m c main_arg2 = W
  have := t_lt t
  blk_ext [idx t]
  all_goals omega

/-- A grid point's columns of the bias. -/
theorem b_blk (c : Dev nD) (t : Fin cfg0.N) (j : Fin 512) : iblk m c 2 t (ix2 0 j)
    = V m c main_v1 (ix2 0 ⟨512 * t.val + j.val, by have := t_lt t; omega⟩) := by
  unfold iblk
  generalize V m c main_v1 = W
  have := t_lt t
  blk_ext [idx t]
  all_goals omega

/-- A load of a whole block is the block. -/
theorem ld_x (x : FVec Ideal S136x1024 .f32) (r : Fin 136) (k : Fin 1024) : View.ld (Val := Elt Ideal) (e' := .f32) x r0_0 (ix2 r k) = x (ix2 r k) := by
  blk_ext [View.ld]
  all_goals simp
theorem ld_w (x : FVec Ideal S1024x512 .f32) (k : Fin 1024) (j : Fin 512) : View.ld (Val := Elt Ideal) (e' := .f32) x r0_1 (ix2 k j) = x (ix2 k j) := by
  blk_ext [View.ld]
  all_goals simp
theorem ld_b (x : FVec Ideal S1x512 .f32) (j : Fin 512) : View.ld (Val := Elt Ideal) (e' := .f32) x r0_2 (ix2 0 j) = x (ix2 0 j) := by
  blk_ext [View.ld]
  all_goals simp

/-- A number of the block a grid point stores. -/
theorem pay1_at (x : FVec Ideal S136x1024 .f32) (w : FVec Ideal S1024x512 .f32) (b : FVec Ideal S1x512 .f32) (r : Fin 136) (j : Fin 512) :
    k0_pay1 (F := Ideal) x w b (ix2 r j) = Cert.AdaSpec.lin (fun k => x (ix2 r k)) (fun k => w (ix2 k j)) (b (ix2 0 j)) := by
  pointwise [k0_pay1, Cert.AdaSpec.lin]

/-- One number of the kernel's array, of the arguments. -/
def num (c : Dev nD) (r : Fin 136) (j : Fin 6144) : EReal :=
  Cert.AdaSpec.lin (fun k => V m c main_v0 (ix2 r k)) (fun k => V m c main_arg2 (ix2 k j)) (V m c main_v1 (ix2 0 j))

/-- The kernel's array. -/
def res3 (c : Dev nD) (i : S136x6144.Idx) : EReal := num m c (i 0) (i 1)

/-- The block of a grid point is its columns of the array. -/
theorem num_at (c : Dev nD) (t : Fin cfg0.N) (r : Fin 136) (j : Fin 512) :
    k0_pay1 (F := Ideal) (View.ld (iblk m c 0 t) r0_0) (View.ld (iblk m c 1 t) r0_1) (View.ld (iblk m c 2 t) r0_2) (ix2 r j)
      = num m c r ⟨512 * t.val + j.val, by have := t_lt t; omega⟩ := by
  rw [pay1_at]
  unfold num
  congr 1
  · funext k; exact (ld_x _ r k).trans (x_blk m c t r k)
  · funext k; exact (ld_w _ k j).trans (w_blk m c t k j)
  · exact (ld_b _ j).trans (b_blk m c t j)

theorem final3 (c : Dev nD) : (dats m 0 c).arrAt 3 cfg0.N = res3 m c := by
  refine (dats m 0 c).arrAt_eq_of_covers 3 _ (by decide +kernel) fun t hf y => ?_
  have e0 : ((((View.whole main_v2).slice (win0_3.rect t)).emb y) 0 : ℕ) = (y 0).val := by
    blk_simp [idx t]
  have e1 : ((((View.whole main_v2).slice (win0_3.rect t)).emb y) 1 : ℕ) = 512 * t.val + (y 1).val := by
    blk_simp [idx t]; omega
  blk_simp
  rw [after0_3]
  unfold out0_3
  generalize hi : ((View.whole main_v2).slice (win0_3.rect t)).emb y = i at e0 e1 ⊢
  canon_tiles x h
  all_goals idx_vars x
  refine (num_at m c t _ _).trans ?_
  unfold res3
  exact congrArg₂ (num m c) (Fin.ext (by rw [e0, h0])) (Fin.ext (by rw [e1, h1]))

end Cert.Kernel5Ideal.Ada
-- ==== Proof.AdaJoin.lean ====
module

public import proofs.«01_k».proof.Proof.AdaFinal

@[expose] public section

set_option maxRecDepth 16384

noncomputable section

open Idealize.ShloMosaic Idealize.ShloMosaic.TcCoe Idealize.SL.Sem
open Idealize.ShloMosaic.Pipeline (Dat)

namespace Cert.Kernel5Ideal.Ada
open Cert.Kernel5Ideal Cert.Kernel5Ideal.Gen
open Cert.Reference5Ideal.Read Cert.Reference5Ideal.Stage

variable (m : (ℓ : Loc nD τ sig) → Buf (Elt Ideal) ℓ)

/-- The rows of the kernel's array that the host keeps for this result. -/
theorem host3 (W : Valuation τ sig (Elt Ideal)) (r : Fin 8) (j : Fin 6144) :
    StableHlo.after [hostOps1].flatten W (Proc.devRef .tc main_v3) (ix2 r j) = W (Proc.devRef .tc main_v2) (ix2 ⟨r.val, by omega⟩ j) := by
  after_reads_at

/-- The row of the stacked conditionings is the argument's. -/
theorem row3 (c : Dev nD) (r : Fin 8) (k : Fin 1024) : V m c main_v0 (ix2 ⟨r.val, by omega⟩ k) = m (c.tc.loc main_arg0) (ix2 r k) := by
  rw [V0at]
  rw [dif_pos r.isLt]

/-- What the host leaves in the result is the reference's. -/
theorem tail3 (c : Dev nD) : Pipeline.afterTail₀ cfgs (dats m) 0 (V0 m) [hostOps1] c main_v3
    = val_main_v4 (F := Ideal) (m (c.tc.loc main_arg0)) (m (c.tc.loc main_arg2)) (m (c.tc.loc main_arg3)) := by
  have h : Pipeline.withArrays spec0 c (V0 m c) (fun w => (dats m 0 c).arrAt w cfg0.N) (Proc.devRef .tc main_v2) = res3 m c :=
    (Pipeline.Dat.withArrays_arrAt (dats m 0 c) (by decide : Pipeline.SharedIn spec0) (V0 m c) (A_eq m c) 3).trans (final3 m c)
  funext i
  idx_vars i
  unfold Pipeline.afterTail₀
  refine (host3 ..).trans ?_
  rw [h, v4_at]
  unfold res3 num
  refine congr (congrArg₂ Cert.AdaSpec.lin (funext fun k => row3 m c _ k) (funext fun k => ?_)) (V1at m c _)
  exact congrFun (V_main_arg2 m c) _

/-- The rows of the kernel's array that the host keeps for this result. -/
theorem host4 (W : Valuation τ sig (Elt Ideal)) (r : Fin 128) (j : Fin 6144) :
    StableHlo.after [hostOps1].flatten W (Proc.devRef .tc main_v4) (ix2 r j) = W (Proc.devRef .tc main_v2) (ix2 ⟨8 + r.val, by omega⟩ j) := by
  after_reads_at

/-- The row of the stacked conditionings is the argument's. -/
theorem row4 (c : Dev nD) (r : Fin 128) (k : Fin 1024) : V m c main_v0 (ix2 ⟨8 + r.val, by omega⟩ k) = m (c.tc.loc main_arg1) (ix2 r k) := by
  rw [V0at]
  rw [dif_neg (show ¬ 8 + r.val < 8 by omega)]
  exact congrArg (fun q => m (c.tc.loc main_arg1) (ix2 q k)) (Fin.ext (Nat.add_sub_cancel_left ..))

/-- What the host leaves in the result is the reference's. -/
theorem tail4 (c : Dev nD) : Pipeline.afterTail₀ cfgs (dats m) 0 (V0 m) [hostOps1] c main_v4
    = val_main_v9 (F := Ideal) (m (c.tc.loc main_arg1)) (m (c.tc.loc main_arg2)) (m (c.tc.loc main_arg3)) := by
  have h : Pipeline.withArrays spec0 c (V0 m c) (fun w => (dats m 0 c).arrAt w cfg0.N) (Proc.devRef .tc main_v2) = res3 m c :=
    (Pipeline.Dat.withArrays_arrAt (dats m 0 c) (by decide : Pipeline.SharedIn spec0) (V0 m c) (A_eq m c) 3).trans (final3 m c)
  funext i
  idx_vars i
  unfold Pipeline.afterTail₀
  refine (host4 ..).trans ?_
  rw [h, v9_at]
  unfold res3 num
  refine congr (congrArg₂ Cert.AdaSpec.lin (funext fun k => row4 m c _ k) (funext fun k => ?_)) (V1at m c _)
  exact congrFun (V_main_arg2 m c) _

/-- The run of the program, its results the reference's, its arguments as they were. -/
theorem run (ρ : Dev nD → PrngReg) : θ_run defs (onTc (τ := τ) (main (F := Ideal))) ⟨m, fun _ => 0, ρ⟩ fun r => ∀ c : Dev nD,
      r.2.mem (c.tc.loc main_v3) = val_main_v4 (F := Ideal) (m (c.tc.loc main_arg0)) (m (c.tc.loc main_arg2)) (m (c.tc.loc main_arg3))
      ∧ r.2.mem (c.tc.loc main_v4) = val_main_v9 (F := Ideal) (m (c.tc.loc main_arg1)) (m (c.tc.loc main_arg2)) (m (c.tc.loc main_arg3))
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3) :=
  (θ_run defs _ _).mono (fun r h c => ⟨((h c).2 main_v3 (Pipeline.mem_restRefs_of main_v3 (by decide) (by decide))).trans (tail3 m c),
      ((h c).2 main_v4 (Pipeline.mem_restRefs_of main_v4 (by decide) (by decide))).trans (tail4 m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).1 1).trans (((dats m 0 c).arrAt_in 1 rfl _).trans ((A_eq m c 1).trans (V_main_arg2 m c))),
      ((h c).2 main_arg3 (Pipeline.mem_restRefs_of main_arg3 (by decide) (by decide))).trans (W_main_arg3 m (dats m) c)⟩) (run_main m ρ)

end Cert.Kernel5Ideal.Ada
-- ==== Proof.SasSpec.lean ====
module

public import Idealize.ShloMosaic.Lib.Pointwise
public import proofs.«01_k».proof.Proof.SwaSpec

@[expose] public section

noncomputable section

open Idealize.ShloMosaic Idealize.ShloMosaic.TcCoe
namespace Cert.SasSpec
open Cert.SwaSpec

/-- The largest of a row's logits and its sink. -/
def top {n : ℕ} (s : Fin n → EReal) (sink : EReal) : EReal := max (Finset.fold max ⊥ s Finset.univ) sink

/-- One output number of the attention over `n` keys: the softmax weights of the logits, with the sink counted in the maximum and
    in the denominator, times the values, summed. -/
def row {n : ℕ} (s : Fin n → EReal) (sink : EReal) (v : Fin n → EReal) : EReal :=
  ∑ x, Ideal.div (Ideal.exp (s x - top s sink)) (∑ x', Ideal.exp (s x' - top s sink) + Ideal.exp (sink - top s sink)) * v x

/-- Neither infinity. -/
def Fin' (x : EReal) : Prop := x ≠ ⊤ ∧ x ≠ ⊥

theorem Fin'.coe {x : EReal} (h : Fin' x) : ∃ r : ℝ, x = (r : EReal) := by
  induction x with
  | bot => exact absurd rfl h.2
  | top => exact absurd rfl h.1
  | coe r => exact ⟨r, rfl⟩

theorem fin_coe (r : ℝ) : Fin' (r : EReal) := ⟨EReal.coe_ne_top r, EReal.coe_ne_bot r⟩

theorem Fin'.mul {x y : EReal} (hx : Fin' x) (hy : Fin' y) : Fin' (x * y) := by
  obtain ⟨a, rfl⟩ := hx.coe
  obtain ⟨b, rfl⟩ := hy.coe
  rw [← EReal.coe_mul]
  exact fin_coe _

theorem Fin'.add {x y : EReal} (hx : Fin' x) (hy : Fin' y) : Fin' (x + y) := by
  obtain ⟨a, rfl⟩ := hx.coe
  obtain ⟨b, rfl⟩ := hy.coe
  rw [← EReal.coe_add]
  exact fin_coe _

theorem fin_sum {n : ℕ} (f : Fin n → EReal) (h : ∀ k, Fin' (f k)) : Fin' (∑ k, f k) :=
  Finset.sum_induction f Fin' (fun _ _ => Fin'.add) (fin_coe 0) fun k _ => h k

/-- The scale is finite. -/
theorem fin_scale : Fin' (Ideal.ofBits FTy.f32 1040187392#32) := by
  have hc : Ideal.ofBits FTy.f32 1040187392#32 = ((1 / 8 : ℝ) : EReal) := by
    simp [Ideal.ofBits, Ideal.ieee]
    rw [← EReal.coe_mul]
    norm_num
  rw [hc]
  exact fin_coe _

/-- The maximum over one key more, masked, is the maximum over the others. -/
theorem top_succ (s' : Fin 129 → EReal) (s : Fin 128 → EReal) (sink : EReal) (h0 : s' 0 = ⊥) (hs : ∀ k : Fin 128, s' k.succ = s k) :
    top s' sink = top s sink := by
  unfold top
  have h : Finset.fold max ⊥ s' Finset.univ = Finset.fold max ⊥ s Finset.univ := by
    show Finset.univ.sup s' = Finset.univ.sup s
    refine le_antisymm (Finset.sup_le fun k _ => ?_) (Finset.sup_le fun k _ => ?_)
    · refine Fin.cases ?_ (fun k => ?_) k
      · rw [h0]; exact bot_le
      · rw [hs]; exact Finset.le_sup (Finset.mem_univ k)
    · rw [← hs]; exact Finset.le_sup (Finset.mem_univ k.succ)
  rw [h]

/-- A masked first key is of no account, where the sink is finite and no logit is `⊤`: its weight is zero. -/
theorem row_succ (s' v' : Fin 129 → EReal) (s v : Fin 128 → EReal) (sink : EReal) (h0 : s' 0 = ⊥) (hs : ∀ k : Fin 128, s' k.succ = s k)
    (hv : ∀ k : Fin 128, v' k.succ = v k) (hsink : Fin' sink) (hfin : ∀ k, s k ≠ ⊤) : row s' sink v' = row s sink v := by
  have ht : Fin' (top s sink) := by
    constructor
    · have : top s sink < ⊤ := by
        unfold top
        refine max_lt ?_ (lt_top_iff_ne_top.mpr hsink.1)
        show Finset.univ.sup s < ⊤
        rw [Finset.sup_lt_iff bot_lt_top]
        exact fun k _ => lt_top_iff_ne_top.mpr (hfin k)
      exact this.ne
    · have : ⊥ < top s sink := lt_of_lt_of_le (bot_lt_iff_ne_bot.mpr hsink.2) (le_max_right _ _)
      exact this.ne'
  unfold row
  rw [top_succ s' s sink h0 hs]
  generalize top s sink = m at ht
  have hz : Ideal.exp (s' 0 - m) = 0 := by
    rw [h0, EReal.bot_sub]
    rfl
  have hD : (∑ x', Ideal.exp (s' x' - m)) = ∑ x', Ideal.exp (s x' - m) := by
    rw [Fin.sum_univ_succ, hz, zero_add]
    exact Finset.sum_congr rfl fun k _ => by rw [hs]
  rw [hD, Fin.sum_univ_succ, hz]
  have hpos : 0 < Ideal.exp (sink - m) := by
    obtain ⟨a, rfl⟩ := hsink.coe
    obtain ⟨b, rfl⟩ := ht.coe
    rw [← EReal.coe_sub]
    exact EReal.coe_pos.mpr (Real.exp_pos _)
  have hD0 : (∑ x', Ideal.exp (s x' - m)) + Ideal.exp (sink - m) ≠ 0 := by
    refine ne_of_gt (lt_of_lt_of_le hpos ?_)
    exact le_add_of_nonneg_left (Finset.sum_nonneg fun _ _ => exp_nonneg _)
  have hdiv : ∀ D : EReal, D ≠ 0 → Ideal.div 0 D = 0 := fun D hD => by simp [Ideal.div, hD]
  rw [hdiv _ hD0, zero_mul, zero_add]
  exact Finset.sum_congr rfl fun k _ => by rw [hs, hv]

/-- The bias of a key `n` positions before the query, for a head. -/
def biasOf (T : (⟨2, ![32, 8]⟩ : Shape).Idx → EReal) (n : ℕ) (h : Fin 8) : EReal :=
  T (ix2 (rowOf (wrapW (bucketW (BitVec.ofNat 32 n)))) h)

end Cert.SasSpec
-- ==== Proof.SasTable.lean ====
module

public import proofs.«01_k».proof.Proof.Gen.Kernel7Ideal.Frame
public import proofs.«01_k».proof.Proof.SasSpec
public import Idealize.ShloMosaic.Lib.Pipeline.ValueKit
public import Idealize.ShloMosaic.Lib.StableHlo.ReadAt

@[expose] public section

set_option maxRecDepth 16384

noncomputable section

open Idealize.ShloMosaic Idealize.ShloMosaic.TcCoe Idealize.SL.Sem
open Idealize.ShloMosaic.Pipeline (Dat)

namespace Cert.Kernel7Ideal.Table
open Cert.Kernel7Ideal Cert.Kernel7Ideal.Gen Cert.SwaSpec Cert.SasSpec

/-- The distances of the keys from the query. -/
def hDist : IVec S128 32 := subi (broadcastInDim S128 ![] bcast_S_S128 (constantI S_ 32 127#32)) (iotaInDim S128 32 0)

/-- One word at every place. -/
def splat (w : BitVec 32) : IVec S128 32 := broadcastInDim S128 ![] bcast_S_S128 (constantI S_ 32 w)

/-- One float at every place. -/
def splatF (w : BitVec 32) : FVec Ideal S128 .f32 := broadcastInDim S128 ![] bcast_S_S128 (constant S_ .f32 w)

/-- The distances, negative ones made zero. -/
def hClip : IVec S128 32 := maxsi hDist (splat 0#32)

/-- The buckets of the large distances. -/
def hLarge : IVec S128 32 :=
  addi (splat 16#32)
    (fptosi 32 (mulf (Host.divf (Host.log (Host.divf (sitofp .f32 (maxsi hClip (splat 1#32))) (splatF 0x41800000#32))) (splatF 0x40051592#32))
      (splatF 0x41800000#32)))

/-- The buckets. -/
def hBuck : IVec S128 32 := select (cmpi .slt hClip (splat 16#32)) hClip (minsi hLarge (splat 31#32))

/-- The buckets with negative ones wrapped. -/
def hWrap : IVec S128 32 := select (cmpi .slt hBuck (splat 0#32)) (addi hBuck (splat 32#32)) hBuck

variable (T : FVec Ideal S32x8 .f32)

/-- The looked-up biases, the heads first. -/
def hBias : FVec Ideal S8x128 .f32 :=
  transpose S8x128 [1, 0] (Host.gather gather_S32x8_S128x1_S128x8_1_0_n_n_0_1_18 T (broadcastInDim S128x1 ![0] bcast_S128_S128x1_0 hWrap))
    transposes_S128x8_S8x128_1_0

variable (m : (ℓ : Loc nD τ sig) → Buf (Elt Ideal) ℓ)

set_option maxHeartbeats 4000000 in
/-- What the table's array holds when the kernel starts. -/
theorem table_eq (c : Dev nD) : V m c main_v30 = hBias (m (c.tc.loc main_arg4)) := by
  unfold V V0
  simp only [List.flatten_cons, List.flatten_nil, List.append_nil, hostOps0, hostOps0_1, hostOps0_2, List.cons_append, List.nil_append]
  simp only [Idealize.ShloMosaic.StableHlo.after_cons, Idealize.ShloMosaic.StableHlo.after_nil]
  after_results_simp
  after_results_loop
  simp only [StableHlo.TRef.toBuf, StableHlo.TRef.ofBuf, cast_eq]
  unfold hBias hWrap hBuck hLarge hClip hDist splat splatF
  rfl

/-- The gathered table at an index: the row its word names. -/
theorem gather_at (I : IVec S128x1 32) (k : Fin 128) (h : Fin 8) :
    Host.gather gather_S32x8_S128x1_S128x8_1_0_n_n_0_1_18 T I (ix2 k h) = T (ix2 (rowOf (I (ix2 k 0))) h) := by
  unfold Host.gather
  congr 1
  funext a
  refine Fin.ext ?_
  match a with
  | ⟨0, _⟩ =>
    show (gather_S32x8_S128x1_S128x8_1_0_n_n_0_1_18).start _ I 0 + (gather_S32x8_S128x1_S128x8_1_0_n_n_0_1_18).batchCoord _ 0 + (gather_S32x8_S128x1_S128x8_1_0_n_n_0_1_18).offCoord _ 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (gather_S32x8_S128x1_S128x8_1_0_n_n_0_1_18).startIndexMap from List.mem_singleton.mpr rfl)]
    have hsi : (gather_S32x8_S128x1_S128x8_1_0_n_n_0_1_18).siIdx (ix2 k h) ⟨List.idxOf (0 : Fin 2) (gather_S32x8_S128x1_S128x8_1_0_n_n_0_1_18).startIndexMap,
        List.idxOf_lt_length_iff.2 (List.mem_singleton.mpr rfl)⟩ = ix2 k 0 := by
      funext b; refine Fin.ext ?_
      match b with
      | ⟨0, _⟩ => rfl
      | ⟨1, _⟩ => rfl
    rw [hsi]
    rfl
  | ⟨1, _⟩ =>
    show (gather_S32x8_S128x1_S128x8_1_0_n_n_0_1_18).start _ I 1 + (gather_S32x8_S128x1_S128x8_1_0_n_n_0_1_18).batchCoord _ 1 + (gather_S32x8_S128x1_S128x8_1_0_n_n_0_1_18).offCoord _ 1 = _
    rw [GatherDims.batchCoord_eq_zero _ _ _ List.not_mem_nil]
    unfold GatherDims.start
    rw [dif_neg (by decide)]
    simp only [Nat.add_zero, Nat.zero_add]
    rfl

theorem dist_word : ∀ k : Fin 128, IntOp.subi 127#32 (BitVec.ofNat 32 k.val) = BitVec.ofNat 32 (127 - k.val) := by
  decide +kernel

theorem dist_at (k : Fin 128) : hDist (ix1 k) = BitVec.ofNat 32 (127 - k.val) := by
  rw [← dist_word k]
  pointwise [hDist]

theorem wrap_at (k : Fin 128) : hWrap (ix1 k) = wrapW (bucketW (BitVec.ofNat 32 (127 - k.val))) := by
  rw [← dist_at k]
  rfl

/-- The biases at an index. -/
theorem bias_at (h : Fin 8) (k : Fin 128) : hBias T (ix2 h k) = biasOf T (127 - k.val) h := by
  pointwise [hBias]
  rw [gather_at]
  have e : (broadcastInDim S128x1 ![0] bcast_S128_S128x1_0 hWrap) (ix2 k 0) = wrapW (bucketW (BitVec.ofNat 32 (127 - k.val))) := by
    rw [← wrap_at k]
    generalize hWrap = w
    pointwise []
  rw [e]
  rfl

/-- The queries when the kernel starts. -/
theorem q_at (c : Dev nD) (s : Fin 128) (h : Fin 8) (d : Fin 64) :
    V m c main_v40 (ix3 s h d) = m (c.tc.loc main_arg0) (ix2 s ⟨64 * h.val + d.val, by omega⟩) := by
  unfold V V0
  after_reads_at
  try grind

/-- A row of keys or values: the buffer's but the first, and then the sample's own. -/
def winAt (K : FVec Ideal S128x128x2x64 .f32) (X : FVec Ideal S128x768 .f32) (o : ℕ) (ho : o + 128 ≤ 768) (s : Fin 128) (k : Fin 128) (g : Fin 2) (d : Fin 64) : EReal :=
  if h : k.val < 127 then K (ix4 s ⟨1 + k.val, by omega⟩ g d) else X (ix2 s ⟨o + (64 * g.val + d.val), by omega⟩)

/-- The keys when the kernel starts. -/
theorem k_at (c : Dev nD) (s k : Fin 128) (g : Fin 2) (d : Fin 64) :
    V m c main_v41 (ix3 s k ⟨64 * g.val + d.val, by omega⟩) = winAt (m (c.tc.loc main_arg1)) (m (c.tc.loc main_arg0)) 512 (by decide) s k g d := by
  unfold V V0 winAt
  after_reads_at
  by_cases h : k.val < 127
  · rw [dif_pos h, dif_pos h]
    after_reads_at
    try grind
  · rw [dif_neg h, dif_neg h]
    after_reads_at
    try grind

/-- The values when the kernel starts. -/
theorem v_at (c : Dev nD) (s k : Fin 128) (g : Fin 2) (d : Fin 64) :
    V m c main_v42 (ix3 s k ⟨64 * g.val + d.val, by omega⟩) = winAt (m (c.tc.loc main_arg2)) (m (c.tc.loc main_arg0)) 640 (by decide) s k g d := by
  unfold V V0 winAt
  after_reads_at
  by_cases h : k.val < 127
  · rw [dif_pos h, dif_pos h]
    after_reads_at
    try grind
  · rw [dif_neg h, dif_neg h]
    after_reads_at
    try grind

/-- The sinks when the kernel starts. -/
theorem s_at (c : Dev nD) (h : Fin 8) : V m c main_v43 (ix2 h 0) = m (c.tc.loc main_arg3) (ix1 h) := by
  unfold V V0
  after_reads_at

end Cert.Kernel7Ideal.Table
-- ==== Proof.SasPure.lean ====
module

public import proofs.«01_k».proof.Proof.Gen.Kernel7Ideal.Skeleton
public import Idealize.ShloMosaic.Lib.Pointwise
public import proofs.«01_k».proof.Proof.SasSpec

@[expose] public section

set_option maxRecDepth 16384

noncomputable section

open Idealize.ShloMosaic Idealize.ShloMosaic.TcCoe Idealize.SL.Sem
open Idealize.ShloMosaic.Pipeline (Dat)

namespace Cert.Kernel7Ideal.Pure
open Cert.Kernel7Ideal Cert.Kernel7Ideal.Gen Cert.SwaSpec Cert.SasSpec

/-- The mask of a lane for a head, of the four words it is made of. -/
def maskOf (l a b c : BitVec 32) : BitVec 1 :=
  IntOp.cmpi .eq l (Scalar.select (IntOp.andi (IntOp.cmpi .ne c (Scalar.subi (Scalar.extui (Scalar.cmpi .sgt 4#32 0#32)) (Scalar.extui (Scalar.cmpi .slt 4#32 0#32))))
    (IntOp.cmpi .ne (IntOp.remsi .vector a 4#32) 0#32)) (IntOp.subi b 1#32) b)

/-- A masked logit of the block. -/
def logit (q2 : FVec Ideal S8x8x128 .f32) (M : Fin 8 → Fin 128 → BitVec 1) (k : FVec Ideal S8x128x128 .f32) (b : FVec Ideal S8x128 .f32) (s h : Fin 8) (j : Fin 128) : EReal :=
  (∑ c : Fin 128, Scalar.select (M h c) (q2 (ix3 s h c)) 0 * k (ix3 s j c)) + b (ix2 h j)

theorem zeroF : Ideal.ofBits FTy.f32 0#32 = 0 := by
  simp [Ideal.ofBits, Ideal.ieee]

/-- A weight of the block. -/
theorem pay6_at (q2 : FVec Ideal S8x8x128 .f32) (v5 v30 v32 v39 : IVec S8x8x128 32) (k : FVec Ideal S8x128x128 .f32) (b : FVec Ideal S8x128 .f32) (sk : FVec Ideal S8x1 .f32)
    (M : Fin 8 → Fin 128 → BitVec 1) (hM : ∀ s h c, maskOf (v30 (ix3 s h c)) (v5 (ix3 s h c)) (v32 (ix3 s h c)) (v39 (ix3 s h c)) = M h c) (s h : Fin 8) (j : Fin 128) :
    k0_pay6 (F := Ideal) q2 v5 v30 4#32 v32 v39 (Scalar.extui (Scalar.cmpi .sgt 4#32 0#32)) (Scalar.cmpi .slt 4#32 0#32) k b sk (ix3 s h j)
      = Ideal.div (Ideal.exp (logit q2 M k b s h j - top (logit q2 M k b s h) (sk (ix2 h 0))))
          (∑ j', Ideal.exp (logit q2 M k b s h j' - top (logit q2 M k b s h) (sk (ix2 h 0))) + Ideal.exp (sk (ix2 h 0) - top (logit q2 M k b s h) (sk (ix2 h 0)))) := by
  have hl : ∀ j, logit q2 M k b s h j = (∑ c : Fin 128, Scalar.select (maskOf (v30 (ix3 s h c)) (v5 (ix3 s h c)) (v32 (ix3 s h c)) (v39 (ix3 s h c))) (q2 (ix3 s h c)) (Ideal.ofBits FTy.f32 0#32) * k (ix3 s j c)) + b (ix2 h j) := by
    intro j
    rw [zeroF]
    simp only [hM]
    rfl
  rw [show logit q2 M k b s h = _ from funext hl]
  unfold top
  rw [← negInf]
  unfold maskOf
  pointwise [k0_pay6]

/-- The result of the block, from its weights. -/
theorem pay1_at (w : FVec Ideal S8x8x128 .bf16) (v : FVec Ideal S8x128x128 .f32) (s h : Fin 8) (e : Fin 64) :
    k0_pay1 (F := Ideal) w v (ix3 s h e)
      = Scalar.select (IntOp.cmpi .slt (BitVec.ofNat 32 h.val) 4#32) (∑ j : Fin 128, w (ix3 s h j) * v (ix3 s j ⟨e.val, by omega⟩))
          (∑ j : Fin 128, w (ix3 s h j) * v (ix3 s j ⟨64 + e.val, by omega⟩)) := by
  pointwise [k0_pay1]

/-- The scaled queries, twice along the lanes: the first. -/
theorem pay2_lo (q : FVec Ideal S8x8x64 .f32) (s h : Fin 8) (d : Fin 64) :
    k0_pay2 (F := Ideal) q (ix3 s h ⟨d.val, by omega⟩) = q (ix3 s h d) * Ideal.ofBits FTy.f32 1040187392#32 := by
  pointwise [k0_pay2]

/-- The scaled queries, twice along the lanes: the second. -/
theorem pay2_hi (q : FVec Ideal S8x8x64 .f32) (s h : Fin 8) (d : Fin 64) :
    k0_pay2 (F := Ideal) q (ix3 s h ⟨64 + d.val, by omega⟩) = q (ix3 s h d) * Ideal.ofBits FTy.f32 1040187392#32 := by
  pointwise [k0_pay2]

theorem half_word : ∀ c : Fin 128, k0_pay3 (ix3 0 0 c) = BitVec.ofNat 32 (c.val / 64) := by
  decide +kernel

/-- A lane's half. -/
theorem pay3_at (s h : Fin 8) (c : Fin 128) : k0_pay3 (ix3 s h c) = BitVec.ofNat 32 (c.val / 64) := by
  have h0 : k0_pay3 (ix3 s h c) = k0_pay3 (ix3 0 0 c) := by
    pointwise [k0_pay3]
  rw [h0]
  exact half_word c

theorem iota_at (s h : Fin 8) (c : Fin 128) : iota .tc S8x8x128 32 [1] iota_S8x8x128_d1_w32 (ix3 s h c) = BitVec.ofNat 32 h.val := by
  pointwise []

theorem pay4_at (s h : Fin 8) (c : Fin 128) : k0_pay4 (ix3 s h c) = IntOp.divsi .vector (BitVec.ofNat 32 h.val) 4#32 := by
  pointwise [k0_pay4]

theorem pay5_at (s h : Fin 8) (c : Fin 128) :
    k0_pay5 (ix3 s h c) = IntOp.subi (BitVec.setWidth 32 (IntOp.cmpi .sgt (BitVec.ofNat 32 h.val) 0#32)) (BitVec.setWidth 32 (IntOp.cmpi .slt (BitVec.ofNat 32 h.val) 0#32)) := by
  pointwise [k0_pay5]

theorem mask_word : ∀ h : Fin 8, ∀ g : Fin 2, maskOf (BitVec.ofNat 32 g.val) (BitVec.ofNat 32 h.val) (IntOp.divsi .vector (BitVec.ofNat 32 h.val) 4#32)
    (IntOp.subi (BitVec.setWidth 32 (IntOp.cmpi .sgt (BitVec.ofNat 32 h.val) 0#32)) (BitVec.setWidth 32 (IntOp.cmpi .slt (BitVec.ofNat 32 h.val) 0#32)))
      = if g.val = h.val / 4 then 1#1 else 0#1 := by
  decide +kernel

/-- Which lanes a head's mask leaves: those of its half. -/
theorem mask_at (s h : Fin 8) (c : Fin 128) :
    maskOf (k0_pay3 (ix3 s h c)) (iota .tc S8x8x128 32 [1] iota_S8x8x128_d1_w32 (ix3 s h c)) (k0_pay4 (ix3 s h c)) (k0_pay5 (ix3 s h c))
      = if c.val / 64 = h.val / 4 then 1#1 else 0#1 := by
  rw [pay3_at, iota_at, pay4_at, pay5_at]
  exact mask_word h ⟨c.val / 64, by omega⟩

/-- A sum over the lanes, in its two halves. -/
theorem sum_halves (f : Fin 128 → EReal) : ∑ c, f c = (∑ d : Fin 64, f ⟨d.val, by omega⟩) + ∑ d : Fin 64, f ⟨64 + d.val, by omega⟩ :=
  Fin.sum_univ_add (a := 64) (b := 64) f

/-- A logit of the block: the dot product over the head's own half. -/
theorem logit_at (q : FVec Ideal S8x8x64 .f32) (k : FVec Ideal S8x128x128 .f32) (b : FVec Ideal S8x128 .f32) (s : Fin 8) (g : Fin 2) (p : Fin 4) (j : Fin 128) :
    logit (k0_pay2 (F := Ideal) q) (fun h c => if c.val / 64 = h.val / 4 then 1#1 else 0#1) k b s ⟨4 * g.val + p.val, by omega⟩ j
      = (∑ d : Fin 64, q (ix3 s ⟨4 * g.val + p.val, by omega⟩ d) * Ideal.ofBits FTy.f32 1040187392#32 * k (ix3 s j ⟨64 * g.val + d.val, by omega⟩))
        + b (ix2 ⟨4 * g.val + p.val, by omega⟩ j) := by
  unfold logit
  rw [sum_halves]
  simp only [pay2_lo, pay2_hi]
  have sel1 : ∀ a : EReal, Scalar.select 1#1 a 0 = a := fun a => rfl
  have sel0 : ∀ a : EReal, Scalar.select 0#1 a 0 = 0 := fun a => rfl
  congr 1
  match g with
  | ⟨0, _⟩ =>
    have e1 : ∀ d : Fin 64, (if d.val / 64 = (4 * 0 + p.val) / 4 then 1#1 else 0#1) = 1#1 := fun d => if_pos (by omega)
    have e2 : ∀ d : Fin 64, (if (64 + d.val) / 64 = (4 * 0 + p.val) / 4 then 1#1 else 0#1) = 0#1 := fun d => if_neg (by omega)
    simp only [e1, e2, sel1, sel0, zero_mul, Finset.sum_const_zero, add_zero]
    try simp only [Nat.mul_zero, Nat.zero_add]
  | ⟨1, _⟩ =>
    have e1 : ∀ d : Fin 64, (if d.val / 64 = (4 * 1 + p.val) / 4 then 1#1 else 0#1) = 0#1 := fun d => if_neg (by omega)
    have e2 : ∀ d : Fin 64, (if (64 + d.val) / 64 = (4 * 1 + p.val) / 4 then 1#1 else 0#1) = 1#1 := fun d => if_pos (by omega)
    simp only [e1, e2, sel1, sel0, zero_mul, Finset.sum_const_zero, zero_add]
    try simp only [Nat.mul_one]

/-- One number of the block's result: the row of the head's logits, its sink and its column of values. -/
theorem body_at (q : FVec Ideal S8x8x64 .f32) (k v : FVec Ideal S8x128x128 .f32) (b : FVec Ideal S8x128 .f32) (sk : FVec Ideal S8x1 .f32) (s : Fin 8) (g : Fin 2) (p : Fin 4) (e : Fin 64) :
    k0_pay1 (F := Ideal) (k0_pay6 (F := Ideal) (k0_pay2 (F := Ideal) q) (iota .tc S8x8x128 32 [1] iota_S8x8x128_d1_w32) k0_pay3 4#32 k0_pay4 k0_pay5
        (Scalar.extui (Scalar.cmpi .sgt 4#32 0#32)) (Scalar.cmpi .slt 4#32 0#32) k b sk) v (ix3 s ⟨4 * g.val + p.val, by omega⟩ e)
      = row (fun j => (∑ d : Fin 64, q (ix3 s ⟨4 * g.val + p.val, by omega⟩ d) * Ideal.ofBits FTy.f32 1040187392#32 * k (ix3 s j ⟨64 * g.val + d.val, by omega⟩))
          + b (ix2 ⟨4 * g.val + p.val, by omega⟩ j)) (sk (ix2 ⟨4 * g.val + p.val, by omega⟩ 0)) (fun j => v (ix3 s j ⟨64 * g.val + e.val, by omega⟩)) := by
  rw [pay1_at]
  simp only [pay6_at _ _ _ _ _ _ _ _ (fun h c => if c.val / 64 = h.val / 4 then 1#1 else 0#1) mask_at]
  rw [← funext (logit_at q k b s g p)]
  have hs : ∀ (g : Fin 2) (p : Fin 4), IntOp.cmpi .slt (BitVec.ofNat 32 (4 * g.val + p.val)) 4#32 = if g.val = 0 then 1#1 else 0#1 := by decide
  rw [show IntOp.cmpi .slt (BitVec.ofNat 32 (⟨4 * g.val + p.val, by omega⟩ : Fin 8).val) 4#32 = _ from hs g p]
  have sel1 : ∀ a b : EReal, Scalar.select 1#1 a b = a := fun a b => rfl
  have sel0 : ∀ a b : EReal, Scalar.select 0#1 a b = b := fun a b => rfl
  match g with
  | ⟨0, _⟩ =>
    rw [if_pos rfl, sel1]
    simp only [Nat.mul_zero, Nat.zero_add]
    rfl
  | ⟨1, _⟩ =>
    rw [if_neg Nat.one_ne_zero, sel0]
    simp only [Nat.mul_one]
    rfl

end Cert.Kernel7Ideal.Pure
-- ==== Proof.SasFinal.lean ====
module

public import proofs.«01_k».proof.Proof.Gen.Kernel7Ideal.Frame
public import Idealize.ShloMosaic.Lib.Pipeline.ValueKit
public import Idealize.ShloMosaic.Lib.Claim
public import Idealize.ShloMosaic.Lib.StableHlo.ReadAt
public import proofs.«01_k».proof.Proof.SasTable
public import proofs.«01_k».proof.Proof.SasPure

@[expose] public section

set_option maxRecDepth 16384

noncomputable section

open Idealize.ShloMosaic Idealize.ShloMosaic.TcCoe Idealize.SL.Sem
open Idealize.ShloMosaic.Pipeline (Dat)

namespace Cert.Kernel7Ideal.Sas
open Cert.Kernel7Ideal Cert.Kernel7Ideal.Gen Cert.SasSpec

variable (m : (ℓ : Loc nD τ sig) → Buf (Elt Ideal) ℓ)

/-- Which block each window takes at each grid point. -/
theorem idx : ∀ t : Fin cfg0.N, win0_0.index t = ![0, 0] ∧ win0_1.index t = ![t.val, 0, 0] ∧ win0_2.index t = ![t.val, 0, 0]
    ∧ win0_3.index t = ![t.val, 0, 0] ∧ win0_4.index t = ![0, 0] ∧ win0_5.index t = ![t.val, 0, 0] :=
  (by decide +kernel : ∀ t : Fin grid0.N, _)

/-- A grid point's number is below 16. -/
theorem t_lt (t : Fin cfg0.N) : t.val < 16 := t.isLt

/-- The sinks, whole. -/
theorem s_blk (c : Dev nD) (t : Fin cfg0.N) (h : Fin 8) : iblk m c 0 t (ix2 h 0) = V m c main_v43 (ix2 h 0) := by
  unfold iblk
  generalize V m c main_v43 = W
  blk_ext [idx t]

/-- The block of queries. -/
theorem q_blk (c : Dev nD) (t : Fin cfg0.N) (s h : Fin 8) (d : Fin 64) :
    iblk m c 1 t (ix3 s h d) = V m c main_v40 (ix3 ⟨8 * t.val + s.val, by have := t_lt t; omega⟩ h d) := by
  have := t_lt t
  unfold iblk
  generalize V m c main_v40 = W
  blk_ext [idx t]

/-- The block of keys. -/
theorem k_blk (c : Dev nD) (t : Fin cfg0.N) (s : Fin 8) (j d : Fin 128) :
    iblk m c 2 t (ix3 s j d) = V m c main_v41 (ix3 ⟨8 * t.val + s.val, by have := t_lt t; omega⟩ j d) := by
  have := t_lt t
  unfold iblk
  generalize V m c main_v41 = W
  blk_ext [idx t]

/-- The block of values. -/
theorem v_blk (c : Dev nD) (t : Fin cfg0.N) (s : Fin 8) (j d : Fin 128) :
    iblk m c 3 t (ix3 s j d) = V m c main_v42 (ix3 ⟨8 * t.val + s.val, by have := t_lt t; omega⟩ j d) := by
  have := t_lt t
  unfold iblk
  generalize V m c main_v42 = W
  blk_ext [idx t]

/-- The biases, whole. -/
theorem b_blk (c : Dev nD) (t : Fin cfg0.N) (h : Fin 8) (j : Fin 128) : iblk m c 4 t (ix2 h j) = V m c main_v30 (ix2 h j) := by
  unfold iblk
  generalize V m c main_v30 = W
  blk_ext [idx t]

/-- A load of a whole array is the array. -/
theorem ld_q (x : FVec Ideal S8x8x64 .f32) (s h : Fin 8) (d : Fin 64) : View.ld (Val := Elt Ideal) (e' := .f32) x r0_0 (ix3 s h d) = x (ix3 s h d) := by
  blk_ext [View.ld]
  all_goals simp
theorem ld_k (x : FVec Ideal S8x128x128 .f32) (s : Fin 8) (j d : Fin 128) : View.ld (Val := Elt Ideal) (e' := .f32) x r0_1 (ix3 s j d) = x (ix3 s j d) := by
  blk_ext [View.ld]
  all_goals simp
theorem ld_b (x : FVec Ideal S8x128 .f32) (h : Fin 8) (j : Fin 128) : View.ld (Val := Elt Ideal) (e' := .f32) x r0_2 (ix2 h j) = x (ix2 h j) := by
  blk_ext [View.ld]
  all_goals simp
theorem ld_s (x : FVec Ideal S8x1 .f32) (h : Fin 8) : View.ld (Val := Elt Ideal) (e' := .f32) x r0_3 (ix2 h 0) = x (ix2 h 0) := by
  blk_ext [View.ld]
  all_goals simp

/-- One output number, of the arrays of queries, keys, values, biases and sinks. -/
def outOf (q : FVec Ideal S128x8x64 .f32) (k v : FVec Ideal S128x128x128 .f32) (b : FVec Ideal S8x128 .f32) (sk : FVec Ideal S8x1 .f32) (s : Fin 128) (h : Fin 8) (e : Fin 64) : EReal :=
  row (fun j : Fin 128 => (∑ d : Fin 64, q (ix3 s h d) * Ideal.ofBits FTy.f32 1040187392#32 * k (ix3 s j ⟨64 * (h.val / 4) + d.val, by omega⟩)) + b (ix2 h j))
    (sk (ix2 h 0)) (fun j => v (ix3 s j ⟨64 * (h.val / 4) + e.val, by omega⟩))

/-- One output number, of the arrays the kernel starts from. -/
def outA (c : Dev nD) (s : Fin 128) (h : Fin 8) (e : Fin 64) : EReal :=
  outOf (V m c main_v40) (V m c main_v41) (V m c main_v42) (V m c main_v30) (V m c main_v43) s h e

theorem outA_ext (c : Dev nD) {s s' : Fin 128} {h h' : Fin 8} {e e' : Fin 64} (hs : s.val = s'.val) (hh : h.val = h'.val) (he : e.val = e'.val) :
    outA m c s h e = outA m c s' h' e' := by
  rw [Fin.ext hs, Fin.ext hh, Fin.ext he]

/-- One number of the block's result, for any head. -/
theorem body_at (q : FVec Ideal S8x8x64 .f32) (k v : FVec Ideal S8x128x128 .f32) (b : FVec Ideal S8x128 .f32) (sk : FVec Ideal S8x1 .f32) (s h : Fin 8) (e : Fin 64) :
    k0_pay1 (F := Ideal) (k0_pay6 (F := Ideal) (k0_pay2 (F := Ideal) q) (iota .tc S8x8x128 32 [1] iota_S8x8x128_d1_w32) k0_pay3 4#32 k0_pay4 k0_pay5
        (Scalar.extui (Scalar.cmpi .sgt 4#32 0#32)) (Scalar.cmpi .slt 4#32 0#32) k b sk) v (ix3 s h e)
      = row (fun j => (∑ d : Fin 64, q (ix3 s h d) * Ideal.ofBits FTy.f32 1040187392#32 * k (ix3 s j ⟨64 * (h.val / 4) + d.val, by omega⟩))
          + b (ix2 h j)) (sk (ix2 h 0)) (fun j => v (ix3 s j ⟨64 * (h.val / 4) + e.val, by omega⟩)) := by
  have eh : (⟨4 * (h.val / 4) + h.val % 4, by omega⟩ : Fin 8) = h := Fin.ext (Nat.div_add_mod h.val 4)
  have := Pure.body_at q k v b sk s ⟨h.val / 4, by omega⟩ ⟨h.val % 4, by omega⟩ e
  simp only [eh] at this
  exact this

/-- One number a grid point leaves. -/
theorem point_at (c : Dev nD) (t : Fin cfg0.N) (s h : Fin 8) (e : Fin 64) :
    k0_pay1 (F := Ideal) (k0_pay6 (F := Ideal) (k0_pay2 (F := Ideal) (View.ld (iblk m c 1 t) r0_0)) (iota .tc S8x8x128 32 [1] iota_S8x8x128_d1_w32) k0_pay3 4#32 k0_pay4 k0_pay5
        (Scalar.extui (Scalar.cmpi .sgt 4#32 0#32)) (Scalar.cmpi .slt 4#32 0#32) (View.ld (iblk m c 2 t) r0_1) (View.ld (iblk m c 4 t) r0_2) (View.ld (iblk m c 0 t) r0_3))
        (View.ld (iblk m c 3 t) r0_1) (ix3 s h e)
      = outA m c ⟨8 * t.val + s.val, by have := t_lt t; omega⟩ h e := by
  refine (body_at ..).trans ?_
  unfold outA outOf
  exact congr (congr (congrArg (row (n := 128)) (funext fun j =>
      congrArg₂ (· + ·) (Finset.sum_congr rfl fun d _ => congrArg₂ (· * ·) (congrArg (· * _) ((ld_q ..).trans (q_blk m c t s h d))) ((ld_k ..).trans (k_blk m c t s j _)))
        ((ld_b ..).trans (b_blk m c t h j))))
    ((ld_s ..).trans (s_blk m c t h))) (funext fun j => (ld_k ..).trans (v_blk m c t s j _))

/-- The result, as an array. -/
def res5 (c : Dev nD) (i : S128x8x64.Idx) : EReal := outA m c (i 0) (i 1) (i 2)

theorem final5 (c : Dev nD) : (dats m 0 c).arrAt 5 cfg0.N = res5 m c := by
  refine (dats m 0 c).arrAt_eq_of_covers 5 _ (by decide +kernel) fun t hf y => ?_
  have e0 : ((((View.whole main_v44).slice (win0_5.rect t)).emb y) 0 : ℕ) = 8 * t.val + (y 0).val := by
    blk_simp [idx t]; omega
  have e1 : ((((View.whole main_v44).slice (win0_5.rect t)).emb y) 1 : ℕ) = (y 1).val := by
    blk_simp [idx t]
  have e2 : ((((View.whole main_v44).slice (win0_5.rect t)).emb y) 2 : ℕ) = (y 2).val := by
    blk_simp [idx t]
  blk_simp
  rw [after0_5]
  unfold out0_5
  generalize hi : ((View.whole main_v44).slice (win0_5.rect t)).emb y = i at e0 e1 e2 ⊢
  canon_tiles x h
  all_goals idx_vars x
  refine (point_at m c t _ _ _).trans ?_
  unfold res5
  exact outA_ext m c (by rw [e0, h0]) (by rw [e1, h1]) (by rw [e2, h2])

end Cert.Kernel7Ideal.Sas
-- ==== Proof.SasPre.lean ====
module

public import proofs.«01_k».proof.Proof.Gen.Pre_finite7
public import Idealize.ShloMosaic.Lib.Pointwise
public import proofs.«01_k».proof.Proof.SasSpec

@[expose] public section

set_option maxRecDepth 16384

noncomputable section

open Idealize.ShloMosaic Idealize.ShloMosaic.TcCoe Idealize.SL.Sem
namespace Cert.Pre_finite7.Pure
open Cert.Pre_finite7 Cert.Pre_finite7.Gen Cert.SasSpec

variable (X : FVec Ideal S128x768 .f32) (K V : FVec Ideal S128x128x2x64 .f32) (S : FVec Ideal S8 .f32) (T : FVec Ideal S32x8 .f32)

theorem inf_word : Ideal.ofBits FTy.f32 2139095040#32 = ⊤ := by
  simp [Ideal.ofBits, Ideal.ieee]

/-- Whether a number's size is below the infinity's. -/
def belowInf (x : EReal) : BitVec 1 := BitVec.ofBool (decide (FloatOps.absf (F := Ideal) (φ := .f32) x < Ideal.ofBits FTy.f32 2139095040#32))

theorem fin_of_belowInf {x : EReal} (h : belowInf x = 1#1) : Fin' x := by
  unfold belowInf at h
  rw [inf_word] at h
  constructor
  · rintro rfl
    simp [FloatOps.absf] at h
  · rintro rfl
    simp [FloatOps.absf] at h

theorem attn_at (i : Fin 128) (j : Fin 640) : fn (F := Ideal) X K V S T (ix1 ⟨640 * i.val + j.val, by omega⟩) = belowInf (X (ix2 i ⟨j.val, by omega⟩)) := by
  unfold belowInf
  unfold fn
  dsimp only
  generalize shapeCast S2080768 _ _ = B
  pointwise
  rw [dif_pos (by omega)]

theorem buf_at (b : Fin 128) (k : Fin 127) (g : Fin 2) (d : Fin 64) :
    fn (F := Ideal) X K V S T (ix1 ⟨81920 + (16256 * b.val + 128 * k.val + 64 * g.val + d.val), by omega⟩) = belowInf (K (ix4 b ⟨1 + k.val, by omega⟩ g d)) := by
  unfold belowInf
  pointwise [fn]
  rw [dif_pos (by omega)]

theorem sink_at (i : Fin 8) : fn (F := Ideal) X K V S T (ix1 ⟨2162688 + i.val, by omega⟩) = belowInf (S (ix1 i)) := by
  unfold belowInf
  unfold fn
  dsimp only
  generalize shapeCast S2080768 _ _ = B
  pointwise
  rw [dif_neg (by omega), dif_neg (by omega), dif_pos (by omega)]
  have e0 : 2162688 + i.val - 81920 - 2080768 = i.val := by omega
  simp only [e0]

theorem bias_at (i : Fin 32) (j : Fin 8) : fn (F := Ideal) X K V S T (ix1 ⟨2162696 + (8 * i.val + j.val), by omega⟩) = belowInf (T (ix2 i j)) := by
  unfold belowInf
  unfold fn
  dsimp only
  generalize shapeCast S2080768 _ _ = B
  pointwise
  rw [dif_neg (by omega), dif_neg (by omega), dif_neg (by omega)]
  have e0 : (2162696 + (8 * i.val + j.val) - 81920 - 2080768 - 8) / 8 = i.val := by omega
  have e1 : (2162696 + (8 * i.val + j.val) - 81920 - 2080768 - 8) % 8 = j.val := by omega
  simp only [e0, e1]

variable {X K V S T} (h : fn (F := Ideal) X K V S T = fun _ => 1#1)
include h

/-- The precondition's parts: the queries and keys of the packed array, the key buffer but its first key, the sinks
    and the table are finite. -/
theorem attn_fin (i : Fin 128) (j : Fin 640) : Fin' (X (ix2 i ⟨j.val, by omega⟩)) := fin_of_belowInf ((attn_at X K V S T i j).symm.trans (congrFun h _))
theorem buf_fin (b : Fin 128) (k : Fin 127) (g : Fin 2) (d : Fin 64) : Fin' (K (ix4 b ⟨1 + k.val, by omega⟩ g d)) := fin_of_belowInf ((buf_at X K V S T b k g d).symm.trans (congrFun h _))
theorem sink_fin (i : Fin 8) : Fin' (S (ix1 i)) := fin_of_belowInf ((sink_at X K V S T i).symm.trans (congrFun h _))
theorem bias_fin (i : Fin 32) (j : Fin 8) : Fin' (T (ix2 i j)) := fin_of_belowInf ((bias_at X K V S T i j).symm.trans (congrFun h _))

end Cert.Pre_finite7.Pure
-- ==== Proof.SasRef.lean ====
module

public import proofs.«01_k».proof.Proof.Gen.Reference7Ideal.Read
public import Idealize.ShloMosaic.Lib.Pointwise
public import proofs.«01_k».proof.Proof.SasSpec

@[expose] public section

set_option maxRecDepth 16384

noncomputable section

open Idealize.ShloMosaic Idealize.ShloMosaic.TcCoe Idealize.SL.Sem
namespace Cert.Reference7Ideal.Stage
open Cert.Reference7Ideal Cert.Reference7Ideal.Gen Cert.Reference7Ideal.Read Cert.SwaSpec Cert.SasSpec

variable (X : FVec Ideal S128x768 .f32) (K : FVec Ideal S128x128x2x64 .f32) (V : FVec Ideal S128x128x2x64 .f32)
  (S : FVec Ideal S8 .f32) (T : FVec Ideal S32x8 .f32)

/-- The queries as rows of the packed array. -/
theorem q_at (b : Fin 128) (g : Fin 2) (p : Fin 4) (d : Fin 64) :
    val_main_v17 (F := Ideal) X (ix6 b 0 0 g p d) = X (ix2 b ⟨64 * (4 * g.val + p.val) + d.val, by omega⟩) := by
  pointwise [val_main_v17, val_main_v2, val_main_v1, val_main_v0]
  grind

/-- The keys: one more than the window, the buffer's and then the row's own. -/
def keyAt (K : FVec Ideal S128x128x2x64 .f32) (X : FVec Ideal S128x768 .f32) (o : ℕ) (ho : o + 128 ≤ 768) (b : Fin 128) (k : Fin 129) (g : Fin 2) (d : Fin 64) : EReal :=
  if h : k.val < 128 then K (ix4 b ⟨k.val, h⟩ g d) else X (ix2 b ⟨o + (64 * g.val + d.val), by omega⟩)

theorem k_at (b : Fin 128) (k : Fin 129) (g : Fin 2) (d : Fin 64) :
    val_main_v18 (F := Ideal) X K (ix5 b 0 k g d) = keyAt K X 512 (by decide) b k g d := by
  pointwise [val_main_v18, val_main_v7, val_main_v4, val_main_v3, val_main_v0, keyAt]
  split
  · rfl
  · grind

theorem v_at (b : Fin 128) (k : Fin 129) (g : Fin 2) (d : Fin 64) :
    val_main_v19 (F := Ideal) X V (ix5 b 0 k g d) = keyAt V X 640 (by decide) b k g d := by
  pointwise [val_main_v19, val_main_v8, val_main_v6, val_main_v5, val_main_v0, keyAt]
  split
  · rfl
  · grind

/-- The dot products: a key against a query. -/
theorem dot_at (b : Fin 128) (g : Fin 2) (p : Fin 4) (k : Fin 129) :
    val_main_v63 (F := Ideal) X K (ix6 b 0 g p 0 k)
      = ∑ d : Fin 64, val_main_v18 (F := Ideal) X K (ix5 b 0 k g d) * val_main_v17 (F := Ideal) X (ix6 b 0 0 g p d) := by
  pointwise [val_main_v63, val_main_v62]

/-- The gathered table at an index: the row its word names. -/
theorem gather_at (I : IVec S1x1x129x1 32) (k : Fin 129) (h : Fin 8) :
    Host.gather gather_S32x8_S1x1x129x1_S1x1x129x8_3_0_n_n_0_3_18 T I (ix4 0 0 k h) = T (ix2 (rowOf (I (ix4 0 0 k 0))) h) := by
  unfold Host.gather
  congr 1
  funext a
  refine Fin.ext ?_
  match a with
  | ⟨0, _⟩ =>
    show (gather_S32x8_S1x1x129x1_S1x1x129x8_3_0_n_n_0_3_18).start _ I 0 + (gather_S32x8_S1x1x129x1_S1x1x129x8_3_0_n_n_0_3_18).batchCoord _ 0 + (gather_S32x8_S1x1x129x1_S1x1x129x8_3_0_n_n_0_3_18).offCoord _ 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (gather_S32x8_S1x1x129x1_S1x1x129x8_3_0_n_n_0_3_18).startIndexMap from List.mem_singleton.mpr rfl)]
    have hsi : (gather_S32x8_S1x1x129x1_S1x1x129x8_3_0_n_n_0_3_18).siIdx (ix4 0 0 k h) ⟨List.idxOf (0 : Fin 2) (gather_S32x8_S1x1x129x1_S1x1x129x8_3_0_n_n_0_3_18).startIndexMap,
        List.idxOf_lt_length_iff.2 (List.mem_singleton.mpr rfl)⟩ = ix4 0 0 k 0 := by
      funext b; refine Fin.ext ?_
      match b with
      | ⟨0, _⟩ => rfl
      | ⟨1, _⟩ => rfl
      | ⟨2, _⟩ => rfl
      | ⟨3, _⟩ => rfl
    rw [hsi]
    rfl
  | ⟨1, _⟩ =>
    show (gather_S32x8_S1x1x129x1_S1x1x129x8_3_0_n_n_0_3_18).start _ I 1 + (gather_S32x8_S1x1x129x1_S1x1x129x8_3_0_n_n_0_3_18).batchCoord _ 1 + (gather_S32x8_S1x1x129x1_S1x1x129x8_3_0_n_n_0_3_18).offCoord _ 1 = _
    rw [GatherDims.batchCoord_eq_zero _ _ _ List.not_mem_nil]
    unfold GatherDims.start
    rw [dif_neg (by decide)]
    simp only [Nat.add_zero, Nat.zero_add]
    rfl

theorem dist_word : ∀ k : Fin 129, IntOp.subi (IntOp.addi 16384#32 (BitVec.ofNat 32 0)) (IntOp.addi 16256#32 (BitVec.ofNat 32 k.val)) = BitVec.ofNat 32 (128 - k.val) := by
  decide +kernel

/-- A key's distance before the query. -/
theorem dist_at (k : Fin 129) : val_main_v23 (F := Ideal) (ix3 0 0 k) = BitVec.ofNat 32 (128 - k.val) := by
  rw [← dist_word k]
  pointwise [val_main_v23, val_main_v22, val_main_v20, val_main_v12, val_main_v11, val_main_v10, val_main_c, val_main_v9,
    val_main_v21, val_main_v16, val_main_v15, val_main_v14, val_main_c_0, val_main_v13]

theorem valid_word : ∀ k : Fin 129, IntOp.andi (IntOp.andi (IntOp.cmpi .sge (BitVec.ofNat 32 (128 - k.val)) 0#32) (IntOp.cmpi .slt (BitVec.ofNat 32 (128 - k.val)) 128#32))
    (IntOp.cmpi .sge (IntOp.addi 16256#32 (BitVec.ofNat 32 k.val)) 0#32) = if k.val = 0 then 0#1 else 1#1 := by
  decide +kernel

/-- The mask leaves out the first key alone. -/
theorem valid_at (k : Fin 129) : val_main_v32 (F := Ideal) (ix3 0 0 k) = if k.val = 0 then 0#1 else 1#1 := by
  rw [← valid_word k, ← dist_at k]
  pointwise [val_main_v32, val_main_v31, val_main_v30, val_main_c_3, val_main_v29, val_main_v28, val_main_v27, val_main_v26, val_main_c_2, val_main_v25, val_main_v24, val_main_c_1,
    val_main_v16, val_main_v15, val_main_v14, val_main_c_0, val_main_v13]

/-- The wrapped bucket at an index. -/
theorem wrap_at (k : Fin 129) : val_main_v57 (F := Ideal) (ix3 0 0 k) = wrapW (bucketW (BitVec.ofNat 32 (128 - k.val))) := by
  rw [← dist_at k]
  rfl

/-- The bias at an index. -/
theorem bias_at (b : Fin 128) (g : Fin 2) (p : Fin 4) (k : Fin 129) :
    val_main_v68 (F := Ideal) T (ix6 b 0 g p 0 k) = biasOf T (128 - k.val) ⟨4 * g.val + p.val, by omega⟩ := by
  pointwise [val_main_v68, val_main_v67, val_main_v61, val_main_v60, val_main_v59]
  rw [gather_at]
  have h : val_main_v58 (F := Ideal) (ix4 0 0 k 0) = wrapW (bucketW (BitVec.ofNat 32 (128 - k.val))) := by
    rw [← wrap_at k]
    pointwise [val_main_v58]
  rw [h]
  unfold biasOf
  grind

/-- The masked logits at an index: the scaled dot product and the bias, minus infinity at the first key. -/
theorem logit_at (b : Fin 128) (g : Fin 2) (p : Fin 4) (k : Fin 129) :
    val_main_v70 (F := Ideal) X K T (ix6 b 0 g p 0 k)
      = Scalar.select (if k.val = 0 then 0#1 else 1#1)
          ((∑ d : Fin 64, keyAt K X 512 (by decide) b k g d * X (ix2 b ⟨64 * (4 * g.val + p.val) + d.val, by omega⟩))
              * Ideal.ofBits FTy.f32 1040187392#32
            + biasOf T (128 - k.val) ⟨4 * g.val + p.val, by omega⟩) ⊥ := by
  pointwise [val_main_v70, val_main_call1_v1, val_main_v66, val_main_call1_v2, val_main_call1_v0, val_main_cst_14, val_main_v69, val_main_v65,
    val_main_v64, val_main_cst_13]
  rw [valid_at, dot_at, bias_at]
  simp only [k_at, q_at]
  exact congrArg (Scalar.select _ _) negInf

/-- The sinks, one per head. -/
theorem sink_at (g : Fin 2) (p : Fin 4) :
    val_main_v72 (F := Ideal) S (ix6 0 0 g p 0 0) = S (ix1 ⟨4 * g.val + p.val, by omega⟩) := by
  pointwise [val_main_v72, val_main_v71]
  grind

end Cert.Reference7Ideal.Stage
-- ==== Proof.SasRefSoft.lean ====
module

public import proofs.«01_k».proof.Proof.Gen.Reference7Ideal.Read
public import Idealize.ShloMosaic.Lib.Pointwise
public import proofs.«01_k».proof.Proof.SasRef

@[expose] public section

set_option maxRecDepth 16384

noncomputable section

open Idealize.ShloMosaic Idealize.ShloMosaic.TcCoe Idealize.SL.Sem
namespace Cert.Reference7Ideal.Stage
open Cert.Reference7Ideal Cert.Reference7Ideal.Gen Cert.Reference7Ideal.Read Cert.SwaSpec Cert.SasSpec

variable (X : FVec Ideal S128x768 .f32) (K : FVec Ideal S128x128x2x64 .f32) (V : FVec Ideal S128x128x2x64 .f32)
  (S : FVec Ideal S8 .f32) (T : FVec Ideal S32x8 .f32)

/-- A row's maximum over the keys. -/
theorem max_at (b : Fin 128) (g : Fin 2) (p : Fin 4) :
    val_main_v73 (F := Ideal) X K T (ix5 b 0 g p 0)
      = Finset.fold (β := EReal) max ⊥ (fun k : Fin 129 => val_main_v70 (F := Ideal) X K T (ix6 b 0 g p 0 k)) Finset.univ := by
  unfold val_main_v73
  generalize val_main_v70 (F := Ideal) X K T = y
  rw [Host.reduce_eq_fold_single _ _ _ _ (by decide)]
  have h : val_main_cst_15 (F := Ideal) (Shape.Idx.first h_S_) = ⊥ := negInf
  rw [h]
  refine congrArg (fun f => Finset.fold (β := EReal) max ⊥ f (Finset.univ : Finset (Fin 129))) (funext fun k => ?_)
  exact congrArg y (funext fun a => Fin.ext (by match a with | ⟨0, _⟩ => rfl | ⟨1, _⟩ => rfl | ⟨2, _⟩ => rfl | ⟨3, _⟩ => rfl | ⟨4, _⟩ => rfl | ⟨5, _⟩ => rfl))

/-- A row's sum over the keys. -/
theorem sum_at (b : Fin 128) (g : Fin 2) (p : Fin 4) :
    val_main_v80 (F := Ideal) X K S T (ix5 b 0 g p 0) = ∑ k : Fin 129, val_main_v79 (F := Ideal) X K S T (ix6 b 0 g p 0 k) := by
  rw [val_main_v80_apply]
  generalize val_main_v79 (F := Ideal) X K S T = y
  have h : val_main_cst_16 (F := Ideal) (Shape.Idx.first h_S_) = 0 := by
    show Ideal.ofBits FTy.f32 0#32 = 0
    simp [Ideal.ofBits, Ideal.ieee]
  rw [h, zero_add]
  refine Finset.sum_congr rfl fun k _ => ?_
  exact congrArg y (funext fun a => Fin.ext (by match a with | ⟨0, _⟩ => rfl | ⟨1, _⟩ => rfl | ⟨2, _⟩ => rfl | ⟨3, _⟩ => rfl | ⟨4, _⟩ => rfl | ⟨5, _⟩ => rfl))

/-- The maximum with the sink counted. -/
theorem m_at (b : Fin 128) (g : Fin 2) (p : Fin 4) :
    val_main_v76 (F := Ideal) X K S T (ix6 b 0 g p 0 0)
      = top (fun k : Fin 129 => val_main_v70 (F := Ideal) X K T (ix6 b 0 g p 0 k)) (S (ix1 ⟨4 * g.val + p.val, by omega⟩)) := by
  have h : val_main_v76 (F := Ideal) X K S T (ix6 b 0 g p 0 0)
      = max (α := EReal) (val_main_v73 (F := Ideal) X K T (ix5 b 0 g p 0)) (val_main_v72 (F := Ideal) S (ix6 0 0 g p 0 0)) := by
    rw [val_main_v76_apply, val_main_v74_apply, val_main_v75_apply]
    generalize val_main_v73 (F := Ideal) X K T = y
    generalize val_main_v72 (F := Ideal) S = z
    have h1 : idx_main_v74 (ix6 b 0 g p 0 0) = ix5 b 0 g p 0 := funext fun a => Fin.ext (by match a with | ⟨0, _⟩ => rfl | ⟨1, _⟩ => rfl | ⟨2, _⟩ => rfl | ⟨3, _⟩ => rfl | ⟨4, _⟩ => rfl)
    have h2 : idx_main_v75 (ix6 b 0 g p 0 0) = ix6 0 0 g p 0 0 := funext fun a => Fin.ext (by match a with | ⟨0, _⟩ => rfl | ⟨1, _⟩ => rfl | ⟨2, _⟩ => rfl | ⟨3, _⟩ => rfl | ⟨4, _⟩ => rfl | ⟨5, _⟩ => rfl)
    rw [h1, h2]
    exact Ideal.maximumf_def _ _
  rw [h, max_at, sink_at]
  rfl

/-- The exponentials at an index. -/
theorem exp_at (b : Fin 128) (g : Fin 2) (p : Fin 4) (k : Fin 129) :
    val_main_v79 (F := Ideal) X K S T (ix6 b 0 g p 0 k)
      = Ideal.exp (val_main_v70 (F := Ideal) X K T (ix6 b 0 g p 0 k) - val_main_v76 (F := Ideal) X K S T (ix6 b 0 g p 0 0)) := by
  pointwise [val_main_v79, val_main_v78, val_main_v77]

/-- The weights at an index. -/
theorem weight_at (b : Fin 128) (g : Fin 2) (p : Fin 4) (k : Fin 129) :
    val_main_v87 (F := Ideal) X K S T (ix6 b 0 g p 0 k)
      = Ideal.div (val_main_v79 (F := Ideal) X K S T (ix6 b 0 g p 0 k))
          (val_main_v80 (F := Ideal) X K S T (ix5 b 0 g p 0)
            + Ideal.exp (S (ix1 ⟨4 * g.val + p.val, by omega⟩) - val_main_v76 (F := Ideal) X K S T (ix6 b 0 g p 0 0))) := by
  rw [← sink_at S]
  unfold val_main_v87 val_main_v86 val_main_v85 val_main_v84 val_main_v83 val_main_v82 val_main_v81
  generalize val_main_v79 (F := Ideal) X K S T = e
  generalize val_main_v80 (F := Ideal) X K S T = y
  generalize val_main_v76 (F := Ideal) X K S T = w
  generalize val_main_v72 (F := Ideal) S = z
  pointwise

/-- The weighted values at an index. -/
theorem soft_at (b : Fin 128) (g : Fin 2) (p : Fin 4) (e : Fin 64) :
    val_main_v89 (F := Ideal) X K V S T (ix6 b 0 0 g p e)
      = ∑ k : Fin 129, val_main_v19 (F := Ideal) X V (ix5 b 0 k g e) * val_main_v87 (F := Ideal) X K S T (ix6 b 0 g p 0 k) := by
  unfold val_main_v89 val_main_v88
  generalize val_main_v87 (F := Ideal) X K S T = y
  generalize val_main_v19 (F := Ideal) X V = z
  pointwise

/-- The reference's result at an index: the row of its logits, its sink and its column of values. -/
theorem out_at (b : Fin 128) (g : Fin 2) (p : Fin 4) (e : Fin 64) :
    val_main_v91 (F := Ideal) X K V S T (ix2 b ⟨64 * (4 * g.val + p.val) + e.val, by omega⟩)
      = row (fun k => val_main_v70 (F := Ideal) X K T (ix6 b 0 g p 0 k)) (S (ix1 ⟨4 * g.val + p.val, by omega⟩))
          (fun k => keyAt V X 640 (by decide) b k g e) := by
  have h : val_main_v91 (F := Ideal) X K V S T (ix2 b ⟨64 * (4 * g.val + p.val) + e.val, by omega⟩)
      = val_main_v89 (F := Ideal) X K V S T (ix6 b 0 0 g p e) := by
    unfold val_main_v91 val_main_v90
    generalize val_main_v89 (F := Ideal) X K V S T = y
    pointwise
    try grind
  rw [h, soft_at]
  unfold row
  refine Finset.sum_congr rfl fun k _ => ?_
  rw [weight_at, sum_at, exp_at, m_at, mul_comm, v_at]
  simp only [exp_at, m_at]

end Cert.Reference7Ideal.Stage
-- ==== Proof.SasJoin.lean ====
module

public import proofs.«01_k».proof.Proof.Gen.Kernel7Ideal.Frame
public import Idealize.ShloMosaic.Lib.Pipeline.ValueKit
public import Idealize.ShloMosaic.Lib.Claim
public import Idealize.ShloMosaic.Lib.StableHlo.ReadAt
public import proofs.«01_k».proof.Proof.SasFinal
public import proofs.«01_k».proof.Proof.SasPre
public import proofs.«01_k».proof.Proof.SasRefSoft

@[expose] public section

set_option maxRecDepth 16384

noncomputable section

open Idealize.ShloMosaic Idealize.ShloMosaic.TcCoe Idealize.SL.Sem
open Idealize.ShloMosaic.Pipeline (Dat)

namespace Cert.Kernel7Ideal.Sas
open Cert.Kernel7Ideal Cert.Kernel7Ideal.Gen Cert.SwaSpec Cert.SasSpec
open Cert.Reference7Ideal.Read

variable (m : (ℓ : Loc nD τ sig) → Buf (Elt Ideal) ℓ)

/-- The reference's keys but the first are the kernel's. -/
theorem keyAt_succ (K : FVec Ideal S128x128x2x64 .f32) (X : FVec Ideal S128x768 .f32) (o : ℕ) (ho : o + 128 ≤ 768) (s k : Fin 128) (g : Fin 2) (d : Fin 64) :
    Cert.Reference7Ideal.Stage.keyAt K X o ho s k.succ g d = Table.winAt K X o ho s k g d := by
  unfold Cert.Reference7Ideal.Stage.keyAt Table.winAt
  by_cases h : k.val < 127
  · rw [dif_pos (show k.succ.val < 128 by rw [Fin.val_succ]; omega), dif_pos h]
    exact congrArg (fun q => K (ix4 s q g d)) (Fin.ext (Nat.add_comm k.val 1))
  · rw [dif_neg (show ¬ k.succ.val < 128 by rw [Fin.val_succ]; omega), dif_neg h]

theorem winAt_fin (K : FVec Ideal S128x128x2x64 .f32) (X : FVec Ideal S128x768 .f32)
    (hK : ∀ (b : Fin 128) (k : Fin 127) (g : Fin 2) (d : Fin 64), Fin' (K (ix4 b ⟨1 + k.val, by omega⟩ g d)))
    (hX : ∀ (i : Fin 128) (j : Fin 640), Fin' (X (ix2 i ⟨j.val, by omega⟩)))
    (s k : Fin 128) (g : Fin 2) (d : Fin 64) : Fin' (Table.winAt K X 512 (by decide) s k g d) := by
  unfold Table.winAt
  by_cases h : k.val < 127
  · rw [dif_pos h]
    exact hK s ⟨k.val, h⟩ g d
  · rw [dif_neg h]
    exact hX s ⟨512 + (64 * g.val + d.val), by omega⟩

/-- The kernel's row, of arrays that read the arguments so, is the reference's. -/
theorem outOf_eq (q : FVec Ideal S128x8x64 .f32) (kk vv : FVec Ideal S128x128x128 .f32) (b : FVec Ideal S8x128 .f32) (sk : FVec Ideal S8x1 .f32)
    (X : FVec Ideal S128x768 .f32) (K V : FVec Ideal S128x128x2x64 .f32) (S : FVec Ideal S8 .f32) (T : FVec Ideal S32x8 .f32)
    (hq : ∀ (s : Fin 128) (h : Fin 8) (d : Fin 64), q (ix3 s h d) = X (ix2 s ⟨64 * h.val + d.val, by omega⟩))
    (hk : ∀ (s k : Fin 128) (g : Fin 2) (d : Fin 64), kk (ix3 s k ⟨64 * g.val + d.val, by omega⟩) = Table.winAt K X 512 (by decide) s k g d)
    (hv : ∀ (s k : Fin 128) (g : Fin 2) (d : Fin 64), vv (ix3 s k ⟨64 * g.val + d.val, by omega⟩) = Table.winAt V X 640 (by decide) s k g d)
    (hb : ∀ (h : Fin 8) (k : Fin 128), b (ix2 h k) = biasOf T (127 - k.val) h)
    (hs : ∀ h : Fin 8, sk (ix2 h 0) = S (ix1 h))
    (hX : ∀ (i : Fin 128) (j : Fin 640), Fin' (X (ix2 i ⟨j.val, by omega⟩)))
    (hK : ∀ (b : Fin 128) (k : Fin 127) (g : Fin 2) (d : Fin 64), Fin' (K (ix4 b ⟨1 + k.val, by omega⟩ g d)))
    (hS : ∀ i : Fin 8, Fin' (S (ix1 i))) (hT : ∀ (i : Fin 32) (j : Fin 8), Fin' (T (ix2 i j)))
    (s : Fin 128) (g : Fin 2) (p : Fin 4) (e : Fin 64) :
    outOf q kk vv b sk s ⟨4 * g.val + p.val, by omega⟩ e
      = row (fun k : Fin 129 => Scalar.select (if k.val = 0 then 0#1 else 1#1)
          ((∑ d : Fin 64, Cert.Reference7Ideal.Stage.keyAt K X 512 (by decide) s k g d * X (ix2 s ⟨64 * (4 * g.val + p.val) + d.val, by omega⟩))
              * Ideal.ofBits FTy.f32 1040187392#32
            + biasOf T (128 - k.val) ⟨4 * g.val + p.val, by omega⟩) ⊥)
          (S (ix1 ⟨4 * g.val + p.val, by omega⟩)) (fun k => Cert.Reference7Ideal.Stage.keyAt V X 640 (by decide) s k g e) := by
  unfold outOf
  have eg : (4 * g.val + p.val) / 4 = g.val := by omega
  simp only [eg, hq, hk, hv, hb, hs, scaled_dot]
  refine (row_succ _ _ _ _ _ ?_ (fun k => ?_) (fun k => keyAt_succ ..) (hS _) (fun k => ?_)).symm
  · rfl
  · rw [if_neg (by rw [Fin.val_succ]; omega)]
    simp only [keyAt_succ]
    have ek : 128 - k.succ.val = 127 - k.val := by rw [Fin.val_succ]; omega
    rw [ek]
    rfl
  · exact (Fin'.add (Fin'.mul (fin_sum _ fun d => (winAt_fin K X hK hX ..).mul (hX s ⟨64 * (4 * g.val + p.val) + d.val, by omega⟩)) fin_scale) (hT ..)).1

/-- The kernel's output numbers are the reference's, where the precondition holds. -/
theorem out_eq (c : Dev nD)
    (hp : Cert.Pre_finite7.fn (F := Ideal) (m (c.tc.loc main_arg0)) (m (c.tc.loc main_arg1)) (m (c.tc.loc main_arg2)) (m (c.tc.loc main_arg3)) (m (c.tc.loc main_arg4)) = fun _ => 1#1)
    (s : Fin 128) (g : Fin 2) (p : Fin 4) (e : Fin 64) :
    outA m c s ⟨4 * g.val + p.val, by omega⟩ e
      = val_main_v91 (F := Ideal) (m (c.tc.loc main_arg0)) (m (c.tc.loc main_arg1)) (m (c.tc.loc main_arg2)) (m (c.tc.loc main_arg3)) (m (c.tc.loc main_arg4))
          (ix2 s ⟨64 * (4 * g.val + p.val) + e.val, by omega⟩) := by
  rw [Cert.Reference7Ideal.Stage.out_at]
  rw [funext fun k => Cert.Reference7Ideal.Stage.logit_at (m (c.tc.loc main_arg0)) (m (c.tc.loc main_arg1)) (m (c.tc.loc main_arg4)) s g p k]
  exact outOf_eq (V m c main_v40) (V m c main_v41) (V m c main_v42) (V m c main_v30) (V m c main_v43) (m (c.tc.loc main_arg0)) (m (c.tc.loc main_arg1)) (m (c.tc.loc main_arg2)) (m (c.tc.loc main_arg3)) (m (c.tc.loc main_arg4))
    (Table.q_at m c) (Table.k_at m c) (Table.v_at m c) (fun h k => (congrFun (Table.table_eq m c) _).trans (Table.bias_at _ h k)) (Table.s_at m c)
    (Cert.Pre_finite7.Pure.attn_fin hp) (Cert.Pre_finite7.Pure.buf_fin hp) (Cert.Pre_finite7.Pure.sink_fin hp) (Cert.Pre_finite7.Pure.bias_fin hp) s g p e

/-- What the host line after the kernel leaves in the result. -/
theorem tail45 (c : Dev nD)
    (hp : Cert.Pre_finite7.fn (F := Ideal) (m (c.tc.loc main_arg0)) (m (c.tc.loc main_arg1)) (m (c.tc.loc main_arg2)) (m (c.tc.loc main_arg3)) (m (c.tc.loc main_arg4)) = fun _ => 1#1) :
    Pipeline.afterTail₀ cfgs (dats m) 0 (V0 m) [hostOps1] c main_v45
      = val_main_v91 (F := Ideal) (m (c.tc.loc main_arg0)) (m (c.tc.loc main_arg1)) (m (c.tc.loc main_arg2)) (m (c.tc.loc main_arg3)) (m (c.tc.loc main_arg4)) := by
  have h : Pipeline.withArrays spec0 c (V0 m c) (fun w => (dats m 0 c).arrAt w cfg0.N) (Proc.devRef .tc main_v44) = res5 m c :=
    (Pipeline.Dat.withArrays_arrAt (dats m 0 c) (by decide : Pipeline.SharedIn spec0) (V0 m c) (A_eq m c) 5).trans (final5 m c)
  funext i
  idx_vars i
  unfold Pipeline.afterTail₀
  after_reads_at
  refine (congrFun h _).trans ?_
  refine (outA_ext m c rfl (Eq.symm (Nat.div_add_mod (i1.val / 64) 4)) rfl).trans
    ((out_eq m c hp i0 ⟨i1.val / 64 / 4, by omega⟩ ⟨i1.val / 64 % 4, by omega⟩ ⟨i1.val % 64, by omega⟩).trans ?_)
  congr 2
  exact Fin.ext (show 64 * (4 * (i1.val / 64 / 4) + i1.val / 64 % 4) + i1.val % 64 = i1.val by omega)

/-- The kernel's run: the result is the reference's, of the same arguments, which are left as they were. -/
theorem run (ρ : Dev nD → PrngReg)
    (hp : ∀ c : Dev nD, Cert.Pre_finite7.fn (F := Ideal) (m (c.tc.loc main_arg0)) (m (c.tc.loc main_arg1)) (m (c.tc.loc main_arg2)) (m (c.tc.loc main_arg3)) (m (c.tc.loc main_arg4)) = fun _ => 1#1) :
    θ_run defs (onTc (τ := τ) (main (F := Ideal))) ⟨m, fun _ => 0, ρ⟩ fun r => ∀ c : Dev nD,
      r.2.mem (c.tc.loc main_v45) = val_main_v91 (F := Ideal) (m (c.tc.loc main_arg0)) (m (c.tc.loc main_arg1)) (m (c.tc.loc main_arg2)) (m (c.tc.loc main_arg3)) (m (c.tc.loc main_arg4))
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3)
      ∧ r.2.mem (c.tc.loc main_arg4) = m (c.tc.loc main_arg4) :=
  (θ_run defs _ _).mono (fun r h c => ⟨((h c).2 main_v45 (Pipeline.mem_restRefs_of main_v45 (by decide) (by decide))).trans (tail45 m c (hp c)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩) (run_main m ρ)

end Cert.Kernel7Ideal.Sas
-- ==== Proof.OutSpec.lean ====
module

public import Idealize.ShloMosaic.Lib.Pointwise
public import proofs.«01_k».proof.Proof.InSpec

@[expose] public section

set_option maxRecDepth 16384

noncomputable section

open Idealize.ShloMosaic Idealize.ShloMosaic.TcCoe Idealize.SL.Sem
namespace Cert.OutSpec

/-- One number of the merged branches: each branch's row against its column of weights, weighed by its gate. -/
def merged (oa od : Fin 512 → EReal) (ga gb : EReal) (wa wd : Fin 512 → EReal) : EReal :=
  Ideal.logistic ga * (∑ i, oa i * wa i) + Ideal.logistic gb * (∑ i, od i * wd i)

/-- One number of the residual row: the row, plus the gated norm of the mixed row, scaled by the gain. -/
def resid (x gt mix g : Fin 1024 → EReal) (k : Fin 1024) : EReal :=
  x k + gt k * (mix k * Ideal.rsqrt (Ideal.div (∑ j, mix j * mix j) (Ideal.ofBits FTy.f32 1149239296#32) + Ideal.ofBits FTy.f32 897988541#32) * g k)

end Cert.OutSpec
-- ==== Proof.OusValue.lean ====
module

public import proofs.«01_k».proof.Proof.Gen.Kernel6Ideal.Frame
public import Idealize.ShloMosaic.Lib.Pipeline.ValueKit
public import Idealize.ShloMosaic.Lib.Claim
public import Idealize.ShloMosaic.Lib.StableHlo.ReadAt
public import proofs.«01_k».proof.Proof.OutSpec

@[expose] public section

set_option maxRecDepth 16384

noncomputable section

open Idealize.ShloMosaic Idealize.ShloMosaic.TcCoe Idealize.SL.Sem
open Idealize.ShloMosaic.Pipeline (Dat)

namespace Cert.Kernel6Ideal.Out
open Cert.Kernel6Ideal Cert.Kernel6Ideal.Gen Cert.OutSpec Cert.InSpec

variable (m : (ℓ : Loc nD τ sig) → Buf (Elt Ideal) ℓ)

/-- The modulation array: the rows of the conditioning after the first eight. -/
theorem V1 (c : Dev nD) (r : Fin 128) (k : Fin 6144) : V m c main_v1 (ix3 0 r k) = m (c.tc.loc main_arg5) (ix2 ⟨8 + r.val, by omega⟩ k) := by
  unfold V
  after_reads_at

/-- The activations, a row a sample. -/
theorem V2 (c : Dev nD) (r : Fin 128) (k : Fin 1024) : V m c main_v2 (ix2 r k) = m (c.tc.loc main_arg0) (ix3 r 0 k) := by
  unfold V
  after_reads_at

/-- The gain of the norm after the mixing, as one row. -/
theorem V3 (c : Dev nD) (k : Fin 1024) : V m c main_v3 (ix2 0 k) = m (c.tc.loc main_arg6) (ix1 k) := by
  unfold V
  after_reads_at

/-- The gain of the norm before the next part, as one row. -/
theorem V4 (c : Dev nD) (k : Fin 1024) : V m c main_v4 (ix2 0 k) = m (c.tc.loc main_arg7) (ix1 k) := by
  unfold V
  after_reads_at

/-- The attention's weights. -/
theorem V5 (c : Dev nD) (i : Fin 512) (k : Fin 1024) : V m c main_v5 (ix2 i k) = m (c.tc.loc main_arg8) (ix2 i k) := by
  unfold V
  after_reads_at

/-- The delta rule's weights. -/
theorem V6 (c : Dev nD) (i : Fin 512) (k : Fin 1024) : V m c main_v6 (ix2 i k) = m (c.tc.loc main_arg9) (ix2 i k) := by
  unfold V
  after_reads_at

/-- The mixing weights. -/
theorem V7 (c : Dev nD) (i : Fin 1024) (k : Fin 1024) : V m c main_v7 (ix2 i k) = m (c.tc.loc main_arg10) (ix2 i k) := by
  unfold V
  after_reads_at

/-- Which block each window takes at the one grid point. -/
theorem idx : ∀ t : Fin cfg0.N, win0_0.index t = ![0, 0]
    ∧ win0_1.index t = ![0, 0]
    ∧ win0_2.index t = ![0, 0]
    ∧ win0_3.index t = ![0, 0]
    ∧ win0_4.index t = ![0, 0]
    ∧ win0_5.index t = ![0, 0, 2]
    ∧ win0_6.index t = ![0, 0, 3]
    ∧ win0_7.index t = ![0, 0, 4]
    ∧ win0_8.index t = ![0, 0]
    ∧ win0_9.index t = ![0, 0]
    ∧ win0_10.index t = ![0, 0]
    ∧ win0_11.index t = ![0, 0]
    ∧ win0_12.index t = ![0, 0]
    ∧ win0_13.index t = ![0, 0]
    ∧ win0_14.index t = ![0, 0] :=
  (by decide +kernel : ∀ t : Fin grid0.N, _)

/-- The block of the attention's output. -/
theorem oa_blk (c : Dev nD) (t : Fin cfg0.N) (r : Fin 128) (k : Fin 512) : View.ld (Val := Elt Ideal) (e' := .f32) (iblk m c 1 t) r0_0 (ix2 r k) = m (c.tc.loc main_arg1) (ix2 r k) := by
  have h : iblk m c 1 t (ix2 r k) = V m c main_arg1 (ix2 r k) := by
    unfold iblk
    generalize V m c main_arg1 = W
    blk_ext [idx t]
  refine Eq.trans ?_ (h.trans (congrFun (V_main_arg1 m c) _))
  generalize iblk m c 1 t = x
  blk_ext [View.ld]
  all_goals simp

/-- The block of the delta rule's output. -/
theorem od_blk (c : Dev nD) (t : Fin cfg0.N) (r : Fin 128) (k : Fin 512) : View.ld (Val := Elt Ideal) (e' := .f32) (iblk m c 2 t) r0_0 (ix2 r k) = m (c.tc.loc main_arg2) (ix2 r k) := by
  have h : iblk m c 2 t (ix2 r k) = V m c main_arg2 (ix2 r k) := by
    unfold iblk
    generalize V m c main_arg2 = W
    blk_ext [idx t]
  refine Eq.trans ?_ (h.trans (congrFun (V_main_arg2 m c) _))
  generalize iblk m c 2 t = x
  blk_ext [View.ld]
  all_goals simp

/-- The block of the first gate. -/
theorem ga_blk (c : Dev nD) (t : Fin cfg0.N) (r : Fin 128) (k : Fin 1024) : View.ld (Val := Elt Ideal) (e' := .f32) (iblk m c 3 t) r0_2 (ix2 r k) = m (c.tc.loc main_arg3) (ix2 r k) := by
  have h : iblk m c 3 t (ix2 r k) = V m c main_arg3 (ix2 r k) := by
    unfold iblk
    generalize V m c main_arg3 = W
    blk_ext [idx t]
  refine Eq.trans ?_ (h.trans (congrFun (V_main_arg3 m c) _))
  generalize iblk m c 3 t = x
  blk_ext [View.ld]
  all_goals simp

/-- The block of the second gate. -/
theorem gb_blk (c : Dev nD) (t : Fin cfg0.N) (r : Fin 128) (k : Fin 1024) : View.ld (Val := Elt Ideal) (e' := .f32) (iblk m c 4 t) r0_2 (ix2 r k) = m (c.tc.loc main_arg4) (ix2 r k) := by
  have h : iblk m c 4 t (ix2 r k) = V m c main_arg4 (ix2 r k) := by
    unfold iblk
    generalize V m c main_arg4 = W
    blk_ext [idx t]
  refine Eq.trans ?_ (h.trans (congrFun (V_main_arg4 m c) _))
  generalize iblk m c 4 t = x
  blk_ext [View.ld]
  all_goals simp

/-- The block of activations. -/
theorem x_blk (c : Dev nD) (t : Fin cfg0.N) (r : Fin 128) (k : Fin 1024) : View.ld (Val := Elt Ideal) (e' := .f32) (iblk m c 0 t) r0_2 (ix2 r k) = m (c.tc.loc main_arg0) (ix3 r 0 k) := by
  have h : iblk m c 0 t (ix2 r k) = V m c main_v2 (ix2 r k) := by
    unfold iblk
    generalize V m c main_v2 = W
    blk_ext [idx t]
  refine Eq.trans ?_ (h.trans (V2 m c _ k))
  generalize iblk m c 0 t = x
  blk_ext [View.ld]
  all_goals simp

/-- The gates of the residual, a row a sample. -/
theorem gt_blk (c : Dev nD) (t : Fin cfg0.N) (r : Fin 128) (k : Fin 1024) : View.ld (Val := Elt Ideal) (e' := .f32) (iblk m c 5 t) r0_4 (ix3 0 r k) = m (c.tc.loc main_arg5) (ix2 ⟨8 + r.val, by omega⟩ ⟨2048 + k.val, by omega⟩) := by
  have h : iblk m c 5 t (ix3 0 r k) = V m c main_v1 (ix3 0 r ⟨2048 + k.val, by omega⟩) := by
    unfold iblk
    generalize V m c main_v1 = W
    blk_ext [idx t]
  refine Eq.trans ?_ (h.trans (V1 m c _ _))
  generalize iblk m c 5 t = x
  blk_ext [View.ld]
  all_goals simp

/-- The shifts, a row a sample. -/
theorem sh_blk (c : Dev nD) (t : Fin cfg0.N) (r : Fin 128) (k : Fin 1024) : View.ld (Val := Elt Ideal) (e' := .f32) (iblk m c 6 t) r0_4 (ix3 0 r k) = m (c.tc.loc main_arg5) (ix2 ⟨8 + r.val, by omega⟩ ⟨3072 + k.val, by omega⟩) := by
  have h : iblk m c 6 t (ix3 0 r k) = V m c main_v1 (ix3 0 r ⟨3072 + k.val, by omega⟩) := by
    unfold iblk
    generalize V m c main_v1 = W
    blk_ext [idx t]
  refine Eq.trans ?_ (h.trans (V1 m c _ _))
  generalize iblk m c 6 t = x
  blk_ext [View.ld]
  all_goals simp

/-- The scales, a row a sample. -/
theorem sc_blk (c : Dev nD) (t : Fin cfg0.N) (r : Fin 128) (k : Fin 1024) : View.ld (Val := Elt Ideal) (e' := .f32) (iblk m c 7 t) r0_4 (ix3 0 r k) = m (c.tc.loc main_arg5) (ix2 ⟨8 + r.val, by omega⟩ ⟨4096 + k.val, by omega⟩) := by
  have h : iblk m c 7 t (ix3 0 r k) = V m c main_v1 (ix3 0 r ⟨4096 + k.val, by omega⟩) := by
    unfold iblk
    generalize V m c main_v1 = W
    blk_ext [idx t]
  refine Eq.trans ?_ (h.trans (V1 m c _ _))
  generalize iblk m c 7 t = x
  blk_ext [View.ld]
  all_goals simp

/-- The gain after the mixing, whole. -/
theorem g1_blk (c : Dev nD) (t : Fin cfg0.N) (k : Fin 1024) : View.ld (Val := Elt Ideal) (e' := .f32) (iblk m c 8 t) r0_5 (ix2 0 k) = m (c.tc.loc main_arg6) (ix1 k) := by
  have h : iblk m c 8 t (ix2 0 k) = V m c main_v3 (ix2 0 k) := by
    unfold iblk
    generalize V m c main_v3 = W
    blk_ext [idx t]
  refine Eq.trans ?_ (h.trans (V3 m c k))
  generalize iblk m c 8 t = x
  blk_ext [View.ld]
  all_goals simp

/-- The gain before the next part, whole. -/
theorem g2_blk (c : Dev nD) (t : Fin cfg0.N) (k : Fin 1024) : View.ld (Val := Elt Ideal) (e' := .f32) (iblk m c 9 t) r0_5 (ix2 0 k) = m (c.tc.loc main_arg7) (ix1 k) := by
  have h : iblk m c 9 t (ix2 0 k) = V m c main_v4 (ix2 0 k) := by
    unfold iblk
    generalize V m c main_v4 = W
    blk_ext [idx t]
  refine Eq.trans ?_ (h.trans (V4 m c k))
  generalize iblk m c 9 t = x
  blk_ext [View.ld]
  all_goals simp

/-- The attention's weights, whole. -/
theorem wa_blk (c : Dev nD) (t : Fin cfg0.N) (i : Fin 512) (k : Fin 1024) : View.ld (Val := Elt Ideal) (e' := .bf16) (iblk m c 10 t) r0_1 (ix2 i k) = m (c.tc.loc main_arg8) (ix2 i k) := by
  have h : iblk m c 10 t (ix2 i k) = V m c main_v5 (ix2 i k) := by
    unfold iblk
    generalize V m c main_v5 = W
    blk_ext [idx t]
  refine Eq.trans ?_ (h.trans (V5 m c i k))
  generalize iblk m c 10 t = x
  blk_ext [View.ld]
  all_goals simp

/-- The delta rule's weights, whole. -/
theorem wd_blk (c : Dev nD) (t : Fin cfg0.N) (i : Fin 512) (k : Fin 1024) : View.ld (Val := Elt Ideal) (e' := .bf16) (iblk m c 11 t) r0_1 (ix2 i k) = m (c.tc.loc main_arg9) (ix2 i k) := by
  have h : iblk m c 11 t (ix2 i k) = V m c main_v6 (ix2 i k) := by
    unfold iblk
    generalize V m c main_v6 = W
    blk_ext [idx t]
  refine Eq.trans ?_ (h.trans (V6 m c i k))
  generalize iblk m c 11 t = x
  blk_ext [View.ld]
  all_goals simp

/-- The mixing weights, whole. -/
theorem wo_blk (c : Dev nD) (t : Fin cfg0.N) (i : Fin 1024) (k : Fin 1024) : View.ld (Val := Elt Ideal) (e' := .bf16) (iblk m c 12 t) r0_3 (ix2 i k) = m (c.tc.loc main_arg10) (ix2 i k) := by
  have h : iblk m c 12 t (ix2 i k) = V m c main_v7 (ix2 i k) := by
    unfold iblk
    generalize V m c main_v7 = W
    blk_ext [idx t]
  refine Eq.trans ?_ (h.trans (V7 m c i k))
  generalize iblk m c 12 t = x
  blk_ext [View.ld]
  all_goals simp

end Cert.Kernel6Ideal.Out
-- ==== Proof.OusFinal.lean ====
module

public import proofs.«01_k».proof.Proof.Gen.Kernel6Ideal.Frame
public import Idealize.ShloMosaic.Lib.Pipeline.ValueKit
public import Idealize.ShloMosaic.Lib.Claim
public import Idealize.ShloMosaic.Lib.StableHlo.ReadAt
public import proofs.«01_k».proof.Proof.OutSpec
public import proofs.«01_k».proof.Proof.OusValue

@[expose] public section

set_option maxRecDepth 16384

noncomputable section

open Idealize.ShloMosaic Idealize.ShloMosaic.TcCoe Idealize.SL.Sem
open Idealize.ShloMosaic.Pipeline (Dat)

namespace Cert.Kernel6Ideal.Out
open Cert.Kernel6Ideal Cert.Kernel6Ideal.Gen Cert.OutSpec Cert.InSpec

variable (m : (ℓ : Loc nD τ sig) → Buf (Elt Ideal) ℓ)

/-- The mixed row of the block: the merged branches against the mixing weights. -/
theorem pay3_at (oa : FVec Ideal S128x512 .f32) (wa : FVec Ideal S512x1024 .bf16) (od : FVec Ideal S128x512 .f32) (wd : FVec Ideal S512x1024 .bf16)
    (ga gb : FVec Ideal S128x1024 .f32) (wo : FVec Ideal S1024x1024 .bf16) (r : Fin 128) (k : Fin 1024) :
    k0_pay3 (F := Ideal) oa wa od wd ga gb wo (ix2 r k)
      = ∑ j, merged (fun i => oa (ix2 r i)) (fun i => od (ix2 r i)) (ga (ix2 r j)) (gb (ix2 r j)) (fun i => wa (ix2 i j)) (fun i => wd (ix2 i j)) * wo (ix2 j k) := by
  pointwise [k0_pay3, merged]

/-- The mean of the squares of a mixed row. -/
theorem pay7_at (oa : FVec Ideal S128x512 .f32) (wa : FVec Ideal S512x1024 .bf16) (od : FVec Ideal S128x512 .f32) (wd : FVec Ideal S512x1024 .bf16)
    (ga gb : FVec Ideal S128x1024 .f32) (wo : FVec Ideal S1024x1024 .bf16) (r : Fin 128) :
    k0_pay7 (F := Ideal) oa wa od wd ga gb wo (ix2 r 0)
      = Ideal.div (∑ j, k0_pay3 (F := Ideal) oa wa od wd ga gb wo (ix2 r j) * k0_pay3 (F := Ideal) oa wa od wd ga gb wo (ix2 r j)) (Ideal.ofBits FTy.f32 1149239296#32) := by
  unfold k0_pay7
  generalize k0_pay3 (F := Ideal) oa wa od wd ga gb wo = h
  pointwise

/-- The residual row of a block. -/
theorem pay1_at (mix x gt : FVec Ideal S128x1024 .f32) (g : FVec Ideal S1x1024 .f32) (ms : FVec Ideal S128x1 .f32) (r : Fin 128) (k : Fin 1024)
    (h : ms (ix2 r 0) = Ideal.div (∑ j, mix (ix2 r j) * mix (ix2 r j)) (Ideal.ofBits FTy.f32 1149239296#32)) :
    k0_pay1 (F := Ideal) mix x gt g ms (Scalar.ofBits .f32 0x358637BD#32) (ix2 r k)
      = resid (fun j => x (ix2 r j)) (fun j => gt (ix2 r j)) (fun j => mix (ix2 r j)) (fun j => g (ix2 0 j)) k := by
  unfold resid
  rw [← h]
  pointwise [k0_pay1]

/-- The next part's row of a block, of the residual row. -/
theorem pay2_at (mix x gt : FVec Ideal S128x1024 .f32) (g : FVec Ideal S1x1024 .f32) (ms : FVec Ideal S128x1 .f32) (e : EReal) (g2 : FVec Ideal S1x1024 .f32)
    (sc sh : FVec Ideal S1x128x1024 .f32) (r : Fin 128) (k : Fin 1024) :
    k0_pay2 (F := Ideal) mix x gt g ms e g2 sc sh (ix2 r k)
      = normed (fun j => k0_pay1 (F := Ideal) mix x gt g ms e (ix2 r j)) (fun j => g2 (ix2 0 j)) (fun j => sc (ix3 0 r j)) (fun j => sh (ix3 0 r j)) k := by
  unfold k0_pay2
  generalize k0_pay1 (F := Ideal) mix x gt g ms e = h
  pointwise [normed]

theorem pay4_at (x : FVec Ideal S128x1024 .f32) (r : Fin 128) (k : Fin 1024) : k0_pay4 (F := Ideal) x (ix2 r k) = x (ix2 r k) := by
  pointwise [k0_pay4]
theorem pay5_at (x : FVec Ideal S1x128x1024 .f32) (r : Fin 128) (k : Fin 1024) : k0_pay5 (F := Ideal) x (ix2 r k) = x (ix3 0 r k) := by
  pointwise [k0_pay5]
theorem pay6_at (x : FVec Ideal S1x1024 .f32) (k : Fin 1024) : k0_pay6 (F := Ideal) x (ix2 0 k) = x (ix2 0 k) := by
  pointwise [k0_pay6]

/-- A mixed row, of the arguments. -/
def mixA (c : Dev nD) (R : Fin 128) (k : Fin 1024) : EReal :=
  ∑ j, merged (fun i => m (c.tc.loc main_arg1) (ix2 R i)) (fun i => m (c.tc.loc main_arg2) (ix2 R i)) (m (c.tc.loc main_arg3) (ix2 R j)) (m (c.tc.loc main_arg4) (ix2 R j))
      (fun i => m (c.tc.loc main_arg8) (ix2 i j)) (fun i => m (c.tc.loc main_arg9) (ix2 i j)) * m (c.tc.loc main_arg10) (ix2 j k)

/-- A residual row, of the arguments. -/
def x1A (c : Dev nD) (R : Fin 128) (k : Fin 1024) : EReal :=
  resid (fun j => m (c.tc.loc main_arg0) (ix3 R 0 j)) (fun j => m (c.tc.loc main_arg5) (ix2 ⟨8 + R.val, by omega⟩ ⟨2048 + j.val, by omega⟩))
    (mixA m c R) (fun j => m (c.tc.loc main_arg6) (ix1 j)) k

/-- A row for the next part, of the arguments. -/
def h2A (c : Dev nD) (R : Fin 128) (k : Fin 1024) : EReal :=
  normed (x1A m c R) (fun j => m (c.tc.loc main_arg7) (ix1 j)) (fun j => m (c.tc.loc main_arg5) (ix2 ⟨8 + R.val, by omega⟩ ⟨4096 + j.val, by omega⟩))
    (fun j => m (c.tc.loc main_arg5) (ix2 ⟨8 + R.val, by omega⟩ ⟨3072 + j.val, by omega⟩)) k

/-- The block's mixed rows are the arguments'. -/
theorem mix_at (c : Dev nD) (t : Fin cfg0.N) (r : Fin 128) (k : Fin 1024) :
    k0_pay3 (F := Ideal) (View.ld (iblk m c 1 t) r0_0) (View.ld (iblk m c 10 t) r0_1) (View.ld (iblk m c 2 t) r0_0) (View.ld (iblk m c 11 t) r0_1) (View.ld (iblk m c 3 t) r0_2) (View.ld (iblk m c 4 t) r0_2) (View.ld (iblk m c 12 t) r0_3) (ix2 r k)
      = mixA m c r k := by
  refine (pay3_at ..).trans ?_
  unfold mixA
  refine Finset.sum_congr rfl fun j _ => congrArg₂ (· * ·) ?_ (wo_blk m c t j k)
  congr 1
  · funext i; exact oa_blk m c t r i
  · funext i; exact od_blk m c t r i
  · exact ga_blk m c t r j
  · exact gb_blk m c t r j
  · funext i; exact wa_blk m c t i j
  · funext i; exact wd_blk m c t i j

/-- What the grid point leaves in the residual's block. -/
theorem x1_at (c : Dev nD) (t : Fin cfg0.N) (r : Fin 128) (k : Fin 1024) :
    k0_pay1 (F := Ideal)
      (k0_pay3 (View.ld (iblk m c 1 t) r0_0) (View.ld (iblk m c 10 t) r0_1) (View.ld (iblk m c 2 t) r0_0) (View.ld (iblk m c 11 t) r0_1) (View.ld (iblk m c 3 t) r0_2) (View.ld (iblk m c 4 t) r0_2) (View.ld (iblk m c 12 t) r0_3))
      (k0_pay4 (View.ld (iblk m c 0 t) r0_2)) (k0_pay5 (View.ld (iblk m c 5 t) r0_4)) (k0_pay6 (View.ld (iblk m c 8 t) r0_5))
      (k0_pay7 (View.ld (iblk m c 1 t) r0_0) (View.ld (iblk m c 10 t) r0_1) (View.ld (iblk m c 2 t) r0_0) (View.ld (iblk m c 11 t) r0_1) (View.ld (iblk m c 3 t) r0_2) (View.ld (iblk m c 4 t) r0_2) (View.ld (iblk m c 12 t) r0_3))
      (Scalar.ofBits .f32 0x358637BD#32) (ix2 r k)
      = x1A m c r k := by
  refine (pay1_at _ _ _ _ _ r k (pay7_at ..)).trans ?_
  unfold x1A
  congr 1
  · funext j; exact (pay4_at ..).trans (x_blk m c t r j)
  · funext j; exact (pay5_at ..).trans (gt_blk m c t r j)
  · funext j; exact mix_at m c t r j
  · funext j; exact (pay6_at ..).trans (g1_blk m c t j)

/-- The residual, as an array. -/
def res13 (c : Dev nD) (i : S128x1024.Idx) : EReal := x1A m c (i 0) (i 1)

/-- The next part's rows, as an array. -/
def res14 (c : Dev nD) (i : S128x1024.Idx) : EReal := h2A m c (i 0) (i 1)

theorem final13 (c : Dev nD) : (dats m 0 c).arrAt 13 cfg0.N = res13 m c := by
  refine (dats m 0 c).arrAt_eq_of_covers 13 _ (by decide +kernel) fun t hf y => ?_
  have e0 : ((((View.whole main_v8_0).slice (win0_13.rect t)).emb y) 0 : ℕ) = (y 0).val := by
    blk_simp [idx t]
  have e1 : ((((View.whole main_v8_0).slice (win0_13.rect t)).emb y) 1 : ℕ) = (y 1).val := by
    blk_simp [idx t]
  blk_simp
  rw [after0_13]
  unfold_out out0_13
  generalize hi : ((View.whole main_v8_0).slice (win0_13.rect t)).emb y = i at e0 e1 ⊢
  canon_tiles x h
  all_goals idx_vars x
  refine (x1_at m c t _ _).trans ?_
  unfold res13
  exact congrArg₂ (x1A m c) (Fin.ext (by rw [e0, h0])) (Fin.ext (by rw [e1, h1]))

theorem final14 (c : Dev nD) : (dats m 0 c).arrAt 14 cfg0.N = res14 m c := by
  refine (dats m 0 c).arrAt_eq_of_covers 14 _ (by decide +kernel) fun t hf y => ?_
  have e0 : ((((View.whole main_v8_1).slice (win0_14.rect t)).emb y) 0 : ℕ) = (y 0).val := by
    blk_simp [idx t]
  have e1 : ((((View.whole main_v8_1).slice (win0_14.rect t)).emb y) 1 : ℕ) = (y 1).val := by
    blk_simp [idx t]
  blk_simp
  rw [after0_14]
  unfold_out out0_14
  generalize hi : ((View.whole main_v8_1).slice (win0_14.rect t)).emb y = i at e0 e1 ⊢
  canon_tiles x h
  all_goals idx_vars x
  refine (pay2_at ..).trans ?_
  refine Eq.trans (b := h2A m c _ _) ?_ (congrArg₂ (h2A m c) (Fin.ext (by rw [e0, h0])) (Fin.ext (by rw [e1, h1])))
  unfold h2A
  congr 1
  · funext j; exact x1_at m c t _ j
  · funext j; exact g2_blk m c t j
  · funext j; exact sc_blk m c t _ j
  · funext j; exact sh_blk m c t _ j

end Cert.Kernel6Ideal.Out
-- ==== Proof.OusRef.lean ====
module

public import proofs.«01_k».proof.Proof.Gen.Reference6Ideal.Read
public import Idealize.ShloMosaic.Lib.Pointwise
public import proofs.«01_k».proof.Proof.OutSpec

@[expose] public section

set_option maxRecDepth 16384

noncomputable section

open Idealize.ShloMosaic Idealize.ShloMosaic.TcCoe Idealize.SL.Sem
namespace Cert.Reference6Ideal.Stage
open Cert.Reference6Ideal Cert.Reference6Ideal.Gen Cert.Reference6Ideal.Read Cert.OutSpec Cert.InSpec

variable (X : FVec Ideal S128x1x1024 .f32) (oa od : FVec Ideal S128x512 .f32) (ga gb : FVec Ideal S128x1024 .f32) (A : FVec Ideal S136x6144 .f32)
  (g1 g2 : FVec Ideal S1024 .f32) (wa wd : FVec Ideal S512x1024 .f32) (wo : FVec Ideal S1024x1024 .f32)

/-- The reference's merged branches. -/
theorem merged_at (r : Fin 128) (j : Fin 1024) :
    val_main_v33 (F := Ideal) oa od ga gb wa wd (ix3 r 0 j)
      = merged (fun i => oa (ix2 r i)) (fun i => od (ix2 r i)) (ga (ix2 r j)) (gb (ix2 r j)) (fun i => wa (ix2 i j)) (fun i => wd (ix2 i j)) := by
  pointwise [val_main_v33, val_main_v32, val_main_v31, val_main_v30, val_main_v29, val_main_v28, val_main_v27, val_main_v26, val_main_v25, val_main_v24, val_main_v23, val_main_v22, val_main_v21, val_main_v20, val_main_v19, val_main_v18, val_main_v17, val_main_v16, val_main_v15, val_main_v14, val_main_v13, val_main_cst, val_main_cst_0, val_main_cst_1, val_main_cst_2, merged, Ideal.logistic]

/-- The reference's mixed row. -/
theorem mix_at (r : Fin 128) (k : Fin 1024) :
    val_main_v34 (F := Ideal) oa od ga gb wa wd wo (ix3 r 0 k) = ∑ j, val_main_v33 (F := Ideal) oa od ga gb wa wd (ix3 r 0 j) * wo (ix2 j k) := by
  unfold val_main_v34
  generalize val_main_v33 (F := Ideal) oa od ga gb wa wd = h
  pointwise

/-- The reference's residual row. -/
theorem resid_at (r : Fin 128) (k : Fin 1024) :
    val_main_v49 (F := Ideal) X oa od ga gb A g1 wa wd wo (ix3 r 0 k)
      = resid (fun j => X (ix3 r 0 j)) (fun j => A (ix2 ⟨8 + r.val, by omega⟩ ⟨2048 + j.val, by omega⟩))
          (fun j => val_main_v34 (F := Ideal) oa od ga gb wa wd wo (ix3 r 0 j)) (fun j => g1 (ix1 j)) k := by
  unfold val_main_v49 val_main_v48 val_main_v47 val_main_v46 val_main_v45 val_main_v44 val_main_v43 val_main_v42 val_main_v41 val_main_v40 val_main_v39 val_main_v38 val_main_v37 val_main_v36 val_main_v35 val_main_v9 val_main_v3 val_main_v0 val_main_cst_3 val_main_cst_4 val_main_cst_5
  generalize val_main_v34 (F := Ideal) oa od ga gb wa wd wo = h
  pointwise [resid]

/-- The reference's row for the next part. -/
theorem next_at (r : Fin 128) (k : Fin 1024) :
    val_main_v66 (F := Ideal) X oa od ga gb A g1 g2 wa wd wo (ix3 r 0 k)
      = normed (fun j => val_main_v49 (F := Ideal) X oa od ga gb A g1 wa wd wo (ix3 r 0 j)) (fun j => g2 (ix1 j))
          (fun j => A (ix2 ⟨8 + r.val, by omega⟩ ⟨4096 + j.val, by omega⟩)) (fun j => A (ix2 ⟨8 + r.val, by omega⟩ ⟨3072 + j.val, by omega⟩)) k := by
  unfold val_main_v66 val_main_v65 val_main_v64 val_main_v63 val_main_v62 val_main_v61 val_main_v60 val_main_v59 val_main_v58 val_main_v57 val_main_v56 val_main_v55 val_main_v54 val_main_v53 val_main_v52 val_main_v51 val_main_v50 val_main_v10 val_main_v11 val_main_v4 val_main_v5 val_main_v0 val_main_cst_6 val_main_cst_7 val_main_cst_8 val_main_cst_9
  generalize val_main_v49 (F := Ideal) X oa od ga gb A g1 wa wd wo = h
  pointwise [normed]

theorem v67_at (R : Fin 128) (k : Fin 1024) : val_main_v67 (F := Ideal) X oa od ga gb A g1 wa wd wo (ix2 R k)
    = val_main_v49 (F := Ideal) X oa od ga gb A g1 wa wd wo (ix3 R 0 k) := by
  unfold val_main_v67
  generalize val_main_v49 (F := Ideal) X oa od ga gb A g1 wa wd wo = h
  pointwise

theorem v68_at (R : Fin 128) (k : Fin 1024) : val_main_v68 (F := Ideal) X oa od ga gb A g1 g2 wa wd wo (ix2 R k)
    = val_main_v66 (F := Ideal) X oa od ga gb A g1 g2 wa wd wo (ix3 R 0 k) := by
  unfold val_main_v68
  generalize val_main_v66 (F := Ideal) X oa od ga gb A g1 g2 wa wd wo = h
  pointwise

end Cert.Reference6Ideal.Stage
-- ==== Proof.OusJoin.lean ====
module

public import proofs.«01_k».proof.Proof.OusFinal
public import proofs.«01_k».proof.Proof.OusRef

@[expose] public section

set_option maxRecDepth 16384

noncomputable section

open Idealize.ShloMosaic Idealize.ShloMosaic.TcCoe Idealize.SL.Sem
open Idealize.ShloMosaic.Pipeline (Dat)

namespace Cert.Kernel6Ideal.Out
open Cert.Kernel6Ideal Cert.Kernel6Ideal.Gen Cert.OutSpec Cert.InSpec Cert.Reference6Ideal.Read Cert.Reference6Ideal.Stage

variable (m : (ℓ : Loc nD τ sig) → Buf (Elt Ideal) ℓ)

/-- The mixed rows are the reference's. -/
theorem mixA_eq (c : Dev nD) (R : Fin 128) (k : Fin 1024) : mixA m c R k
    = val_main_v34 (F := Ideal) (m (c.tc.loc main_arg1)) (m (c.tc.loc main_arg2)) (m (c.tc.loc main_arg3)) (m (c.tc.loc main_arg4)) (m (c.tc.loc main_arg8)) (m (c.tc.loc main_arg9)) (m (c.tc.loc main_arg10)) (ix3 R 0 k) := by
  refine Eq.trans ?_ (Cert.Reference6Ideal.Stage.mix_at ..).symm
  unfold mixA
  refine Finset.sum_congr rfl fun j _ => congrArg (· * _) (Eq.trans ?_ (merged_at ..).symm)
  rfl

/-- The residual rows are the reference's. -/
theorem x1A_eq (c : Dev nD) (R : Fin 128) (k : Fin 1024) : x1A m c R k
    = val_main_v49 (F := Ideal) (m (c.tc.loc main_arg0)) (m (c.tc.loc main_arg1)) (m (c.tc.loc main_arg2)) (m (c.tc.loc main_arg3)) (m (c.tc.loc main_arg4)) (m (c.tc.loc main_arg5)) (m (c.tc.loc main_arg6)) (m (c.tc.loc main_arg8)) (m (c.tc.loc main_arg9)) (m (c.tc.loc main_arg10)) (ix3 R 0 k) := by
  refine Eq.trans ?_ (resid_at ..).symm
  unfold x1A
  refine congrArg (fun f => resid _ _ f _ k) (funext fun j => mixA_eq m c R j)

/-- The rows for the next part are the reference's. -/
theorem h2A_eq (c : Dev nD) (R : Fin 128) (k : Fin 1024) : h2A m c R k
    = val_main_v66 (F := Ideal) (m (c.tc.loc main_arg0)) (m (c.tc.loc main_arg1)) (m (c.tc.loc main_arg2)) (m (c.tc.loc main_arg3)) (m (c.tc.loc main_arg4)) (m (c.tc.loc main_arg5)) (m (c.tc.loc main_arg6)) (m (c.tc.loc main_arg7)) (m (c.tc.loc main_arg8)) (m (c.tc.loc main_arg9)) (m (c.tc.loc main_arg10)) (ix3 R 0 k) := by
  refine Eq.trans ?_ (next_at ..).symm
  unfold h2A
  refine congrArg (fun f => normed f _ _ _ k) (funext fun j => x1A_eq m c R j)

theorem arr13 (c : Dev nD) : (dats m 0 c).arrAt 13 cfg0.N = val_main_v67 (F := Ideal) (m (c.tc.loc main_arg0)) (m (c.tc.loc main_arg1)) (m (c.tc.loc main_arg2)) (m (c.tc.loc main_arg3)) (m (c.tc.loc main_arg4)) (m (c.tc.loc main_arg5)) (m (c.tc.loc main_arg6)) (m (c.tc.loc main_arg8)) (m (c.tc.loc main_arg9)) (m (c.tc.loc main_arg10)) := by
  rw [final13]
  funext i
  idx_vars i
  exact (x1A_eq ..).trans (v67_at ..).symm

theorem arr14 (c : Dev nD) : (dats m 0 c).arrAt 14 cfg0.N = val_main_v68 (F := Ideal) (m (c.tc.loc main_arg0)) (m (c.tc.loc main_arg1)) (m (c.tc.loc main_arg2)) (m (c.tc.loc main_arg3)) (m (c.tc.loc main_arg4)) (m (c.tc.loc main_arg5)) (m (c.tc.loc main_arg6)) (m (c.tc.loc main_arg7)) (m (c.tc.loc main_arg8)) (m (c.tc.loc main_arg9)) (m (c.tc.loc main_arg10)) := by
  rw [final14]
  funext i
  idx_vars i
  exact (h2A_eq ..).trans (v68_at ..).symm

/-- The kernel's run: each result is the reference's, of the same arguments, which are left as they were. -/
theorem run (ρ : Dev nD → PrngReg) : θ_run defs (onTc (τ := τ) (main (F := Ideal))) ⟨m, fun _ => 0, ρ⟩ fun r => ∀ c : Dev nD,
      r.2.mem (c.tc.loc main_v8_0) = val_main_v67 (F := Ideal) (m (c.tc.loc main_arg0)) (m (c.tc.loc main_arg1)) (m (c.tc.loc main_arg2)) (m (c.tc.loc main_arg3)) (m (c.tc.loc main_arg4)) (m (c.tc.loc main_arg5)) (m (c.tc.loc main_arg6)) (m (c.tc.loc main_arg8)) (m (c.tc.loc main_arg9)) (m (c.tc.loc main_arg10))
      ∧ r.2.mem (c.tc.loc main_v8_1) = val_main_v68 (F := Ideal) (m (c.tc.loc main_arg0)) (m (c.tc.loc main_arg1)) (m (c.tc.loc main_arg2)) (m (c.tc.loc main_arg3)) (m (c.tc.loc main_arg4)) (m (c.tc.loc main_arg5)) (m (c.tc.loc main_arg6)) (m (c.tc.loc main_arg7)) (m (c.tc.loc main_arg8)) (m (c.tc.loc main_arg9)) (m (c.tc.loc main_arg10))
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3)
      ∧ r.2.mem (c.tc.loc main_arg4) = m (c.tc.loc main_arg4)
      ∧ r.2.mem (c.tc.loc main_arg5) = m (c.tc.loc main_arg5)
      ∧ r.2.mem (c.tc.loc main_arg6) = m (c.tc.loc main_arg6)
      ∧ r.2.mem (c.tc.loc main_arg7) = m (c.tc.loc main_arg7)
      ∧ r.2.mem (c.tc.loc main_arg8) = m (c.tc.loc main_arg8)
      ∧ r.2.mem (c.tc.loc main_arg9) = m (c.tc.loc main_arg9)
      ∧ r.2.mem (c.tc.loc main_arg10) = m (c.tc.loc main_arg10) :=
  (θ_run defs _ _).mono (fun r h c => ⟨((h c).1 13).trans (arr13 m c),
      ((h c).1 14).trans (arr14 m c),
      ((h c).2 main_arg0 (Pipeline.mem_restRefs_of main_arg0 (by decide) (by decide))).trans (V_main_arg0 m c),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c))),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c)⟩) (run_main m ρ)

end Cert.Kernel6Ideal.Out
-- ==== Proof.OutValue.lean ====
module

public import proofs.«01_k».proof.Proof.Gen.Kernel3Ideal.Frame
public import Idealize.ShloMosaic.Lib.Pipeline.ValueKit
public import Idealize.ShloMosaic.Lib.Claim
public import Idealize.ShloMosaic.Lib.StableHlo.ReadAt
public import proofs.«01_k».proof.Proof.OutSpec

@[expose] public section

set_option maxRecDepth 16384

noncomputable section

open Idealize.ShloMosaic Idealize.ShloMosaic.TcCoe Idealize.SL.Sem
open Idealize.ShloMosaic.Pipeline (Dat)

namespace Cert.Kernel3Ideal.Out
open Cert.Kernel3Ideal Cert.Kernel3Ideal.Gen Cert.OutSpec Cert.InSpec

variable (m : (ℓ : Loc nD τ sig) → Buf (Elt Ideal) ℓ)

/-- The modulation array: the first eight rows of the conditioning. -/
theorem V1 (c : Dev nD) (b : Fin 8) (k : Fin 6144) : V m c main_v1 (ix3 b 0 k) = m (c.tc.loc main_arg5) (ix2 ⟨b.val, by omega⟩ k) := by
  unfold V
  after_reads_at

/-- The activations, a row a position. -/
theorem V2 (c : Dev nD) (r : Fin 32768) (k : Fin 1024) : V m c main_v2 (ix2 r k) = m (c.tc.loc main_arg0) (ix3 ⟨r.val / 4096, by omega⟩ ⟨r.val % 4096, by omega⟩ k) := by
  unfold V
  after_reads_at

/-- The gain of the norm after the mixing, as one row. -/
theorem V3 (c : Dev nD) (k : Fin 1024) : V m c main_v3 (ix2 0 k) = m (c.tc.loc main_arg6) (ix1 k) := by
  unfold V
  after_reads_at

/-- The gain of the norm before the next part, as one row. -/
theorem V4 (c : Dev nD) (k : Fin 1024) : V m c main_v4 (ix2 0 k) = m (c.tc.loc main_arg7) (ix1 k) := by
  unfold V
  after_reads_at

/-- The attention's weights. -/
theorem V5 (c : Dev nD) (i : Fin 512) (k : Fin 1024) : V m c main_v5 (ix2 i k) = m (c.tc.loc main_arg8) (ix2 i k) := by
  unfold V
  after_reads_at

/-- The delta rule's weights. -/
theorem V6 (c : Dev nD) (i : Fin 512) (k : Fin 1024) : V m c main_v6 (ix2 i k) = m (c.tc.loc main_arg9) (ix2 i k) := by
  unfold V
  after_reads_at

/-- The mixing weights. -/
theorem V7 (c : Dev nD) (i : Fin 1024) (k : Fin 1024) : V m c main_v7 (ix2 i k) = m (c.tc.loc main_arg10) (ix2 i k) := by
  unfold V
  after_reads_at

/-- Which block each window takes at each grid point. -/
theorem idx : ∀ t : Fin cfg0.N, win0_0.index t = ![t.val, 0]
    ∧ win0_1.index t = ![t.val, 0]
    ∧ win0_2.index t = ![t.val, 0]
    ∧ win0_3.index t = ![t.val, 0]
    ∧ win0_4.index t = ![t.val, 0]
    ∧ win0_5.index t = ![t.val / 16, 0, 2]
    ∧ win0_6.index t = ![t.val / 16, 0, 3]
    ∧ win0_7.index t = ![t.val / 16, 0, 4]
    ∧ win0_8.index t = ![0, 0]
    ∧ win0_9.index t = ![0, 0]
    ∧ win0_10.index t = ![0, 0]
    ∧ win0_11.index t = ![0, 0]
    ∧ win0_12.index t = ![0, 0]
    ∧ win0_13.index t = ![t.val, 0]
    ∧ win0_14.index t = ![t.val, 0] :=
  (by decide +kernel : ∀ t : Fin grid0.N, _)

/-- A grid point's number is below 128. -/
theorem t_lt (t : Fin cfg0.N) : t.val < 128 := t.isLt

/-- The row of the whole array which a block's row is. -/
def rowOf (t : Fin cfg0.N) (r : Fin 256) : Fin 32768 := ⟨256 * t.val + r.val, by have := t_lt t; omega⟩

/-- The block of the attention's output. -/
theorem oa_blk (c : Dev nD) (t : Fin cfg0.N) (r : Fin 256) (k : Fin 512) : View.ld (Val := Elt Ideal) (e' := .f32) (iblk m c 1 t) r0_0 (ix2 r k) = m (c.tc.loc main_arg1) (ix2 (rowOf t r) k) := by
  have h : iblk m c 1 t (ix2 r k) = V m c main_arg1 (ix2 (rowOf t r) k) := by
    have := t_lt t
    unfold iblk
    generalize V m c main_arg1 = W
    blk_ext [idx t, rowOf]
  refine Eq.trans ?_ (h.trans (congrFun (V_main_arg1 m c) _))
  generalize iblk m c 1 t = x
  blk_ext [View.ld]
  all_goals simp

/-- The block of the delta rule's output. -/
theorem od_blk (c : Dev nD) (t : Fin cfg0.N) (r : Fin 256) (k : Fin 512) : View.ld (Val := Elt Ideal) (e' := .f32) (iblk m c 2 t) r0_0 (ix2 r k) = m (c.tc.loc main_arg2) (ix2 (rowOf t r) k) := by
  have h : iblk m c 2 t (ix2 r k) = V m c main_arg2 (ix2 (rowOf t r) k) := by
    have := t_lt t
    unfold iblk
    generalize V m c main_arg2 = W
    blk_ext [idx t, rowOf]
  refine Eq.trans ?_ (h.trans (congrFun (V_main_arg2 m c) _))
  generalize iblk m c 2 t = x
  blk_ext [View.ld]
  all_goals simp

/-- The block of the first gate. -/
theorem ga_blk (c : Dev nD) (t : Fin cfg0.N) (r : Fin 256) (k : Fin 1024) : View.ld (Val := Elt Ideal) (e' := .f32) (iblk m c 3 t) r0_2 (ix2 r k) = m (c.tc.loc main_arg3) (ix2 (rowOf t r) k) := by
  have h : iblk m c 3 t (ix2 r k) = V m c main_arg3 (ix2 (rowOf t r) k) := by
    have := t_lt t
    unfold iblk
    generalize V m c main_arg3 = W
    blk_ext [idx t, rowOf]
  refine Eq.trans ?_ (h.trans (congrFun (V_main_arg3 m c) _))
  generalize iblk m c 3 t = x
  blk_ext [View.ld]
  all_goals simp

/-- The block of the second gate. -/
theorem gb_blk (c : Dev nD) (t : Fin cfg0.N) (r : Fin 256) (k : Fin 1024) : View.ld (Val := Elt Ideal) (e' := .f32) (iblk m c 4 t) r0_2 (ix2 r k) = m (c.tc.loc main_arg4) (ix2 (rowOf t r) k) := by
  have h : iblk m c 4 t (ix2 r k) = V m c main_arg4 (ix2 (rowOf t r) k) := by
    have := t_lt t
    unfold iblk
    generalize V m c main_arg4 = W
    blk_ext [idx t, rowOf]
  refine Eq.trans ?_ (h.trans (congrFun (V_main_arg4 m c) _))
  generalize iblk m c 4 t = x
  blk_ext [View.ld]
  all_goals simp

/-- The block of activations. -/
theorem x_blk (c : Dev nD) (t : Fin cfg0.N) (r : Fin 256) (k : Fin 1024) : View.ld (Val := Elt Ideal) (e' := .f32) (iblk m c 0 t) r0_2 (ix2 r k) = m (c.tc.loc main_arg0) (ix3 ⟨(rowOf t r).val / 4096, by have := (rowOf t r).isLt; omega⟩ ⟨(rowOf t r).val % 4096, by omega⟩ k) := by
  have h : iblk m c 0 t (ix2 r k) = V m c main_v2 (ix2 (rowOf t r) k) := by
    have := t_lt t
    unfold iblk
    generalize V m c main_v2 = W
    blk_ext [idx t, rowOf]
  refine Eq.trans ?_ (h.trans (V2 m c _ k))
  generalize iblk m c 0 t = x
  blk_ext [View.ld]
  all_goals simp

/-- The gates of the residual for the block's sequence. -/
theorem gt_blk (c : Dev nD) (t : Fin cfg0.N) (k : Fin 1024) : View.ld (Val := Elt Ideal) (e' := .f32) (iblk m c 5 t) r0_4 (ix3 0 0 k) = m (c.tc.loc main_arg5) (ix2 ⟨t.val / 16, by have := t_lt t; omega⟩ ⟨2048 + k.val, by omega⟩) := by
  have h : iblk m c 5 t (ix3 0 0 k) = V m c main_v1 (ix3 ⟨t.val / 16, by have := t_lt t; omega⟩ 0 ⟨2048 + k.val, by omega⟩) := by
    have := t_lt t
    unfold iblk
    generalize V m c main_v1 = W
    blk_ext [idx t]
  refine Eq.trans ?_ (h.trans (V1 m c _ _))
  generalize iblk m c 5 t = x
  blk_ext [View.ld]
  all_goals simp

/-- The shifts of the block's sequence. -/
theorem sh_blk (c : Dev nD) (t : Fin cfg0.N) (k : Fin 1024) : View.ld (Val := Elt Ideal) (e' := .f32) (iblk m c 6 t) r0_4 (ix3 0 0 k) = m (c.tc.loc main_arg5) (ix2 ⟨t.val / 16, by have := t_lt t; omega⟩ ⟨3072 + k.val, by omega⟩) := by
  have h : iblk m c 6 t (ix3 0 0 k) = V m c main_v1 (ix3 ⟨t.val / 16, by have := t_lt t; omega⟩ 0 ⟨3072 + k.val, by omega⟩) := by
    have := t_lt t
    unfold iblk
    generalize V m c main_v1 = W
    blk_ext [idx t]
  refine Eq.trans ?_ (h.trans (V1 m c _ _))
  generalize iblk m c 6 t = x
  blk_ext [View.ld]
  all_goals simp

/-- The scales of the block's sequence. -/
theorem sc_blk (c : Dev nD) (t : Fin cfg0.N) (k : Fin 1024) : View.ld (Val := Elt Ideal) (e' := .f32) (iblk m c 7 t) r0_4 (ix3 0 0 k) = m (c.tc.loc main_arg5) (ix2 ⟨t.val / 16, by have := t_lt t; omega⟩ ⟨4096 + k.val, by omega⟩) := by
  have h : iblk m c 7 t (ix3 0 0 k) = V m c main_v1 (ix3 ⟨t.val / 16, by have := t_lt t; omega⟩ 0 ⟨4096 + k.val, by omega⟩) := by
    have := t_lt t
    unfold iblk
    generalize V m c main_v1 = W
    blk_ext [idx t]
  refine Eq.trans ?_ (h.trans (V1 m c _ _))
  generalize iblk m c 7 t = x
  blk_ext [View.ld]
  all_goals simp

/-- The gain after the mixing, whole. -/
theorem g1_blk (c : Dev nD) (t : Fin cfg0.N) (k : Fin 1024) : View.ld (Val := Elt Ideal) (e' := .f32) (iblk m c 8 t) r0_5 (ix2 0 k) = m (c.tc.loc main_arg6) (ix1 k) := by
  have h : iblk m c 8 t (ix2 0 k) = V m c main_v3 (ix2 0 k) := by
    have := t_lt t
    unfold iblk
    generalize V m c main_v3 = W
    blk_ext [idx t]
  refine Eq.trans ?_ (h.trans (V3 m c k))
  generalize iblk m c 8 t = x
  blk_ext [View.ld]
  all_goals simp

/-- The gain before the next part, whole. -/
theorem g2_blk (c : Dev nD) (t : Fin cfg0.N) (k : Fin 1024) : View.ld (Val := Elt Ideal) (e' := .f32) (iblk m c 9 t) r0_5 (ix2 0 k) = m (c.tc.loc main_arg7) (ix1 k) := by
  have h : iblk m c 9 t (ix2 0 k) = V m c main_v4 (ix2 0 k) := by
    have := t_lt t
    unfold iblk
    generalize V m c main_v4 = W
    blk_ext [idx t]
  refine Eq.trans ?_ (h.trans (V4 m c k))
  generalize iblk m c 9 t = x
  blk_ext [View.ld]
  all_goals simp

/-- The attention's weights, whole. -/
theorem wa_blk (c : Dev nD) (t : Fin cfg0.N) (i : Fin 512) (k : Fin 1024) : View.ld (Val := Elt Ideal) (e' := .bf16) (iblk m c 10 t) r0_1 (ix2 i k) = m (c.tc.loc main_arg8) (ix2 i k) := by
  have h : iblk m c 10 t (ix2 i k) = V m c main_v5 (ix2 i k) := by
    have := t_lt t
    unfold iblk
    generalize V m c main_v5 = W
    blk_ext [idx t]
  refine Eq.trans ?_ (h.trans (V5 m c i k))
  generalize iblk m c 10 t = x
  blk_ext [View.ld]
  all_goals simp

/-- The delta rule's weights, whole. -/
theorem wd_blk (c : Dev nD) (t : Fin cfg0.N) (i : Fin 512) (k : Fin 1024) : View.ld (Val := Elt Ideal) (e' := .bf16) (iblk m c 11 t) r0_1 (ix2 i k) = m (c.tc.loc main_arg9) (ix2 i k) := by
  have h : iblk m c 11 t (ix2 i k) = V m c main_v6 (ix2 i k) := by
    have := t_lt t
    unfold iblk
    generalize V m c main_v6 = W
    blk_ext [idx t]
  refine Eq.trans ?_ (h.trans (V6 m c i k))
  generalize iblk m c 11 t = x
  blk_ext [View.ld]
  all_goals simp

/-- The mixing weights, whole. -/
theorem wo_blk (c : Dev nD) (t : Fin cfg0.N) (i : Fin 1024) (k : Fin 1024) : View.ld (Val := Elt Ideal) (e' := .bf16) (iblk m c 12 t) r0_3 (ix2 i k) = m (c.tc.loc main_arg10) (ix2 i k) := by
  have h : iblk m c 12 t (ix2 i k) = V m c main_v7 (ix2 i k) := by
    have := t_lt t
    unfold iblk
    generalize V m c main_v7 = W
    blk_ext [idx t]
  refine Eq.trans ?_ (h.trans (V7 m c i k))
  generalize iblk m c 12 t = x
  blk_ext [View.ld]
  all_goals simp

end Cert.Kernel3Ideal.Out
-- ==== Proof.OutFinal.lean ====
module

public import proofs.«01_k».proof.Proof.Gen.Kernel3Ideal.Frame
public import Idealize.ShloMosaic.Lib.Pipeline.ValueKit
public import Idealize.ShloMosaic.Lib.Claim
public import Idealize.ShloMosaic.Lib.StableHlo.ReadAt
public import proofs.«01_k».proof.Proof.OutSpec
public import proofs.«01_k».proof.Proof.OutValue

@[expose] public section

set_option maxRecDepth 16384

noncomputable section

open Idealize.ShloMosaic Idealize.ShloMosaic.TcCoe Idealize.SL.Sem
open Idealize.ShloMosaic.Pipeline (Dat)

namespace Cert.Kernel3Ideal.Out
open Cert.Kernel3Ideal Cert.Kernel3Ideal.Gen Cert.OutSpec Cert.InSpec

variable (m : (ℓ : Loc nD τ sig) → Buf (Elt Ideal) ℓ)

/-- The mixed row of a block: the merged branches against the mixing weights. -/
theorem pay3_at (oa : FVec Ideal S256x512 .f32) (wa : FVec Ideal S512x1024 .bf16) (od : FVec Ideal S256x512 .f32) (wd : FVec Ideal S512x1024 .bf16)
    (ga gb : FVec Ideal S256x1024 .f32) (wo : FVec Ideal S1024x1024 .bf16) (r : Fin 256) (k : Fin 1024) :
    k0_pay3 (F := Ideal) oa wa od wd ga gb wo (ix2 r k)
      = ∑ j, merged (fun i => oa (ix2 r i)) (fun i => od (ix2 r i)) (ga (ix2 r j)) (gb (ix2 r j)) (fun i => wa (ix2 i j)) (fun i => wd (ix2 i j)) * wo (ix2 j k) := by
  pointwise [k0_pay3, merged]

/-- The mean of the squares of a mixed row. -/
theorem pay7_at (oa : FVec Ideal S256x512 .f32) (wa : FVec Ideal S512x1024 .bf16) (od : FVec Ideal S256x512 .f32) (wd : FVec Ideal S512x1024 .bf16)
    (ga gb : FVec Ideal S256x1024 .f32) (wo : FVec Ideal S1024x1024 .bf16) (r : Fin 256) :
    k0_pay7 (F := Ideal) oa wa od wd ga gb wo (ix2 r 0)
      = Ideal.div (∑ j, k0_pay3 (F := Ideal) oa wa od wd ga gb wo (ix2 r j) * k0_pay3 (F := Ideal) oa wa od wd ga gb wo (ix2 r j)) (Ideal.ofBits FTy.f32 1149239296#32) := by
  unfold k0_pay7
  generalize k0_pay3 (F := Ideal) oa wa od wd ga gb wo = h
  pointwise

/-- The residual row of a block. -/
theorem pay1_at (mix x : FVec Ideal S256x1024 .f32) (gt g : FVec Ideal S1x1024 .f32) (ms : FVec Ideal S256x1 .f32) (r : Fin 256) (k : Fin 1024)
    (h : ms (ix2 r 0) = Ideal.div (∑ j, mix (ix2 r j) * mix (ix2 r j)) (Ideal.ofBits FTy.f32 1149239296#32)) :
    k0_pay1 (F := Ideal) mix x gt g ms (Scalar.ofBits .f32 0x358637BD#32) (ix2 r k)
      = resid (fun j => x (ix2 r j)) (fun j => gt (ix2 0 j)) (fun j => mix (ix2 r j)) (fun j => g (ix2 0 j)) k := by
  unfold resid
  rw [← h]
  pointwise [k0_pay1]

/-- The next part's row of a block, of the residual row. -/
theorem pay2_at (mix x : FVec Ideal S256x1024 .f32) (gt g : FVec Ideal S1x1024 .f32) (ms : FVec Ideal S256x1 .f32) (e : EReal) (g2 : FVec Ideal S1x1024 .f32)
    (sc sh : FVec Ideal S1x1x1024 .f32) (r : Fin 256) (k : Fin 1024) :
    k0_pay2 (F := Ideal) mix x gt g ms e g2 sc sh (ix2 r k)
      = normed (fun j => k0_pay1 (F := Ideal) mix x gt g ms e (ix2 r j)) (fun j => g2 (ix2 0 j)) (fun j => sc (ix3 0 0 j)) (fun j => sh (ix3 0 0 j)) k := by
  unfold k0_pay2
  generalize k0_pay1 (F := Ideal) mix x gt g ms e = h
  pointwise [normed]

theorem pay4_at (x : FVec Ideal S256x1024 .f32) (r : Fin 256) (k : Fin 1024) : k0_pay4 (F := Ideal) x (ix2 r k) = x (ix2 r k) := by
  pointwise [k0_pay4]
theorem pay5_at (x : FVec Ideal S1x1x1024 .f32) (k : Fin 1024) : k0_pay5 (F := Ideal) x (ix2 0 k) = x (ix3 0 0 k) := by
  pointwise [k0_pay5]
theorem pay6_at (x : FVec Ideal S1x1024 .f32) (k : Fin 1024) : k0_pay6 (F := Ideal) x (ix2 0 k) = x (ix2 0 k) := by
  pointwise [k0_pay6]

/-- A mixed row, of the arguments. -/
def mixA (c : Dev nD) (R : Fin 32768) (k : Fin 1024) : EReal :=
  ∑ j, merged (fun i => m (c.tc.loc main_arg1) (ix2 R i)) (fun i => m (c.tc.loc main_arg2) (ix2 R i)) (m (c.tc.loc main_arg3) (ix2 R j)) (m (c.tc.loc main_arg4) (ix2 R j))
      (fun i => m (c.tc.loc main_arg8) (ix2 i j)) (fun i => m (c.tc.loc main_arg9) (ix2 i j)) * m (c.tc.loc main_arg10) (ix2 j k)

/-- A residual row, of the arguments. -/
def x1A (c : Dev nD) (R : Fin 32768) (k : Fin 1024) : EReal :=
  resid (fun j => m (c.tc.loc main_arg0) (ix3 ⟨R.val / 4096, by omega⟩ ⟨R.val % 4096, by omega⟩ j)) (fun j => m (c.tc.loc main_arg5) (ix2 ⟨R.val / 4096, by omega⟩ ⟨2048 + j.val, by omega⟩))
    (mixA m c R) (fun j => m (c.tc.loc main_arg6) (ix1 j)) k

/-- A row for the next part, of the arguments. -/
def h2A (c : Dev nD) (R : Fin 32768) (k : Fin 1024) : EReal :=
  normed (x1A m c R) (fun j => m (c.tc.loc main_arg7) (ix1 j)) (fun j => m (c.tc.loc main_arg5) (ix2 ⟨R.val / 4096, by omega⟩ ⟨4096 + j.val, by omega⟩))
    (fun j => m (c.tc.loc main_arg5) (ix2 ⟨R.val / 4096, by omega⟩ ⟨3072 + j.val, by omega⟩)) k

/-- The block's mixed rows are the arguments'. -/
theorem mix_at (c : Dev nD) (t : Fin cfg0.N) (r : Fin 256) (k : Fin 1024) :
    k0_pay3 (F := Ideal) (View.ld (iblk m c 1 t) r0_0) (View.ld (iblk m c 10 t) r0_1) (View.ld (iblk m c 2 t) r0_0) (View.ld (iblk m c 11 t) r0_1) (View.ld (iblk m c 3 t) r0_2) (View.ld (iblk m c 4 t) r0_2) (View.ld (iblk m c 12 t) r0_3) (ix2 r k)
      = mixA m c (rowOf t r) k := by
  refine (pay3_at ..).trans ?_
  unfold mixA
  refine Finset.sum_congr rfl fun j _ => congrArg₂ (· * ·) ?_ (wo_blk m c t j k)
  congr 1
  · funext i; exact oa_blk m c t r i
  · funext i; exact od_blk m c t r i
  · exact ga_blk m c t r j
  · exact gb_blk m c t r j
  · funext i; exact wa_blk m c t i j
  · funext i; exact wd_blk m c t i j

/-- What one grid point leaves in the residual's block. -/
theorem x1_at (c : Dev nD) (t : Fin cfg0.N) (r : Fin 256) (k : Fin 1024) :
    k0_pay1 (F := Ideal)
      (k0_pay3 (View.ld (iblk m c 1 t) r0_0) (View.ld (iblk m c 10 t) r0_1) (View.ld (iblk m c 2 t) r0_0) (View.ld (iblk m c 11 t) r0_1) (View.ld (iblk m c 3 t) r0_2) (View.ld (iblk m c 4 t) r0_2) (View.ld (iblk m c 12 t) r0_3))
      (k0_pay4 (View.ld (iblk m c 0 t) r0_2)) (k0_pay5 (View.ld (iblk m c 5 t) r0_4)) (k0_pay6 (View.ld (iblk m c 8 t) r0_5))
      (k0_pay7 (View.ld (iblk m c 1 t) r0_0) (View.ld (iblk m c 10 t) r0_1) (View.ld (iblk m c 2 t) r0_0) (View.ld (iblk m c 11 t) r0_1) (View.ld (iblk m c 3 t) r0_2) (View.ld (iblk m c 4 t) r0_2) (View.ld (iblk m c 12 t) r0_3))
      (Scalar.ofBits .f32 0x358637BD#32) (ix2 r k)
      = x1A m c (rowOf t r) k := by
  have hb : (rowOf t r).val / 4096 = t.val / 16 := by unfold rowOf; dsimp only; omega
  refine (pay1_at _ _ _ _ _ r k (pay7_at ..)).trans ?_
  unfold x1A
  congr 1
  · funext j; exact (pay4_at ..).trans (x_blk m c t r j)
  · funext j; refine (pay5_at ..).trans ((gt_blk m c t j).trans ?_); simp only [hb]
  · funext j; exact mix_at m c t r j
  · funext j; exact (pay6_at ..).trans (g1_blk m c t j)

/-- The residual, as an array. -/
def res13 (c : Dev nD) (i : S32768x1024.Idx) : EReal := x1A m c (i 0) (i 1)

/-- The next part's rows, as an array. -/
def res14 (c : Dev nD) (i : S32768x1024.Idx) : EReal := h2A m c (i 0) (i 1)

theorem final13 (c : Dev nD) : (dats m 0 c).arrAt 13 cfg0.N = res13 m c := by
  refine (dats m 0 c).arrAt_eq_of_covers 13 _ (by decide +kernel) fun t hf y => ?_
  have e0 : ((((View.whole main_v8_0).slice (win0_13.rect t)).emb y) 0 : ℕ) = 256 * t.val + (y 0).val := by
    blk_simp [idx t]; omega
  have e1 : ((((View.whole main_v8_0).slice (win0_13.rect t)).emb y) 1 : ℕ) = (y 1).val := by
    blk_simp [idx t]
  blk_simp
  rw [after0_13]
  unfold_out out0_13
  generalize hi : ((View.whole main_v8_0).slice (win0_13.rect t)).emb y = i at e0 e1 ⊢
  canon_tiles x h
  all_goals idx_vars x
  refine (x1_at m c t _ _).trans ?_
  unfold res13
  exact congrArg₂ (x1A m c) (Fin.ext (by rw [e0, h0]; rfl)) (Fin.ext (by rw [e1, h1]))

theorem final14 (c : Dev nD) : (dats m 0 c).arrAt 14 cfg0.N = res14 m c := by
  refine (dats m 0 c).arrAt_eq_of_covers 14 _ (by decide +kernel) fun t hf y => ?_
  have e0 : ((((View.whole main_v8_1).slice (win0_14.rect t)).emb y) 0 : ℕ) = 256 * t.val + (y 0).val := by
    blk_simp [idx t]; omega
  have e1 : ((((View.whole main_v8_1).slice (win0_14.rect t)).emb y) 1 : ℕ) = (y 1).val := by
    blk_simp [idx t]
  blk_simp
  rw [after0_14]
  unfold_out out0_14
  generalize hi : ((View.whole main_v8_1).slice (win0_14.rect t)).emb y = i at e0 e1 ⊢
  canon_tiles x h
  all_goals idx_vars x
  refine (pay2_at ..).trans ?_
  have hb : ∀ r, (rowOf t r).val / 4096 = t.val / 16 := fun r => by unfold rowOf; dsimp only; omega
  refine Eq.trans (b := h2A m c (rowOf t _) _) ?_ (congrArg₂ (h2A m c) (Fin.ext (by rw [e0, h0]; rfl)) (Fin.ext (by rw [e1, h1])))
  unfold h2A
  congr 1
  · funext j; exact x1_at m c t _ j
  · funext j; exact g2_blk m c t j
  · funext j; refine (sc_blk m c t j).trans ?_; simp only [hb]
  · funext j; refine (sh_blk m c t j).trans ?_; simp only [hb]

end Cert.Kernel3Ideal.Out
-- ==== Proof.OutRef.lean ====
module

public import proofs.«01_k».proof.Proof.Gen.Reference3Ideal.Read
public import Idealize.ShloMosaic.Lib.Pointwise
public import proofs.«01_k».proof.Proof.OutSpec

@[expose] public section

set_option maxRecDepth 16384

noncomputable section

open Idealize.ShloMosaic Idealize.ShloMosaic.TcCoe Idealize.SL.Sem
namespace Cert.Reference3Ideal.Stage
open Cert.Reference3Ideal Cert.Reference3Ideal.Gen Cert.Reference3Ideal.Read Cert.OutSpec Cert.InSpec

variable (X : FVec Ideal S8x4096x1024 .f32) (oa od : FVec Ideal S32768x512 .f32) (ga gb : FVec Ideal S32768x1024 .f32) (A : FVec Ideal S136x6144 .f32)
  (g1 g2 : FVec Ideal S1024 .f32) (wa wd : FVec Ideal S512x1024 .f32) (wo : FVec Ideal S1024x1024 .f32)

/-- The row of the flat arrays which a position of a sequence is. -/
def flat (b : Fin 8) (r : Fin 4096) : Fin 32768 := ⟨b.val * 4096 + r.val, by omega⟩

/-- The reference's merged branches. -/
theorem merged_at (b : Fin 8) (r : Fin 4096) (j : Fin 1024) :
    val_main_v33 (F := Ideal) oa od ga gb wa wd (ix3 b r j)
      = merged (fun i => oa (ix2 (flat b r) i)) (fun i => od (ix2 (flat b r) i)) (ga (ix2 (flat b r) j)) (gb (ix2 (flat b r) j)) (fun i => wa (ix2 i j)) (fun i => wd (ix2 i j)) := by
  pointwise [val_main_v33, val_main_v32, val_main_v31, val_main_v30, val_main_v29, val_main_v28, val_main_v27, val_main_v26, val_main_v25, val_main_v24, val_main_v23, val_main_v22, val_main_v21, val_main_v20, val_main_v19, val_main_v18, val_main_v17, val_main_v16, val_main_v15, val_main_v14, val_main_v13, val_main_cst, val_main_cst_0, val_main_cst_1, val_main_cst_2, merged, flat, Ideal.logistic]

/-- The reference's mixed row. -/
theorem mix_at (b : Fin 8) (r : Fin 4096) (k : Fin 1024) :
    val_main_v34 (F := Ideal) oa od ga gb wa wd wo (ix3 b r k) = ∑ j, val_main_v33 (F := Ideal) oa od ga gb wa wd (ix3 b r j) * wo (ix2 j k) := by
  unfold val_main_v34
  generalize val_main_v33 (F := Ideal) oa od ga gb wa wd = h
  pointwise

/-- The reference's residual row. -/
theorem resid_at (b : Fin 8) (r : Fin 4096) (k : Fin 1024) :
    val_main_v50 (F := Ideal) X oa od ga gb A g1 wa wd wo (ix3 b r k)
      = resid (fun j => X (ix3 b r j)) (fun j => A (ix2 ⟨b.val, by omega⟩ ⟨2048 + j.val, by omega⟩))
          (fun j => val_main_v34 (F := Ideal) oa od ga gb wa wd wo (ix3 b r j)) (fun j => g1 (ix1 j)) k := by
  unfold val_main_v50 val_main_v49 val_main_v48 val_main_v47 val_main_v46 val_main_v45 val_main_v44 val_main_v43 val_main_v42 val_main_v41 val_main_v40 val_main_v39 val_main_v38 val_main_v37 val_main_v36 val_main_v35 val_main_v9 val_main_v3 val_main_v0 val_main_cst_3 val_main_cst_4 val_main_cst_5
  generalize val_main_v34 (F := Ideal) oa od ga gb wa wd wo = h
  pointwise [resid]

/-- The reference's row for the next part. -/
theorem next_at (b : Fin 8) (r : Fin 4096) (k : Fin 1024) :
    val_main_v69 (F := Ideal) X oa od ga gb A g1 g2 wa wd wo (ix3 b r k)
      = normed (fun j => val_main_v50 (F := Ideal) X oa od ga gb A g1 wa wd wo (ix3 b r j)) (fun j => g2 (ix1 j))
          (fun j => A (ix2 ⟨b.val, by omega⟩ ⟨4096 + j.val, by omega⟩)) (fun j => A (ix2 ⟨b.val, by omega⟩ ⟨3072 + j.val, by omega⟩)) k := by
  unfold val_main_v69 val_main_v68 val_main_v67 val_main_v66 val_main_v65 val_main_v64 val_main_v63 val_main_v62 val_main_v61 val_main_v60 val_main_v59 val_main_v58 val_main_v57 val_main_v56 val_main_v55 val_main_v54 val_main_v53 val_main_v52 val_main_v51 val_main_v10 val_main_v11 val_main_v4 val_main_v5 val_main_v0 val_main_cst_6 val_main_cst_7 val_main_cst_8 val_main_cst_9
  generalize val_main_v50 (F := Ideal) X oa od ga gb A g1 wa wd wo = h
  pointwise [normed]

theorem v70_at (R : Fin 32768) (k : Fin 1024) : val_main_v70 (F := Ideal) X oa od ga gb A g1 wa wd wo (ix2 R k)
    = val_main_v50 (F := Ideal) X oa od ga gb A g1 wa wd wo (ix3 ⟨R.val / 4096, by omega⟩ ⟨R.val % 4096, by omega⟩ k) := by
  unfold val_main_v70
  generalize val_main_v50 (F := Ideal) X oa od ga gb A g1 wa wd wo = h
  pointwise

theorem v71_at (R : Fin 32768) (k : Fin 1024) : val_main_v71 (F := Ideal) X oa od ga gb A g1 g2 wa wd wo (ix2 R k)
    = val_main_v69 (F := Ideal) X oa od ga gb A g1 g2 wa wd wo (ix3 ⟨R.val / 4096, by omega⟩ ⟨R.val % 4096, by omega⟩ k) := by
  unfold val_main_v71
  generalize val_main_v69 (F := Ideal) X oa od ga gb A g1 g2 wa wd wo = h
  pointwise

end Cert.Reference3Ideal.Stage
-- ==== Proof.OutJoin.lean ====
module

public import proofs.«01_k».proof.Proof.OutFinal
public import proofs.«01_k».proof.Proof.OutRef

@[expose] public section

set_option maxRecDepth 16384

noncomputable section

open Idealize.ShloMosaic Idealize.ShloMosaic.TcCoe Idealize.SL.Sem
open Idealize.ShloMosaic.Pipeline (Dat)

namespace Cert.Kernel3Ideal.Out
open Cert.Kernel3Ideal Cert.Kernel3Ideal.Gen Cert.OutSpec Cert.InSpec Cert.Reference3Ideal.Read Cert.Reference3Ideal.Stage

variable (m : (ℓ : Loc nD τ sig) → Buf (Elt Ideal) ℓ)

/-- A flat row is the row of its sequence and position. -/
theorem flat_eq (R : Fin 32768) : flat ⟨R.val / 4096, by omega⟩ ⟨R.val % 4096, by omega⟩ = R := Fin.ext (by unfold flat; dsimp only; omega)

/-- The mixed rows are the reference's. -/
theorem mixA_eq (c : Dev nD) (R : Fin 32768) (k : Fin 1024) : mixA m c R k
    = val_main_v34 (F := Ideal) (m (c.tc.loc main_arg1)) (m (c.tc.loc main_arg2)) (m (c.tc.loc main_arg3)) (m (c.tc.loc main_arg4)) (m (c.tc.loc main_arg8)) (m (c.tc.loc main_arg9)) (m (c.tc.loc main_arg10)) (ix3 ⟨R.val / 4096, by omega⟩ ⟨R.val % 4096, by omega⟩ k) := by
  refine Eq.trans ?_ (Cert.Reference3Ideal.Stage.mix_at ..).symm
  unfold mixA
  refine Finset.sum_congr rfl fun j _ => congrArg (· * _) (Eq.trans ?_ (merged_at ..).symm)
  simp only [flat_eq]

/-- The residual rows are the reference's. -/
theorem x1A_eq (c : Dev nD) (R : Fin 32768) (k : Fin 1024) : x1A m c R k
    = val_main_v50 (F := Ideal) (m (c.tc.loc main_arg0)) (m (c.tc.loc main_arg1)) (m (c.tc.loc main_arg2)) (m (c.tc.loc main_arg3)) (m (c.tc.loc main_arg4)) (m (c.tc.loc main_arg5)) (m (c.tc.loc main_arg6)) (m (c.tc.loc main_arg8)) (m (c.tc.loc main_arg9)) (m (c.tc.loc main_arg10)) (ix3 ⟨R.val / 4096, by omega⟩ ⟨R.val % 4096, by omega⟩ k) := by
  refine Eq.trans ?_ (resid_at ..).symm
  unfold x1A
  refine congrArg (fun f => resid _ _ f _ k) (funext fun j => mixA_eq m c R j)

/-- The rows for the next part are the reference's. -/
theorem h2A_eq (c : Dev nD) (R : Fin 32768) (k : Fin 1024) : h2A m c R k
    = val_main_v69 (F := Ideal) (m (c.tc.loc main_arg0)) (m (c.tc.loc main_arg1)) (m (c.tc.loc main_arg2)) (m (c.tc.loc main_arg3)) (m (c.tc.loc main_arg4)) (m (c.tc.loc main_arg5)) (m (c.tc.loc main_arg6)) (m (c.tc.loc main_arg7)) (m (c.tc.loc main_arg8)) (m (c.tc.loc main_arg9)) (m (c.tc.loc main_arg10)) (ix3 ⟨R.val / 4096, by omega⟩ ⟨R.val % 4096, by omega⟩ k) := by
  refine Eq.trans ?_ (next_at ..).symm
  unfold h2A
  refine congrArg (fun f => normed f _ _ _ k) (funext fun j => x1A_eq m c R j)

theorem arr13 (c : Dev nD) : (dats m 0 c).arrAt 13 cfg0.N = val_main_v70 (F := Ideal) (m (c.tc.loc main_arg0)) (m (c.tc.loc main_arg1)) (m (c.tc.loc main_arg2)) (m (c.tc.loc main_arg3)) (m (c.tc.loc main_arg4)) (m (c.tc.loc main_arg5)) (m (c.tc.loc main_arg6)) (m (c.tc.loc main_arg8)) (m (c.tc.loc main_arg9)) (m (c.tc.loc main_arg10)) := by
  rw [final13]
  funext i
  idx_vars i
  exact (x1A_eq ..).trans (v70_at ..).symm

theorem arr14 (c : Dev nD) : (dats m 0 c).arrAt 14 cfg0.N = val_main_v71 (F := Ideal) (m (c.tc.loc main_arg0)) (m (c.tc.loc main_arg1)) (m (c.tc.loc main_arg2)) (m (c.tc.loc main_arg3)) (m (c.tc.loc main_arg4)) (m (c.tc.loc main_arg5)) (m (c.tc.loc main_arg6)) (m (c.tc.loc main_arg7)) (m (c.tc.loc main_arg8)) (m (c.tc.loc main_arg9)) (m (c.tc.loc main_arg10)) := by
  rw [final14]
  funext i
  idx_vars i
  exact (h2A_eq ..).trans (v71_at ..).symm

/-- The kernel's run: each result is the reference's, of the same arguments, which are left as they were. -/
theorem run (ρ : Dev nD → PrngReg) : θ_run defs (onTc (τ := τ) (main (F := Ideal))) ⟨m, fun _ => 0, ρ⟩ fun r => ∀ c : Dev nD,
      r.2.mem (c.tc.loc main_v8_0) = val_main_v70 (F := Ideal) (m (c.tc.loc main_arg0)) (m (c.tc.loc main_arg1)) (m (c.tc.loc main_arg2)) (m (c.tc.loc main_arg3)) (m (c.tc.loc main_arg4)) (m (c.tc.loc main_arg5)) (m (c.tc.loc main_arg6)) (m (c.tc.loc main_arg8)) (m (c.tc.loc main_arg9)) (m (c.tc.loc main_arg10))
      ∧ r.2.mem (c.tc.loc main_v8_1) = val_main_v71 (F := Ideal) (m (c.tc.loc main_arg0)) (m (c.tc.loc main_arg1)) (m (c.tc.loc main_arg2)) (m (c.tc.loc main_arg3)) (m (c.tc.loc main_arg4)) (m (c.tc.loc main_arg5)) (m (c.tc.loc main_arg6)) (m (c.tc.loc main_arg7)) (m (c.tc.loc main_arg8)) (m (c.tc.loc main_arg9)) (m (c.tc.loc main_arg10))
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3)
      ∧ r.2.mem (c.tc.loc main_arg4) = m (c.tc.loc main_arg4)
      ∧ r.2.mem (c.tc.loc main_arg5) = m (c.tc.loc main_arg5)
      ∧ r.2.mem (c.tc.loc main_arg6) = m (c.tc.loc main_arg6)
      ∧ r.2.mem (c.tc.loc main_arg7) = m (c.tc.loc main_arg7)
      ∧ r.2.mem (c.tc.loc main_arg8) = m (c.tc.loc main_arg8)
      ∧ r.2.mem (c.tc.loc main_arg9) = m (c.tc.loc main_arg9)
      ∧ r.2.mem (c.tc.loc main_arg10) = m (c.tc.loc main_arg10) :=
  (θ_run defs _ _).mono (fun r h c => ⟨((h c).1 13).trans (arr13 m c),
      ((h c).1 14).trans (arr14 m c),
      ((h c).2 main_arg0 (Pipeline.mem_restRefs_of main_arg0 (by decide) (by decide))).trans (V_main_arg0 m c),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c))),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c)⟩) (run_main m ρ)

end Cert.Kernel3Ideal.Out
-- ==== Proof.lean ====
module

public import proofs.«01_k».proof.Proof.Gen.Pre_finite7
public import proofs.«01_k».proof.Proof.Gen.KernelIdeal.Value
public import proofs.«01_k».proof.Proof.Gen.ReferenceIdeal.Run
public import proofs.«01_k».proof.Proof.Gen.ReferenceIdeal.Read
public import proofs.«01_k».proof.Proof.SwaFinal
public import proofs.«01_k».proof.Proof.InJoin
public import proofs.«01_k».proof.Proof.SmpJoin
public import proofs.«01_k».proof.Proof.AdaJoin
public import proofs.«01_k».proof.Proof.SasJoin
public import proofs.«01_k».proof.Proof.OusJoin
public import proofs.«01_k».proof.Proof.Gen.Kernel7
public import proofs.«01_k».proof.Proof.Gen.Kernel7.Frame
public import proofs.«01_k».proof.Proof.Gen.Kernel7Ideal
public import proofs.«01_k».proof.Proof.Gen.Kernel7Ideal.Frame
public import proofs.«01_k».proof.Proof.Gen.Reference7Ideal
public import proofs.«01_k».proof.Proof.Gen.Reference7Ideal.Run
public import proofs.«01_k».proof.Proof.Gen.Reference7Ideal.Read
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Frame
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Reference4Ideal
public import proofs.«01_k».proof.Proof.Gen.Reference4Ideal.Run
public import proofs.«01_k».proof.Proof.Gen.Reference4Ideal.Read
public import proofs.«01_k».proof.Proof.OutJoin
public import proofs.«01_k».proof.Proof.Gen.Kernel2
public import proofs.«01_k».proof.Proof.Gen.Kernel2Ideal
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel2Ideal.Frame
public import proofs.«01_k».proof.Proof.Gen.Kernel2.Frame
public import proofs.«01_k».proof.Proof.Gen.Kernel3
public import proofs.«01_k».proof.Proof.Gen.Kernel3Ideal
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel3Ideal.Frame
public import proofs.«01_k».proof.Proof.Gen.Kernel3.Frame
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import Idealize.ShloMosaic.Adequacy
public import Idealize.ShloMosaic.Init

@[expose] public section

noncomputable section

namespace Cert.Proof

open Idealize.ShloMosaic Idealize.SL.Sem Cert.Kernel

/-- Over the reals the kernel's attention and the reference's return the same array. -/
theorem algebraic : Cert.algebraic_KernelIdeal_ReferenceIdeal := by
  pair_intro
  · run_from Cert.KernelIdeal.Gen.run_main m g
    exact Cert.KernelIdeal.Gen.V_main_arg2 m c
  · run_from Cert.ReferenceIdeal.Value.run m' g'
    rw [Cert.ReferenceIdeal.Read.val_main_v110_eq, (hagree c).1, (hagree c).2.1, (hagree c).2.2]
    exact (Cert.KernelIdeal.Swa.final m c).symm

/-- The reference ends, faults nowhere, and leaves its arguments and the counters as they were. -/
theorem frame_reference : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run m g)

/-- Over the reals the projection's results are the reference's. -/
theorem algebraic2 : Cert.algebraic_Kernel2Ideal_Reference2Ideal := by
  pair_intro
  · run_from Cert.Kernel2Ideal.In.run m g
  · refine (θ_run Cert.Reference2Ideal.defs _ _).mono (fun r h c => ?_) (Cert.Reference2Ideal.Value.run m' g')
    obtain ⟨h0, h1, h2, h3, h4, h5, h6, h7, h8, hargs⟩ := h c
    obtain ⟨a0, a1, a2, a3⟩ := hagree c
    refine ⟨h0.trans ?_, h1.trans ?_, h2.trans ?_, h3.trans ?_, h4.trans ?_, h5.trans ?_, h6.trans ?_, h7.trans ?_, h8.trans ?_, hargs⟩
    · rw [Cert.Reference2Ideal.Read.val_main_v44_eq, a0, a1, a2, a3]
    · rw [Cert.Reference2Ideal.Read.val_main_v45_eq, a0, a1, a2, a3]
    · rw [Cert.Reference2Ideal.Read.val_main_v48_eq, a0, a1, a2, a3]
    · rw [Cert.Reference2Ideal.Read.val_main_v50_eq, a0, a1, a2, a3]
    · rw [Cert.Reference2Ideal.Read.val_main_v51_eq, a0, a1, a2, a3]
    · rw [Cert.Reference2Ideal.Read.val_main_v53_eq, a0, a1, a2, a3]
    · rw [Cert.Reference2Ideal.Read.val_main_v54_eq, a0, a1, a2, a3]
    · rw [Cert.Reference2Ideal.Read.val_main_v55_eq, a0, a1, a2, a3]
    · rw [Cert.Reference2Ideal.Read.val_main_v56_eq, a0, a1, a2, a3]

/-- The projection's reference ends, faults nowhere, and leaves its arguments and the counters as they were. -/
theorem frame_reference2 : Cert.quiescent_Reference2Ideal := fun m g _ =>
  (θ_run Cert.Reference2Ideal.defs _ _).mono (fun r h => ⟨fun c => (h c).2.2.2.2.2.2.2.2.2, sem_eq_zero_of_no_sems (by decide) r.2⟩)
    (Cert.Reference2Ideal.Value.run m g)

/-- Over the reals the output projection's results are the reference's. -/
theorem algebraic3 : Cert.algebraic_Kernel3Ideal_Reference3Ideal := by
  pair_intro
  · run_from Cert.Kernel3Ideal.Out.run m g
  · run_from Cert.Reference3Ideal.Value.run m' g'
    all_goals obtain ⟨a0, a1, a2, a3, a4, a5, a6, a7, a8, a9, a10⟩ := hagree c
    · rw [Cert.Reference3Ideal.Read.val_main_v70_eq, a0, a1, a2, a3, a4, a5, a6, a8, a9, a10]
    · rw [Cert.Reference3Ideal.Read.val_main_v71_eq, a0, a1, a2, a3, a4, a5, a6, a7, a8, a9, a10]

/-- The output projection's reference ends, faults nowhere, and leaves its arguments and the counters as they were. -/
theorem frame_reference3 : Cert.quiescent_Reference3Ideal := fun m g _ =>
  (θ_run Cert.Reference3Ideal.defs _ _).mono (fun r h => ⟨fun c => (h c).2.2, sem_eq_zero_of_no_sems (by decide) r.2⟩)
    (Cert.Reference3Ideal.Value.run m g)

/-- Over the reals the results of the projection of the samples are the reference's. -/
theorem algebraic4 : Cert.algebraic_Kernel4Ideal_Reference4Ideal := by
  pair_intro
  · run_from Cert.Kernel4Ideal.Smp.run m g
  · refine (θ_run Cert.Reference4Ideal.defs _ _).mono (fun r h c => ?_) (Cert.Reference4Ideal.Value.run m' g')
    obtain ⟨h0, h1, h2, h3, h4, h5, h6, h7, h8, hargs⟩ := h c
    obtain ⟨a0, a1, a2, a3, a4, a5, a6⟩ := hagree c
    refine ⟨h0.trans ?_, h1.trans ?_, h2.trans ?_, h3.trans ?_, h4.trans ?_, h5.trans ?_, h6.trans ?_, h7.trans ?_, h8.trans ?_, hargs⟩
    · rw [Cert.Reference4Ideal.Read.val_main_v44_eq, a0, a1, a2, a3, a4]
    · rw [Cert.Reference4Ideal.Read.val_main_v45_eq, a0, a1, a2, a3, a5]
    · rw [Cert.Reference4Ideal.Read.val_main_v47_eq, a0, a1, a2, a3, a6]
    · rw [Cert.Reference4Ideal.Read.val_main_v49_eq, a0, a1, a2, a3]
    · rw [Cert.Reference4Ideal.Read.val_main_v50_eq, a0, a1, a2, a3]
    · rw [Cert.Reference4Ideal.Read.val_main_v52_eq, a0, a1, a2, a3]
    · rw [Cert.Reference4Ideal.Read.val_main_v53_eq, a0, a1, a2, a3]
    · rw [Cert.Reference4Ideal.Read.val_main_v54_eq, a0, a1, a2, a3]
    · rw [Cert.Reference4Ideal.Read.val_main_v55_eq, a0, a1, a2, a3]

/-- The reference of the projection of the samples ends, faults nowhere, and leaves its arguments and the counters as they were. -/
theorem frame_reference4 : Cert.quiescent_Reference4Ideal := fun m g _ =>
  (θ_run Cert.Reference4Ideal.defs _ _).mono (fun r h => ⟨fun c => (h c).2.2.2.2.2.2.2.2.2, sem_eq_zero_of_no_sems (by decide) r.2⟩)
    (Cert.Reference4Ideal.Value.run m g)

/-- Over the reals the results of the conditioning's projection are the reference's. -/
theorem algebraic5 : Cert.algebraic_Kernel5Ideal_Reference5Ideal := by
  pair_intro
  · run_from Cert.Kernel5Ideal.Ada.run m g
  · refine (θ_run Cert.Reference5Ideal.defs _ _).mono (fun r h c => ?_) (Cert.Reference5Ideal.Value.run m' g')
    obtain ⟨h0, h1, hargs⟩ := h c
    obtain ⟨a0, a1, a2, a3⟩ := hagree c
    refine ⟨h0.trans ?_, h1.trans ?_, hargs⟩
    · rw [Cert.Reference5Ideal.Read.val_main_v4_eq, a0, a2, a3]
    · rw [Cert.Reference5Ideal.Read.val_main_v9_eq, a1, a2, a3]

/-- The reference of the conditioning's projection ends, faults nowhere, and leaves its arguments and the counters as they were. -/
theorem frame_reference5 : Cert.quiescent_Reference5Ideal := fun m g _ =>
  (θ_run Cert.Reference5Ideal.defs _ _).mono (fun r h => ⟨fun c => (h c).2.2, sem_eq_zero_of_no_sems (by decide) r.2⟩)
    (Cert.Reference5Ideal.Value.run m g)

/-- Over the reals the output projection's results for the samples are the reference's. -/
theorem algebraic6 : Cert.algebraic_Kernel6Ideal_Reference6Ideal := by
  pair_intro
  · run_from Cert.Kernel6Ideal.Out.run m g
  · refine (θ_run Cert.Reference6Ideal.defs _ _).mono (fun r h c => ?_) (Cert.Reference6Ideal.Value.run m' g')
    obtain ⟨h0, h1, hargs⟩ := h c
    obtain ⟨a0, a1, a2, a3, a4, a5, a6, a7, a8, a9, a10⟩ := hagree c
    refine ⟨h0.trans ?_, h1.trans ?_, hargs⟩
    · rw [Cert.Reference6Ideal.Read.val_main_v67_eq, a0, a1, a2, a3, a4, a5, a6, a8, a9, a10]
    · rw [Cert.Reference6Ideal.Read.val_main_v68_eq, a0, a1, a2, a3, a4, a5, a6, a7, a8, a9, a10]

/-- The reference of the output projection of the samples ends, faults nowhere, and leaves its arguments and the counters as they were. -/
theorem frame_reference6 : Cert.quiescent_Reference6Ideal := fun m g _ =>
  (θ_run Cert.Reference6Ideal.defs _ _).mono (fun r h => ⟨fun c => (h c).2.2, sem_eq_zero_of_no_sems (by decide) r.2⟩)
    (Cert.Reference6Ideal.Value.run m g)

/-- Over the reals the attention over the samples is the reference's, where the queries, the keys in the window, the
    sinks and the table are finite. -/
theorem algebraic7 : Cert.algebraic_Kernel7Ideal_Reference7Ideal_pre_finite7 := by
  pair_intro
  · run_from Cert.Kernel7Ideal.Sas.run m g hpre
  · refine (θ_run Cert.Reference7Ideal.defs _ _).mono (fun r h c => ?_) (Cert.Reference7Ideal.Value.run m' g')
    obtain ⟨h0, hargs⟩ := h c
    obtain ⟨a0, a1, a2, a3, a4⟩ := hagree c
    refine ⟨h0.trans ?_, hargs⟩
    rw [Cert.Reference7Ideal.Read.val_main_v91_eq, a0, a1, a2, a3, a4]

/-- The reference of the attention over the samples ends, faults nowhere, and leaves its arguments and the counters as they were. -/
theorem frame_reference7 : Cert.quiescent_Reference7Ideal := fun m g _ =>
  (θ_run Cert.Reference7Ideal.defs _ _).mono (fun r h => ⟨fun c => (h c).2, sem_eq_zero_of_no_sems (by decide) r.2⟩)
    (Cert.Reference7Ideal.Value.run m g)

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts, Cert.Pre_finite7.Gen.facts,
  fun m ρ _ => Cert.Kernel.Gen.frame m ρ, fun m ρ _ => Cert.KernelIdeal.Gen.frame m ρ, frame_reference,
  fun m ρ _ => Cert.Kernel2.Gen.frame m ρ, fun m ρ _ => Cert.Kernel2Ideal.Gen.frame m ρ, frame_reference2,
  fun m ρ _ => Cert.Kernel3.Gen.frame m ρ, fun m ρ _ => Cert.Kernel3Ideal.Gen.frame m ρ, frame_reference3,
  fun m ρ _ => Cert.Kernel4.Gen.frame m ρ, fun m ρ _ => Cert.Kernel4Ideal.Gen.frame m ρ, frame_reference4,
  fun m ρ _ => Cert.Kernel5.Gen.frame m ρ, fun m ρ _ => Cert.Kernel5Ideal.Gen.frame m ρ, frame_reference5,
  fun m ρ _ => Cert.Kernel6.Gen.frame m ρ, fun m ρ _ => Cert.Kernel6Ideal.Gen.frame m ρ, frame_reference6,
  fun m ρ _ => Cert.Kernel7.Gen.frame m ρ, fun m ρ _ => Cert.Kernel7Ideal.Gen.frame m ρ, fun m ρ _ => Cert.Kernel7Ideal.Gen.frame m ρ, frame_reference7,
  fun m ρ _ => frame_reference7 m ρ trivial,
  trivial, algebraic, trivial, algebraic2, trivial, algebraic3, trivial, algebraic4, trivial, algebraic5, trivial, algebraic6,
  trivial, algebraic7⟩

end Cert.Proof

end
